-- ==== Defs.lean ====
def Pre_Attn [hPre_tables : Cert.Pre_tables.Facts] (m : (ℓ : Loc Cert.Attn.nD Cert.Attn.τ Cert.Attn.sig) → Buf (Elt Bits) ℓ) : Prop :=
  ∀ c : Dev Cert.Attn.nD,
    (Cert.Pre_tables.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).1 = (fun _ => 1#1)
    ∧ (Cert.Pre_tables.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.1 = (fun _ => 1#1)
    ∧ (Cert.Pre_tables.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.1 = (fun _ => 1#1)
    ∧ (Cert.Pre_tables.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.2 = (fun _ => 1#1)

def Pre_AttnIdeal [hPre_tables : Cert.Pre_tables.Facts] (m : (ℓ : Loc Cert.AttnIdeal.nD Cert.AttnIdeal.τ Cert.AttnIdeal.sig) → Buf (Elt Ideal) ℓ) : Prop :=
  ∀ c : Dev Cert.AttnIdeal.nD,
    (Cert.Pre_tables.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_tables.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_tables.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_tables.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal [hPre_tables : Cert.Pre_tables.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_tables.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_tables.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_tables.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_tables.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FoxPrep (m : (ℓ : Loc Cert.FoxPrep.nD Cert.FoxPrep.τ Cert.FoxPrep.sig) → Buf (Elt Bits) ℓ) : Prop :=
  True

def Pre_FoxPrepIdeal (m : (ℓ : Loc Cert.FoxPrepIdeal.nD Cert.FoxPrepIdeal.τ Cert.FoxPrepIdeal.sig) → Buf (Elt Ideal) ℓ) : Prop :=
  True

def Pre_FoxPrepIdeal_finite [hPre_finite : Cert.Pre_finite.Facts] (m : (ℓ : Loc Cert.FoxPrepIdeal.nD Cert.FoxPrepIdeal.τ Cert.FoxPrepIdeal.sig) → Buf (Elt Ideal) ℓ) : Prop :=
  ∀ c : Dev Cert.FoxPrepIdeal.nD,
    (Cert.Pre_finite.fn (F := Ideal) (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1))).1 = (fun _ => 1#1)
    ∧ (Cert.Pre_finite.fn (F := Ideal) (m ((c.tc : Thread Cert.FoxPrepIdeal.nD Cert.FoxPrepIdeal.τ).loc Cert.FoxPrepIdeal.main_arg0)) (m ((c.tc : Thread Cert.FoxPrepIdeal.nD Cert.FoxPrepIdeal.τ).loc Cert.FoxPrepIdeal.main_arg1))).2 = (fun _ => 1#1)

def Pre_FoxPrepRefIdeal [hPre_finite : Cert.Pre_finite.Facts] (m : (ℓ : Loc Cert.FoxPrepRefIdeal.nD Cert.FoxPrepRefIdeal.τ Cert.FoxPrepRefIdeal.sig) → Buf (Elt Ideal) ℓ) : Prop :=
  ∀ c : Dev Cert.FoxPrepRefIdeal.nD,
    (Cert.Pre_finite.fn (F := Ideal) (m ((c.tc : Thread Cert.FoxPrepRefIdeal.nD Cert.FoxPrepRefIdeal.τ).loc Cert.FoxPrepRefIdeal.main_arg0)) (m ((c.tc : Thread Cert.FoxPrepRefIdeal.nD Cert.FoxPrepRefIdeal.τ).loc Cert.FoxPrepRefIdeal.main_arg1))).1 = (fun _ => 1#1)
    ∧ (Cert.Pre_finite.fn (F := Ideal) (m ((c.tc : Thread Cert.FoxPrepRefIdeal.nD Cert.FoxPrepRefIdeal.τ).loc Cert.FoxPrepRefIdeal.main_arg0)) (m ((c.tc : Thread Cert.FoxPrepRefIdeal.nD Cert.FoxPrepRefIdeal.τ).loc Cert.FoxPrepRefIdeal.main_arg1))).2 = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_LogfCum (m : (ℓ : Loc Cert.LogfCum.nD Cert.LogfCum.τ Cert.LogfCum.sig) → Buf (Elt Bits) ℓ) : Prop :=
  True

def Pre_LogfCumIdeal (m : (ℓ : Loc Cert.LogfCumIdeal.nD Cert.LogfCumIdeal.τ Cert.LogfCumIdeal.sig) → Buf (Elt Ideal) ℓ) : Prop :=
  True

def Pre_LogfCumRefIdeal (m : (ℓ : Loc Cert.LogfCumRefIdeal.nD Cert.LogfCumRefIdeal.τ Cert.LogfCumRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_OutFfnS (m : (ℓ : Loc Cert.OutFfnS.nD Cert.OutFfnS.τ Cert.OutFfnS.sig) → Buf (Elt Bits) ℓ) : Prop :=
  True

def Pre_OutFfnSIdeal (m : (ℓ : Loc Cert.OutFfnSIdeal.nD Cert.OutFfnSIdeal.τ Cert.OutFfnSIdeal.sig) → Buf (Elt Ideal) ℓ) : Prop :=
  True

def Pre_OutFfnSRefIdeal (m : (ℓ : Loc Cert.OutFfnSRefIdeal.nD Cert.OutFfnSRefIdeal.τ Cert.OutFfnSRefIdeal.sig) → Buf (Elt Ideal) ℓ) : Prop :=
  True

def quiescent_Attn [hAttn : Cert.Attn.Facts] [hPre_tables : Cert.Pre_tables.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] [hPre_tables : Cert.Pre_tables.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] [hPre_tables : Cert.Pre_tables.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_FoxPrep [hFoxPrep : Cert.FoxPrep.Facts] : Prop :=
  ∀ (m : (ℓ : Loc Cert.FoxPrep.nD Cert.FoxPrep.τ Cert.FoxPrep.sig) → Buf (Elt Bits) ℓ) (g : Dev Cert.FoxPrep.nD → PrngReg), Pre_FoxPrep m →
    θ_run (Cert.FoxPrep.defs (F := Bits)) (onTc (τ := Cert.FoxPrep.τ) (Cert.FoxPrep.main (F := Bits))) ⟨m, fun _ => 0, g⟩ (fun r => (∀ c : Dev Cert.FoxPrep.nD,
      r.2.mem ((c.tc : Thread Cert.FoxPrep.nD Cert.FoxPrep.τ).loc Cert.FoxPrep.main_arg0) = m ((c.tc : Thread Cert.FoxPrep.nD Cert.FoxPrep.τ).loc Cert.FoxPrep.main_arg0)
      ∧ r.2.mem ((c.tc : Thread Cert.FoxPrep.nD Cert.FoxPrep.τ).loc Cert.FoxPrep.main_arg1) = m ((c.tc : Thread Cert.FoxPrep.nD Cert.FoxPrep.τ).loc Cert.FoxPrep.main_arg1))
      ∧ r.2.sem = fun _ => 0)

def quiescent_FoxPrepIdeal [hFoxPrepIdeal : Cert.FoxPrepIdeal.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ r.2.sem = fun _ => 0)

def quiescent_FoxPrepIdeal_pre_finite [hFoxPrepIdeal : Cert.FoxPrepIdeal.Facts] [hPre_finite : Cert.Pre_finite.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg), Pre_FoxPrepIdeal_finite m →
    θ_run (Cert.FoxPrepIdeal.defs (F := Ideal)) (onTc (τ := Cert.FoxPrepIdeal.τ) (Cert.FoxPrepIdeal.main (F := Ideal))) ⟨m, fun _ => 0, g⟩ (fun r => (∀ c : Dev Cert.FoxPrepIdeal.nD,
      r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
      ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ r.2.sem = fun _ => 0)

def quiescent_FoxPrepRefIdeal [hFoxPrepRefIdeal : Cert.FoxPrepRefIdeal.Facts] [hPre_finite : Cert.Pre_finite.Facts] : Prop :=
  ∀ (m : (ℓ : Loc Cert.FoxPrepRefIdeal.nD Cert.FoxPrepRefIdeal.τ Cert.FoxPrepRefIdeal.sig) → Buf (Elt Ideal) ℓ) (g : Dev Cert.FoxPrepRefIdeal.nD → PrngReg), Pre_FoxPrepRefIdeal m →
    θ_run (Cert.FoxPrepRefIdeal.defs (F := Ideal)) (onTc (τ := Cert.FoxPrepRefIdeal.τ) (Cert.FoxPrepRefIdeal.main (F := Ideal))) ⟨m, fun _ => 0, g⟩ (fun r => (∀ c : Dev Cert.FoxPrepRefIdeal.nD,
      r.2.mem ((c.tc : Thread Cert.FoxPrepRefIdeal.nD Cert.FoxPrepRefIdeal.τ).loc Cert.FoxPrepRefIdeal.main_arg0) = m ((c.tc : Thread Cert.FoxPrepRefIdeal.nD Cert.FoxPrepRefIdeal.τ).loc Cert.FoxPrepRefIdeal.main_arg0)
      ∧ r.2.mem ((c.tc : Thread Cert.FoxPrepRefIdeal.nD Cert.FoxPrepRefIdeal.τ).loc Cert.FoxPrepRefIdeal.main_arg1) = m ((c.tc : Thread Cert.FoxPrepRefIdeal.nD Cert.FoxPrepRefIdeal.τ).loc Cert.FoxPrepRefIdeal.main_arg1))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6)
      ∧ r.2.mem ((c.tc : Thread Cert.OutFfnRefIdeal.nD Cert.OutFfnRefIdeal.τ).loc Cert.OutFfnRefIdeal.main_arg7) = m ((c.tc : Thread Cert.OutFfnRefIdeal.nD Cert.OutFfnRefIdeal.τ).loc Cert.OutFfnRefIdeal.main_arg7)
      ∧ r.2.mem ((c.tc : Thread Cert.OutFfnRefIdeal.nD Cert.OutFfnRefIdeal.τ).loc Cert.OutFfnRefIdeal.main_arg8) = m ((c.tc : Thread Cert.OutFfnRefIdeal.nD Cert.OutFfnRefIdeal.τ).loc Cert.OutFfnRefIdeal.main_arg8)
      ∧ r.2.mem ((c.tc : Thread Cert.OutFfnRefIdeal.nD Cert.OutFfnRefIdeal.τ).loc Cert.OutFfnRefIdeal.main_arg9) = m ((c.tc : Thread Cert.OutFfnRefIdeal.nD Cert.OutFfnRefIdeal.τ).loc Cert.OutFfnRefIdeal.main_arg9))
      ∧ r.2.sem = fun _ => 0)

def quiescent_LogfCum [hLogfCum : Cert.LogfCum.Facts] : Prop :=
  ∀ (m : (ℓ : Loc Cert.LogfCum.nD Cert.LogfCum.τ Cert.LogfCum.sig) → Buf (Elt Bits) ℓ) (g : Dev Cert.LogfCum.nD → PrngReg), Pre_LogfCum m →
    θ_run (Cert.LogfCum.defs (F := Bits)) (onTc (τ := Cert.LogfCum.τ) (Cert.LogfCum.main (F := Bits))) ⟨m, fun _ => 0, g⟩ (fun r => (∀ c : Dev Cert.LogfCum.nD,
      r.2.mem ((c.tc : Thread Cert.LogfCum.nD Cert.LogfCum.τ).loc Cert.LogfCum.main_arg0) = m ((c.tc : Thread Cert.LogfCum.nD Cert.LogfCum.τ).loc Cert.LogfCum.main_arg0)
      ∧ r.2.mem ((c.tc : Thread Cert.LogfCum.nD Cert.LogfCum.τ).loc Cert.LogfCum.main_arg1) = m ((c.tc : Thread Cert.LogfCum.nD Cert.LogfCum.τ).loc Cert.LogfCum.main_arg1))
      ∧ r.2.sem = fun _ => 0)

def quiescent_LogfCumIdeal [hLogfCumIdeal : Cert.LogfCumIdeal.Facts] : Prop :=
  ∀ (m : (ℓ : Loc Cert.LogfCumIdeal.nD Cert.LogfCumIdeal.τ Cert.LogfCumIdeal.sig) → Buf (Elt Ideal) ℓ) (g : Dev Cert.LogfCumIdeal.nD → PrngReg), Pre_LogfCumIdeal m →
    θ_run (Cert.LogfCumIdeal.defs (F := Ideal)) (onTc (τ := Cert.LogfCumIdeal.τ) (Cert.LogfCumIdeal.main (F := Ideal))) ⟨m, fun _ => 0, g⟩ (fun r => (∀ c : Dev Cert.LogfCumIdeal.nD,
      r.2.mem ((c.tc : Thread Cert.LogfCumIdeal.nD Cert.LogfCumIdeal.τ).loc Cert.LogfCumIdeal.main_arg0) = m ((c.tc : Thread Cert.LogfCumIdeal.nD Cert.LogfCumIdeal.τ).loc Cert.LogfCumIdeal.main_arg0)
      ∧ r.2.mem ((c.tc : Thread Cert.LogfCumIdeal.nD Cert.LogfCumIdeal.τ).loc Cert.LogfCumIdeal.main_arg1) = m ((c.tc : Thread Cert.LogfCumIdeal.nD Cert.LogfCumIdeal.τ).loc Cert.LogfCumIdeal.main_arg1))
      ∧ r.2.sem = fun _ => 0)

def quiescent_LogfCumRefIdeal [hLogfCumRefIdeal : Cert.LogfCumRefIdeal.Facts] : Prop :=
  ∀ (m : (ℓ : Loc Cert.LogfCumRefIdeal.nD Cert.LogfCumRefIdeal.τ Cert.LogfCumRefIdeal.sig) → Buf (Elt Ideal) ℓ) (g : Dev Cert.LogfCumRefIdeal.nD → PrngReg), Pre_LogfCumRefIdeal m →
    θ_run (Cert.LogfCumRefIdeal.defs (F := Ideal)) (onTc (τ := Cert.LogfCumRefIdeal.τ) (Cert.LogfCumRefIdeal.main (F := Ideal))) ⟨m, fun _ => 0, g⟩ (fun r => (∀ c : Dev Cert.LogfCumRefIdeal.nD,
      r.2.mem ((c.tc : Thread Cert.LogfCumRefIdeal.nD Cert.LogfCumRefIdeal.τ).loc Cert.LogfCumRefIdeal.main_arg0) = m ((c.tc : Thread Cert.LogfCumRefIdeal.nD Cert.LogfCumRefIdeal.τ).loc Cert.LogfCumRefIdeal.main_arg0)
      ∧ r.2.mem ((c.tc : Thread Cert.LogfCumRefIdeal.nD Cert.LogfCumRefIdeal.τ).loc Cert.LogfCumRefIdeal.main_arg1) = m ((c.tc : Thread Cert.LogfCumRefIdeal.nD Cert.LogfCumRefIdeal.τ).loc Cert.LogfCumRefIdeal.main_arg1))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_OutFfnS [hOutFfnS : Cert.OutFfnS.Facts] : Prop :=
  ∀ (m : (ℓ : Loc Cert.OutFfnS.nD Cert.OutFfnS.τ Cert.OutFfnS.sig) → Buf (Elt Bits) ℓ) (g : Dev Cert.OutFfnS.nD → PrngReg), Pre_OutFfnS m →
    θ_run (Cert.OutFfnS.defs (F := Bits)) (onTc (τ := Cert.OutFfnS.τ) (Cert.OutFfnS.main (F := Bits))) ⟨m, fun _ => 0, g⟩ (fun r => (∀ c : Dev Cert.OutFfnS.nD,
      r.2.mem ((c.tc : Thread Cert.OutFfnS.nD Cert.OutFfnS.τ).loc Cert.OutFfnS.main_arg0) = m ((c.tc : Thread Cert.OutFfnS.nD Cert.OutFfnS.τ).loc Cert.OutFfnS.main_arg0)
      ∧ r.2.mem ((c.tc : Thread Cert.OutFfnS.nD Cert.OutFfnS.τ).loc Cert.OutFfnS.main_arg1) = m ((c.tc : Thread Cert.OutFfnS.nD Cert.OutFfnS.τ).loc Cert.OutFfnS.main_arg1)
      ∧ r.2.mem ((c.tc : Thread Cert.OutFfnS.nD Cert.OutFfnS.τ).loc Cert.OutFfnS.main_arg2) = m ((c.tc : Thread Cert.OutFfnS.nD Cert.OutFfnS.τ).loc Cert.OutFfnS.main_arg2)
      ∧ r.2.mem ((c.tc : Thread Cert.OutFfnS.nD Cert.OutFfnS.τ).loc Cert.OutFfnS.main_arg3) = m ((c.tc : Thread Cert.OutFfnS.nD Cert.OutFfnS.τ).loc Cert.OutFfnS.main_arg3)
      ∧ r.2.mem ((c.tc : Thread Cert.OutFfnS.nD Cert.OutFfnS.τ).loc Cert.OutFfnS.main_arg4) = m ((c.tc : Thread Cert.OutFfnS.nD Cert.OutFfnS.τ).loc Cert.OutFfnS.main_arg4)
      ∧ r.2.mem ((c.tc : Thread Cert.OutFfnS.nD Cert.OutFfnS.τ).loc Cert.OutFfnS.main_arg5) = m ((c.tc : Thread Cert.OutFfnS.nD Cert.OutFfnS.τ).loc Cert.OutFfnS.main_arg5)
      ∧ r.2.mem ((c.tc : Thread Cert.OutFfnS.nD Cert.OutFfnS.τ).loc Cert.OutFfnS.main_arg6) = m ((c.tc : Thread Cert.OutFfnS.nD Cert.OutFfnS.τ).loc Cert.OutFfnS.main_arg6)
      ∧ r.2.mem ((c.tc : Thread Cert.OutFfnS.nD Cert.OutFfnS.τ).loc Cert.OutFfnS.main_arg7) = m ((c.tc : Thread Cert.OutFfnS.nD Cert.OutFfnS.τ).loc Cert.OutFfnS.main_arg7)
      ∧ r.2.mem ((c.tc : Thread Cert.OutFfnS.nD Cert.OutFfnS.τ).loc Cert.OutFfnS.main_arg8) = m ((c.tc : Thread Cert.OutFfnS.nD Cert.OutFfnS.τ).loc Cert.OutFfnS.main_arg8)
      ∧ r.2.mem ((c.tc : Thread Cert.OutFfnS.nD Cert.OutFfnS.τ).loc Cert.OutFfnS.main_arg9) = m ((c.tc : Thread Cert.OutFfnS.nD Cert.OutFfnS.τ).loc Cert.OutFfnS.main_arg9))
      ∧ r.2.sem = fun _ => 0)

def quiescent_OutFfnSIdeal [hOutFfnSIdeal : Cert.OutFfnSIdeal.Facts] : Prop :=
  ∀ (m : (ℓ : Loc Cert.OutFfnSIdeal.nD Cert.OutFfnSIdeal.τ Cert.OutFfnSIdeal.sig) → Buf (Elt Ideal) ℓ) (g : Dev Cert.OutFfnSIdeal.nD → PrngReg), Pre_OutFfnSIdeal m →
    θ_run (Cert.OutFfnSIdeal.defs (F := Ideal)) (onTc (τ := Cert.OutFfnSIdeal.τ) (Cert.OutFfnSIdeal.main (F := Ideal))) ⟨m, fun _ => 0, g⟩ (fun r => (∀ c : Dev Cert.OutFfnSIdeal.nD,
      r.2.mem ((c.tc : Thread Cert.OutFfnSIdeal.nD Cert.OutFfnSIdeal.τ).loc Cert.OutFfnSIdeal.main_arg0) = m ((c.tc : Thread Cert.OutFfnSIdeal.nD Cert.OutFfnSIdeal.τ).loc Cert.OutFfnSIdeal.main_arg0)
      ∧ r.2.mem ((c.tc : Thread Cert.OutFfnSIdeal.nD Cert.OutFfnSIdeal.τ).loc Cert.OutFfnSIdeal.main_arg1) = m ((c.tc : Thread Cert.OutFfnSIdeal.nD Cert.OutFfnSIdeal.τ).loc Cert.OutFfnSIdeal.main_arg1)
      ∧ r.2.mem ((c.tc : Thread Cert.OutFfnSIdeal.nD Cert.OutFfnSIdeal.τ).loc Cert.OutFfnSIdeal.main_arg2) = m ((c.tc : Thread Cert.OutFfnSIdeal.nD Cert.OutFfnSIdeal.τ).loc Cert.OutFfnSIdeal.main_arg2)
      ∧ r.2.mem ((c.tc : Thread Cert.OutFfnSIdeal.nD Cert.OutFfnSIdeal.τ).loc Cert.OutFfnSIdeal.main_arg3) = m ((c.tc : Thread Cert.OutFfnSIdeal.nD Cert.OutFfnSIdeal.τ).loc Cert.OutFfnSIdeal.main_arg3)
      ∧ r.2.mem ((c.tc : Thread Cert.OutFfnSIdeal.nD Cert.OutFfnSIdeal.τ).loc Cert.OutFfnSIdeal.main_arg4) = m ((c.tc : Thread Cert.OutFfnSIdeal.nD Cert.OutFfnSIdeal.τ).loc Cert.OutFfnSIdeal.main_arg4)
      ∧ r.2.mem ((c.tc : Thread Cert.OutFfnSIdeal.nD Cert.OutFfnSIdeal.τ).loc Cert.OutFfnSIdeal.main_arg5) = m ((c.tc : Thread Cert.OutFfnSIdeal.nD Cert.OutFfnSIdeal.τ).loc Cert.OutFfnSIdeal.main_arg5)
      ∧ r.2.mem ((c.tc : Thread Cert.OutFfnSIdeal.nD Cert.OutFfnSIdeal.τ).loc Cert.OutFfnSIdeal.main_arg6) = m ((c.tc : Thread Cert.OutFfnSIdeal.nD Cert.OutFfnSIdeal.τ).loc Cert.OutFfnSIdeal.main_arg6)
      ∧ r.2.mem ((c.tc : Thread Cert.OutFfnSIdeal.nD Cert.OutFfnSIdeal.τ).loc Cert.OutFfnSIdeal.main_arg7) = m ((c.tc : Thread Cert.OutFfnSIdeal.nD Cert.OutFfnSIdeal.τ).loc Cert.OutFfnSIdeal.main_arg7)
      ∧ r.2.mem ((c.tc : Thread Cert.OutFfnSIdeal.nD Cert.OutFfnSIdeal.τ).loc Cert.OutFfnSIdeal.main_arg8) = m ((c.tc : Thread Cert.OutFfnSIdeal.nD Cert.OutFfnSIdeal.τ).loc Cert.OutFfnSIdeal.main_arg8)
      ∧ r.2.mem ((c.tc : Thread Cert.OutFfnSIdeal.nD Cert.OutFfnSIdeal.τ).loc Cert.OutFfnSIdeal.main_arg9) = m ((c.tc : Thread Cert.OutFfnSIdeal.nD Cert.OutFfnSIdeal.τ).loc Cert.OutFfnSIdeal.main_arg9))
      ∧ r.2.sem = fun _ => 0)

def quiescent_OutFfnSRefIdeal [hOutFfnSRefIdeal : Cert.OutFfnSRefIdeal.Facts] : Prop :=
  ∀ (m : (ℓ : Loc Cert.OutFfnSRefIdeal.nD Cert.OutFfnSRefIdeal.τ Cert.OutFfnSRefIdeal.sig) → Buf (Elt Ideal) ℓ) (g : Dev Cert.OutFfnSRefIdeal.nD → PrngReg), Pre_OutFfnSRefIdeal m →
    θ_run (Cert.OutFfnSRefIdeal.defs (F := Ideal)) (onTc (τ := Cert.OutFfnSRefIdeal.τ) (Cert.OutFfnSRefIdeal.main (F := Ideal))) ⟨m, fun _ => 0, g⟩ (fun r => (∀ c : Dev Cert.OutFfnSRefIdeal.nD,
      r.2.mem ((c.tc : Thread Cert.OutFfnSRefIdeal.nD Cert.OutFfnSRefIdeal.τ).loc Cert.OutFfnSRefIdeal.main_arg0) = m ((c.tc : Thread Cert.OutFfnSRefIdeal.nD Cert.OutFfnSRefIdeal.τ).loc Cert.OutFfnSRefIdeal.main_arg0)
      ∧ r.2.mem ((c.tc : Thread Cert.OutFfnSRefIdeal.nD Cert.OutFfnSRefIdeal.τ).loc Cert.OutFfnSRefIdeal.main_arg1) = m ((c.tc : Thread Cert.OutFfnSRefIdeal.nD Cert.OutFfnSRefIdeal.τ).loc Cert.OutFfnSRefIdeal.main_arg1)
      ∧ r.2.mem ((c.tc : Thread Cert.OutFfnSRefIdeal.nD Cert.OutFfnSRefIdeal.τ).loc Cert.OutFfnSRefIdeal.main_arg2) = m ((c.tc : Thread Cert.OutFfnSRefIdeal.nD Cert.OutFfnSRefIdeal.τ).loc Cert.OutFfnSRefIdeal.main_arg2)
      ∧ r.2.mem ((c.tc : Thread Cert.OutFfnSRefIdeal.nD Cert.OutFfnSRefIdeal.τ).loc Cert.OutFfnSRefIdeal.main_arg3) = m ((c.tc : Thread Cert.OutFfnSRefIdeal.nD Cert.OutFfnSRefIdeal.τ).loc Cert.OutFfnSRefIdeal.main_arg3)
      ∧ r.2.mem ((c.tc : Thread Cert.OutFfnSRefIdeal.nD Cert.OutFfnSRefIdeal.τ).loc Cert.OutFfnSRefIdeal.main_arg4) = m ((c.tc : Thread Cert.OutFfnSRefIdeal.nD Cert.OutFfnSRefIdeal.τ).loc Cert.OutFfnSRefIdeal.main_arg4)
      ∧ r.2.mem ((c.tc : Thread Cert.OutFfnSRefIdeal.nD Cert.OutFfnSRefIdeal.τ).loc Cert.OutFfnSRefIdeal.main_arg5) = m ((c.tc : Thread Cert.OutFfnSRefIdeal.nD Cert.OutFfnSRefIdeal.τ).loc Cert.OutFfnSRefIdeal.main_arg5)
      ∧ r.2.mem ((c.tc : Thread Cert.OutFfnSRefIdeal.nD Cert.OutFfnSRefIdeal.τ).loc Cert.OutFfnSRefIdeal.main_arg6) = m ((c.tc : Thread Cert.OutFfnSRefIdeal.nD Cert.OutFfnSRefIdeal.τ).loc Cert.OutFfnSRefIdeal.main_arg6)
      ∧ r.2.mem ((c.tc : Thread Cert.OutFfnSRefIdeal.nD Cert.OutFfnSRefIdeal.τ).loc Cert.OutFfnSRefIdeal.main_arg7) = m ((c.tc : Thread Cert.OutFfnSRefIdeal.nD Cert.OutFfnSRefIdeal.τ).loc Cert.OutFfnSRefIdeal.main_arg7)
      ∧ r.2.mem ((c.tc : Thread Cert.OutFfnSRefIdeal.nD Cert.OutFfnSRefIdeal.τ).loc Cert.OutFfnSRefIdeal.main_arg8) = m ((c.tc : Thread Cert.OutFfnSRefIdeal.nD Cert.OutFfnSRefIdeal.τ).loc Cert.OutFfnSRefIdeal.main_arg8)
      ∧ r.2.mem ((c.tc : Thread Cert.OutFfnSRefIdeal.nD Cert.OutFfnSRefIdeal.τ).loc Cert.OutFfnSRefIdeal.main_arg9) = m ((c.tc : Thread Cert.OutFfnSRefIdeal.nD Cert.OutFfnSRefIdeal.τ).loc Cert.OutFfnSRefIdeal.main_arg9))
      ∧ r.2.sem = fun _ => 0)

def preserves_Attn_AttnIdeal : Prop :=
  IdealRules.named_const.Statement Cert.AttnIdeal.κ "neg" .f32 0xF149F2CA#32 ⊥

def algebraic_AttnIdeal_AttnRefIdeal [hAttnIdeal : Cert.AttnIdeal.Facts] [hAttnRefIdeal : Cert.AttnRefIdeal.Facts] [hPre_tables : Cert.Pre_tables.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_FoxPrep_FoxPrepIdeal : Prop :=
  True

def algebraic_FoxPrepIdeal_FoxPrepRefIdeal_pre_finite [hFoxPrepIdeal : Cert.FoxPrepIdeal.Facts] [hFoxPrepRefIdeal : Cert.FoxPrepRefIdeal.Facts] [hPre_finite : Cert.Pre_finite.Facts] : Prop :=
  ∀ (m : (ℓ : Loc Cert.FoxPrepIdeal.nD Cert.FoxPrepIdeal.τ Cert.FoxPrepIdeal.sig) → Buf (Elt Ideal) ℓ) (g : Dev Cert.FoxPrepIdeal.nD → PrngReg)
    (m' : (ℓ : Loc Cert.FoxPrepRefIdeal.nD Cert.FoxPrepRefIdeal.τ Cert.FoxPrepRefIdeal.sig) → Buf (Elt Ideal) ℓ) (g' : Dev Cert.FoxPrepRefIdeal.nD → PrngReg), Pre_FoxPrepIdeal_finite m →
    (∀ c : Dev Cert.FoxPrepIdeal.nD,
      m' ((c.tc : Thread Cert.FoxPrepRefIdeal.nD Cert.FoxPrepRefIdeal.τ).loc Cert.FoxPrepRefIdeal.main_arg0) = m ((c.tc : Thread Cert.FoxPrepIdeal.nD Cert.FoxPrepIdeal.τ).loc Cert.FoxPrepIdeal.main_arg0)
      ∧ m' ((c.tc : Thread Cert.FoxPrepRefIdeal.nD Cert.FoxPrepRefIdeal.τ).loc Cert.FoxPrepRefIdeal.main_arg1) = m ((c.tc : Thread Cert.FoxPrepIdeal.nD Cert.FoxPrepIdeal.τ).loc Cert.FoxPrepIdeal.main_arg1)) →
    ∃ (v0 : (c : Dev Cert.FoxPrepIdeal.nD) → Buf (Elt Ideal) ((c.tc : Thread Cert.FoxPrepIdeal.nD Cert.FoxPrepIdeal.τ).loc Cert.FoxPrepIdeal.main_v0_0)) (v1 : (c : Dev Cert.FoxPrepIdeal.nD) → Buf (Elt Ideal) ((c.tc : Thread Cert.FoxPrepIdeal.nD Cert.FoxPrepIdeal.τ).loc Cert.FoxPrepIdeal.main_v0_1)) (v2 : (c : Dev Cert.FoxPrepIdeal.nD) → Buf (Elt Ideal) ((c.tc : Thread Cert.FoxPrepIdeal.nD Cert.FoxPrepIdeal.τ).loc Cert.FoxPrepIdeal.main_v0_2)) (v3 : (c : Dev Cert.FoxPrepIdeal.nD) → Buf (Elt Ideal) ((c.tc : Thread Cert.FoxPrepIdeal.nD Cert.FoxPrepIdeal.τ).loc Cert.FoxPrepIdeal.main_v0_3)) (v4 : (c : Dev Cert.FoxPrepIdeal.nD) → Buf (Elt Ideal) ((c.tc : Thread Cert.FoxPrepIdeal.nD Cert.FoxPrepIdeal.τ).loc Cert.FoxPrepIdeal.main_v0_4)) (v5 : (c : Dev Cert.FoxPrepIdeal.nD) → Buf (Elt Ideal) ((c.tc : Thread Cert.FoxPrepIdeal.nD Cert.FoxPrepIdeal.τ).loc Cert.FoxPrepIdeal.main_v0_5)),
      θ_run (Cert.FoxPrepIdeal.defs (F := Ideal)) (onTc (τ := Cert.FoxPrepIdeal.τ) (Cert.FoxPrepIdeal.main (F := Ideal))) ⟨m, fun _ => 0, g⟩ (fun r => ∀ c : Dev Cert.FoxPrepIdeal.nD,
          r.2.mem ((c.tc : Thread Cert.FoxPrepIdeal.nD Cert.FoxPrepIdeal.τ).loc Cert.FoxPrepIdeal.main_v0_0) = v0 c
          ∧ r.2.mem ((c.tc : Thread Cert.FoxPrepIdeal.nD Cert.FoxPrepIdeal.τ).loc Cert.FoxPrepIdeal.main_v0_1) = v1 c
          ∧ r.2.mem ((c.tc : Thread Cert.FoxPrepIdeal.nD Cert.FoxPrepIdeal.τ).loc Cert.FoxPrepIdeal.main_v0_2) = v2 c
          ∧ r.2.mem ((c.tc : Thread Cert.FoxPrepIdeal.nD Cert.FoxPrepIdeal.τ).loc Cert.FoxPrepIdeal.main_v0_3) = v3 c
          ∧ r.2.mem ((c.tc : Thread Cert.FoxPrepIdeal.nD Cert.FoxPrepIdeal.τ).loc Cert.FoxPrepIdeal.main_v0_4) = v4 c
          ∧ r.2.mem ((c.tc : Thread Cert.FoxPrepIdeal.nD Cert.FoxPrepIdeal.τ).loc Cert.FoxPrepIdeal.main_v0_5) = v5 c
          ∧ r.2.mem ((c.tc : Thread Cert.FoxPrepIdeal.nD Cert.FoxPrepIdeal.τ).loc Cert.FoxPrepIdeal.main_arg0) = m ((c.tc : Thread Cert.FoxPrepIdeal.nD Cert.FoxPrepIdeal.τ).loc Cert.FoxPrepIdeal.main_arg0)
          ∧ r.2.mem ((c.tc : Thread Cert.FoxPrepIdeal.nD Cert.FoxPrepIdeal.τ).loc Cert.FoxPrepIdeal.main_arg1) = m ((c.tc : Thread Cert.FoxPrepIdeal.nD Cert.FoxPrepIdeal.τ).loc Cert.FoxPrepIdeal.main_arg1))
      ∧ θ_run (Cert.FoxPrepRefIdeal.defs (F := Ideal)) (onTc (τ := Cert.FoxPrepRefIdeal.τ) (Cert.FoxPrepRefIdeal.main (F := Ideal))) ⟨m', fun _ => 0, g'⟩ (fun r => ∀ c : Dev Cert.FoxPrepRefIdeal.nD,
          r.2.mem ((c.tc : Thread Cert.FoxPrepRefIdeal.nD Cert.FoxPrepRefIdeal.τ).loc Cert.FoxPrepRefIdeal.main_v6) = v0 c
          ∧ r.2.mem ((c.tc : Thread Cert.FoxPrepRefIdeal.nD Cert.FoxPrepRefIdeal.τ).loc Cert.FoxPrepRefIdeal.main_v38) = v1 c
          ∧ r.2.mem ((c.tc : Thread Cert.FoxPrepRefIdeal.nD Cert.FoxPrepRefIdeal.τ).loc Cert.FoxPrepRefIdeal.main_v39) = v2 c
          ∧ r.2.mem ((c.tc : Thread Cert.FoxPrepRefIdeal.nD Cert.FoxPrepRefIdeal.τ).loc Cert.FoxPrepRefIdeal.main_v35) = v3 c
          ∧ r.2.mem ((c.tc : Thread Cert.FoxPrepRefIdeal.nD Cert.FoxPrepRefIdeal.τ).loc Cert.FoxPrepRefIdeal.main_v37) = v4 c
          ∧ r.2.mem ((c.tc : Thread Cert.FoxPrepRefIdeal.nD Cert.FoxPrepRefIdeal.τ).loc Cert.FoxPrepRefIdeal.main_v40) = v5 c
          ∧ r.2.mem ((c.tc : Thread Cert.FoxPrepRefIdeal.nD Cert.FoxPrepRefIdeal.τ).loc Cert.FoxPrepRefIdeal.main_arg0) = m' ((c.tc : Thread Cert.FoxPrepRefIdeal.nD Cert.FoxPrepRefIdeal.τ).loc Cert.FoxPrepRefIdeal.main_arg0)
          ∧ r.2.mem ((c.tc : Thread Cert.FoxPrepRefIdeal.nD Cert.FoxPrepRefIdeal.τ).loc Cert.FoxPrepRefIdeal.main_arg1) = m' ((c.tc : Thread Cert.FoxPrepRefIdeal.nD Cert.FoxPrepRefIdeal.τ).loc Cert.FoxPrepRefIdeal.main_arg1))

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)
      ∧ m' ((c.tc : Thread Cert.OutFfnRefIdeal.nD Cert.OutFfnRefIdeal.τ).loc Cert.OutFfnRefIdeal.main_arg8) = m ((c.tc : Thread Cert.OutFfnIdeal.nD Cert.OutFfnIdeal.τ).loc Cert.OutFfnIdeal.main_arg8)
      ∧ m' ((c.tc : Thread Cert.OutFfnRefIdeal.nD Cert.OutFfnRefIdeal.τ).loc Cert.OutFfnRefIdeal.main_arg9) = m ((c.tc : Thread Cert.OutFfnIdeal.nD Cert.OutFfnIdeal.τ).loc Cert.OutFfnIdeal.main_arg9)) →
    ∃ (v0 : (c : Dev Cert.OutFfnIdeal.nD) → Buf (Elt Ideal) ((c.tc : Thread Cert.OutFfnIdeal.nD Cert.OutFfnIdeal.τ).loc Cert.OutFfnIdeal.main_v5_0)) (v1 : (c : Dev Cert.OutFfnIdeal.nD) → Buf (Elt Ideal) ((c.tc : Thread Cert.OutFfnIdeal.nD Cert.OutFfnIdeal.τ).loc Cert.OutFfnIdeal.main_v5_1)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v5_0) = v0 c
          ∧ r.2.mem ((c.tc : Thread Cert.OutFfnIdeal.nD Cert.OutFfnIdeal.τ).loc Cert.OutFfnIdeal.main_v5_1) = v1 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v20) = v0 c
          ∧ r.2.mem ((c.tc : Thread Cert.OutFfnRefIdeal.nD Cert.OutFfnRefIdeal.τ).loc Cert.OutFfnRefIdeal.main_v33) = v1 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6)
          ∧ r.2.mem ((c.tc : Thread Cert.OutFfnRefIdeal.nD Cert.OutFfnRefIdeal.τ).loc Cert.OutFfnRefIdeal.main_arg7) = m' ((c.tc : Thread Cert.OutFfnRefIdeal.nD Cert.OutFfnRefIdeal.τ).loc Cert.OutFfnRefIdeal.main_arg7)
          ∧ r.2.mem ((c.tc : Thread Cert.OutFfnRefIdeal.nD Cert.OutFfnRefIdeal.τ).loc Cert.OutFfnRefIdeal.main_arg8) = m' ((c.tc : Thread Cert.OutFfnRefIdeal.nD Cert.OutFfnRefIdeal.τ).loc Cert.OutFfnRefIdeal.main_arg8)
          ∧ r.2.mem ((c.tc : Thread Cert.OutFfnRefIdeal.nD Cert.OutFfnRefIdeal.τ).loc Cert.OutFfnRefIdeal.main_arg9) = m' ((c.tc : Thread Cert.OutFfnRefIdeal.nD Cert.OutFfnRefIdeal.τ).loc Cert.OutFfnRefIdeal.main_arg9))

def preserves_LogfCum_LogfCumIdeal : Prop :=
  True

def algebraic_LogfCumIdeal_LogfCumRefIdeal [hLogfCumIdeal : Cert.LogfCumIdeal.Facts] [hLogfCumRefIdeal : Cert.LogfCumRefIdeal.Facts] : Prop :=
  ∀ (m : (ℓ : Loc Cert.LogfCumIdeal.nD Cert.LogfCumIdeal.τ Cert.LogfCumIdeal.sig) → Buf (Elt Ideal) ℓ) (g : Dev Cert.LogfCumIdeal.nD → PrngReg)
    (m' : (ℓ : Loc Cert.LogfCumRefIdeal.nD Cert.LogfCumRefIdeal.τ Cert.LogfCumRefIdeal.sig) → Buf (Elt Ideal) ℓ) (g' : Dev Cert.LogfCumRefIdeal.nD → PrngReg), Pre_LogfCumIdeal m →
    (∀ c : Dev Cert.LogfCumIdeal.nD,
      m' ((c.tc : Thread Cert.LogfCumRefIdeal.nD Cert.LogfCumRefIdeal.τ).loc Cert.LogfCumRefIdeal.main_arg0) = m ((c.tc : Thread Cert.LogfCumIdeal.nD Cert.LogfCumIdeal.τ).loc Cert.LogfCumIdeal.main_arg0)
      ∧ m' ((c.tc : Thread Cert.LogfCumRefIdeal.nD Cert.LogfCumRefIdeal.τ).loc Cert.LogfCumRefIdeal.main_arg1) = m ((c.tc : Thread Cert.LogfCumIdeal.nD Cert.LogfCumIdeal.τ).loc Cert.LogfCumIdeal.main_arg1)) →
    ∃ (v0 : (c : Dev Cert.LogfCumIdeal.nD) → Buf (Elt Ideal) ((c.tc : Thread Cert.LogfCumIdeal.nD Cert.LogfCumIdeal.τ).loc Cert.LogfCumIdeal.main_v0_0)) (v1 : (c : Dev Cert.LogfCumIdeal.nD) → Buf (Elt Ideal) ((c.tc : Thread Cert.LogfCumIdeal.nD Cert.LogfCumIdeal.τ).loc Cert.LogfCumIdeal.main_v0_1)),
      θ_run (Cert.LogfCumIdeal.defs (F := Ideal)) (onTc (τ := Cert.LogfCumIdeal.τ) (Cert.LogfCumIdeal.main (F := Ideal))) ⟨m, fun _ => 0, g⟩ (fun r => ∀ c : Dev Cert.LogfCumIdeal.nD,
          r.2.mem ((c.tc : Thread Cert.LogfCumIdeal.nD Cert.LogfCumIdeal.τ).loc Cert.LogfCumIdeal.main_v0_0) = v0 c
          ∧ r.2.mem ((c.tc : Thread Cert.LogfCumIdeal.nD Cert.LogfCumIdeal.τ).loc Cert.LogfCumIdeal.main_v0_1) = v1 c
          ∧ r.2.mem ((c.tc : Thread Cert.LogfCumIdeal.nD Cert.LogfCumIdeal.τ).loc Cert.LogfCumIdeal.main_arg0) = m ((c.tc : Thread Cert.LogfCumIdeal.nD Cert.LogfCumIdeal.τ).loc Cert.LogfCumIdeal.main_arg0)
          ∧ r.2.mem ((c.tc : Thread Cert.LogfCumIdeal.nD Cert.LogfCumIdeal.τ).loc Cert.LogfCumIdeal.main_arg1) = m ((c.tc : Thread Cert.LogfCumIdeal.nD Cert.LogfCumIdeal.τ).loc Cert.LogfCumIdeal.main_arg1))
      ∧ θ_run (Cert.LogfCumRefIdeal.defs (F := Ideal)) (onTc (τ := Cert.LogfCumRefIdeal.τ) (Cert.LogfCumRefIdeal.main (F := Ideal))) ⟨m', fun _ => 0, g'⟩ (fun r => ∀ c : Dev Cert.LogfCumRefIdeal.nD,
          r.2.mem ((c.tc : Thread Cert.LogfCumRefIdeal.nD Cert.LogfCumRefIdeal.τ).loc Cert.LogfCumRefIdeal.main_v3) = v0 c
          ∧ r.2.mem ((c.tc : Thread Cert.LogfCumRefIdeal.nD Cert.LogfCumRefIdeal.τ).loc Cert.LogfCumRefIdeal.main_v12) = v1 c
          ∧ r.2.mem ((c.tc : Thread Cert.LogfCumRefIdeal.nD Cert.LogfCumRefIdeal.τ).loc Cert.LogfCumRefIdeal.main_arg0) = m' ((c.tc : Thread Cert.LogfCumRefIdeal.nD Cert.LogfCumRefIdeal.τ).loc Cert.LogfCumRefIdeal.main_arg0)
          ∧ r.2.mem ((c.tc : Thread Cert.LogfCumRefIdeal.nD Cert.LogfCumRefIdeal.τ).loc Cert.LogfCumRefIdeal.main_arg1) = m' ((c.tc : Thread Cert.LogfCumRefIdeal.nD Cert.LogfCumRefIdeal.τ).loc Cert.LogfCumRefIdeal.main_arg1))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v9)) (v1 : (c : Dev Cert.InProjSIdeal.nD) → Buf (Elt Ideal) ((c.tc : Thread Cert.InProjSIdeal.nD Cert.InProjSIdeal.τ).loc Cert.InProjSIdeal.main_v10)) (v2 : (c : Dev Cert.InProjSIdeal.nD) → Buf (Elt Ideal) ((c.tc : Thread Cert.InProjSIdeal.nD Cert.InProjSIdeal.τ).loc Cert.InProjSIdeal.main_v11)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v9) = v0 c
          ∧ r.2.mem ((c.tc : Thread Cert.InProjSIdeal.nD Cert.InProjSIdeal.τ).loc Cert.InProjSIdeal.main_v10) = v1 c
          ∧ r.2.mem ((c.tc : Thread Cert.InProjSIdeal.nD Cert.InProjSIdeal.τ).loc Cert.InProjSIdeal.main_v11) = v2 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v20) = v0 c
          ∧ r.2.mem ((c.tc : Thread Cert.InProjSRefIdeal.nD Cert.InProjSRefIdeal.τ).loc Cert.InProjSRefIdeal.main_v21) = v1 c
          ∧ r.2.mem ((c.tc : Thread Cert.InProjSRefIdeal.nD Cert.InProjSRefIdeal.τ).loc Cert.InProjSRefIdeal.main_v22) = v2 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_OutFfnS_OutFfnSIdeal : Prop :=
  True

def algebraic_OutFfnSIdeal_OutFfnSRefIdeal [hOutFfnSIdeal : Cert.OutFfnSIdeal.Facts] [hOutFfnSRefIdeal : Cert.OutFfnSRefIdeal.Facts] : Prop :=
  ∀ (m : (ℓ : Loc Cert.OutFfnSIdeal.nD Cert.OutFfnSIdeal.τ Cert.OutFfnSIdeal.sig) → Buf (Elt Ideal) ℓ) (g : Dev Cert.OutFfnSIdeal.nD → PrngReg)
    (m' : (ℓ : Loc Cert.OutFfnSRefIdeal.nD Cert.OutFfnSRefIdeal.τ Cert.OutFfnSRefIdeal.sig) → Buf (Elt Ideal) ℓ) (g' : Dev Cert.OutFfnSRefIdeal.nD → PrngReg), Pre_OutFfnSIdeal m →
    (∀ c : Dev Cert.OutFfnSIdeal.nD,
      m' ((c.tc : Thread Cert.OutFfnSRefIdeal.nD Cert.OutFfnSRefIdeal.τ).loc Cert.OutFfnSRefIdeal.main_arg0) = m ((c.tc : Thread Cert.OutFfnSIdeal.nD Cert.OutFfnSIdeal.τ).loc Cert.OutFfnSIdeal.main_arg0)
      ∧ m' ((c.tc : Thread Cert.OutFfnSRefIdeal.nD Cert.OutFfnSRefIdeal.τ).loc Cert.OutFfnSRefIdeal.main_arg1) = m ((c.tc : Thread Cert.OutFfnSIdeal.nD Cert.OutFfnSIdeal.τ).loc Cert.OutFfnSIdeal.main_arg1)
      ∧ m' ((c.tc : Thread Cert.OutFfnSRefIdeal.nD Cert.OutFfnSRefIdeal.τ).loc Cert.OutFfnSRefIdeal.main_arg2) = m ((c.tc : Thread Cert.OutFfnSIdeal.nD Cert.OutFfnSIdeal.τ).loc Cert.OutFfnSIdeal.main_arg2)
      ∧ m' ((c.tc : Thread Cert.OutFfnSRefIdeal.nD Cert.OutFfnSRefIdeal.τ).loc Cert.OutFfnSRefIdeal.main_arg3) = m ((c.tc : Thread Cert.OutFfnSIdeal.nD Cert.OutFfnSIdeal.τ).loc Cert.OutFfnSIdeal.main_arg3)
      ∧ m' ((c.tc : Thread Cert.OutFfnSRefIdeal.nD Cert.OutFfnSRefIdeal.τ).loc Cert.OutFfnSRefIdeal.main_arg4) = m ((c.tc : Thread Cert.OutFfnSIdeal.nD Cert.OutFfnSIdeal.τ).loc Cert.OutFfnSIdeal.main_arg4)
      ∧ m' ((c.tc : Thread Cert.OutFfnSRefIdeal.nD Cert.OutFfnSRefIdeal.τ).loc Cert.OutFfnSRefIdeal.main_arg5) = m ((c.tc : Thread Cert.OutFfnSIdeal.nD Cert.OutFfnSIdeal.τ).loc Cert.OutFfnSIdeal.main_arg5)
      ∧ m' ((c.tc : Thread Cert.OutFfnSRefIdeal.nD Cert.OutFfnSRefIdeal.τ).loc Cert.OutFfnSRefIdeal.main_arg6) = m ((c.tc : Thread Cert.OutFfnSIdeal.nD Cert.OutFfnSIdeal.τ).loc Cert.OutFfnSIdeal.main_arg6)
      ∧ m' ((c.tc : Thread Cert.OutFfnSRefIdeal.nD Cert.OutFfnSRefIdeal.τ).loc Cert.OutFfnSRefIdeal.main_arg7) = m ((c.tc : Thread Cert.OutFfnSIdeal.nD Cert.OutFfnSIdeal.τ).loc Cert.OutFfnSIdeal.main_arg7)
      ∧ m' ((c.tc : Thread Cert.OutFfnSRefIdeal.nD Cert.OutFfnSRefIdeal.τ).loc Cert.OutFfnSRefIdeal.main_arg8) = m ((c.tc : Thread Cert.OutFfnSIdeal.nD Cert.OutFfnSIdeal.τ).loc Cert.OutFfnSIdeal.main_arg8)
      ∧ m' ((c.tc : Thread Cert.OutFfnSRefIdeal.nD Cert.OutFfnSRefIdeal.τ).loc Cert.OutFfnSRefIdeal.main_arg9) = m ((c.tc : Thread Cert.OutFfnSIdeal.nD Cert.OutFfnSIdeal.τ).loc Cert.OutFfnSIdeal.main_arg9)) →
    ∃ (v0 : (c : Dev Cert.OutFfnSIdeal.nD) → Buf (Elt Ideal) ((c.tc : Thread Cert.OutFfnSIdeal.nD Cert.OutFfnSIdeal.τ).loc Cert.OutFfnSIdeal.main_v5_0)) (v1 : (c : Dev Cert.OutFfnSIdeal.nD) → Buf (Elt Ideal) ((c.tc : Thread Cert.OutFfnSIdeal.nD Cert.OutFfnSIdeal.τ).loc Cert.OutFfnSIdeal.main_v5_1)),
      θ_run (Cert.OutFfnSIdeal.defs (F := Ideal)) (onTc (τ := Cert.OutFfnSIdeal.τ) (Cert.OutFfnSIdeal.main (F := Ideal))) ⟨m, fun _ => 0, g⟩ (fun r => ∀ c : Dev Cert.OutFfnSIdeal.nD,
          r.2.mem ((c.tc : Thread Cert.OutFfnSIdeal.nD Cert.OutFfnSIdeal.τ).loc Cert.OutFfnSIdeal.main_v5_0) = v0 c
          ∧ r.2.mem ((c.tc : Thread Cert.OutFfnSIdeal.nD Cert.OutFfnSIdeal.τ).loc Cert.OutFfnSIdeal.main_v5_1) = v1 c
          ∧ r.2.mem ((c.tc : Thread Cert.OutFfnSIdeal.nD Cert.OutFfnSIdeal.τ).loc Cert.OutFfnSIdeal.main_arg0) = m ((c.tc : Thread Cert.OutFfnSIdeal.nD Cert.OutFfnSIdeal.τ).loc Cert.OutFfnSIdeal.main_arg0)
          ∧ r.2.mem ((c.tc : Thread Cert.OutFfnSIdeal.nD Cert.OutFfnSIdeal.τ).loc Cert.OutFfnSIdeal.main_arg1) = m ((c.tc : Thread Cert.OutFfnSIdeal.nD Cert.OutFfnSIdeal.τ).loc Cert.OutFfnSIdeal.main_arg1)
          ∧ r.2.mem ((c.tc : Thread Cert.OutFfnSIdeal.nD Cert.OutFfnSIdeal.τ).loc Cert.OutFfnSIdeal.main_arg2) = m ((c.tc : Thread Cert.OutFfnSIdeal.nD Cert.OutFfnSIdeal.τ).loc Cert.OutFfnSIdeal.main_arg2)
          ∧ r.2.mem ((c.tc : Thread Cert.OutFfnSIdeal.nD Cert.OutFfnSIdeal.τ).loc Cert.OutFfnSIdeal.main_arg3) = m ((c.tc : Thread Cert.OutFfnSIdeal.nD Cert.OutFfnSIdeal.τ).loc Cert.OutFfnSIdeal.main_arg3)
          ∧ r.2.mem ((c.tc : Thread Cert.OutFfnSIdeal.nD Cert.OutFfnSIdeal.τ).loc Cert.OutFfnSIdeal.main_arg4) = m ((c.tc : Thread Cert.OutFfnSIdeal.nD Cert.OutFfnSIdeal.τ).loc Cert.OutFfnSIdeal.main_arg4)
          ∧ r.2.mem ((c.tc : Thread Cert.OutFfnSIdeal.nD Cert.OutFfnSIdeal.τ).loc Cert.OutFfnSIdeal.main_arg5) = m ((c.tc : Thread Cert.OutFfnSIdeal.nD Cert.OutFfnSIdeal.τ).loc Cert.OutFfnSIdeal.main_arg5)
          ∧ r.2.mem ((c.tc : Thread Cert.OutFfnSIdeal.nD Cert.OutFfnSIdeal.τ).loc Cert.OutFfnSIdeal.main_arg6) = m ((c.tc : Thread Cert.OutFfnSIdeal.nD Cert.OutFfnSIdeal.τ).loc Cert.OutFfnSIdeal.main_arg6)
          ∧ r.2.mem ((c.tc : Thread Cert.OutFfnSIdeal.nD Cert.OutFfnSIdeal.τ).loc Cert.OutFfnSIdeal.main_arg7) = m ((c.tc : Thread Cert.OutFfnSIdeal.nD Cert.OutFfnSIdeal.τ).loc Cert.OutFfnSIdeal.main_arg7)
          ∧ r.2.mem ((c.tc : Thread Cert.OutFfnSIdeal.nD Cert.OutFfnSIdeal.τ).loc Cert.OutFfnSIdeal.main_arg8) = m ((c.tc : Thread Cert.OutFfnSIdeal.nD Cert.OutFfnSIdeal.τ).loc Cert.OutFfnSIdeal.main_arg8)
          ∧ r.2.mem ((c.tc : Thread Cert.OutFfnSIdeal.nD Cert.OutFfnSIdeal.τ).loc Cert.OutFfnSIdeal.main_arg9) = m ((c.tc : Thread Cert.OutFfnSIdeal.nD Cert.OutFfnSIdeal.τ).loc Cert.OutFfnSIdeal.main_arg9))
      ∧ θ_run (Cert.OutFfnSRefIdeal.defs (F := Ideal)) (onTc (τ := Cert.OutFfnSRefIdeal.τ) (Cert.OutFfnSRefIdeal.main (F := Ideal))) ⟨m', fun _ => 0, g'⟩ (fun r => ∀ c : Dev Cert.OutFfnSRefIdeal.nD,
          r.2.mem ((c.tc : Thread Cert.OutFfnSRefIdeal.nD Cert.OutFfnSRefIdeal.τ).loc Cert.OutFfnSRefIdeal.main_v20) = v0 c
          ∧ r.2.mem ((c.tc : Thread Cert.OutFfnSRefIdeal.nD Cert.OutFfnSRefIdeal.τ).loc Cert.OutFfnSRefIdeal.main_v33) = v1 c
          ∧ r.2.mem ((c.tc : Thread Cert.OutFfnSRefIdeal.nD Cert.OutFfnSRefIdeal.τ).loc Cert.OutFfnSRefIdeal.main_arg0) = m' ((c.tc : Thread Cert.OutFfnSRefIdeal.nD Cert.OutFfnSRefIdeal.τ).loc Cert.OutFfnSRefIdeal.main_arg0)
          ∧ r.2.mem ((c.tc : Thread Cert.OutFfnSRefIdeal.nD Cert.OutFfnSRefIdeal.τ).loc Cert.OutFfnSRefIdeal.main_arg1) = m' ((c.tc : Thread Cert.OutFfnSRefIdeal.nD Cert.OutFfnSRefIdeal.τ).loc Cert.OutFfnSRefIdeal.main_arg1)
          ∧ r.2.mem ((c.tc : Thread Cert.OutFfnSRefIdeal.nD Cert.OutFfnSRefIdeal.τ).loc Cert.OutFfnSRefIdeal.main_arg2) = m' ((c.tc : Thread Cert.OutFfnSRefIdeal.nD Cert.OutFfnSRefIdeal.τ).loc Cert.OutFfnSRefIdeal.main_arg2)
          ∧ r.2.mem ((c.tc : Thread Cert.OutFfnSRefIdeal.nD Cert.OutFfnSRefIdeal.τ).loc Cert.OutFfnSRefIdeal.main_arg3) = m' ((c.tc : Thread Cert.OutFfnSRefIdeal.nD Cert.OutFfnSRefIdeal.τ).loc Cert.OutFfnSRefIdeal.main_arg3)
          ∧ r.2.mem ((c.tc : Thread Cert.OutFfnSRefIdeal.nD Cert.OutFfnSRefIdeal.τ).loc Cert.OutFfnSRefIdeal.main_arg4) = m' ((c.tc : Thread Cert.OutFfnSRefIdeal.nD Cert.OutFfnSRefIdeal.τ).loc Cert.OutFfnSRefIdeal.main_arg4)
          ∧ r.2.mem ((c.tc : Thread Cert.OutFfnSRefIdeal.nD Cert.OutFfnSRefIdeal.τ).loc Cert.OutFfnSRefIdeal.main_arg5) = m' ((c.tc : Thread Cert.OutFfnSRefIdeal.nD Cert.OutFfnSRefIdeal.τ).loc Cert.OutFfnSRefIdeal.main_arg5)
          ∧ r.2.mem ((c.tc : Thread Cert.OutFfnSRefIdeal.nD Cert.OutFfnSRefIdeal.τ).loc Cert.OutFfnSRefIdeal.main_arg6) = m' ((c.tc : Thread Cert.OutFfnSRefIdeal.nD Cert.OutFfnSRefIdeal.τ).loc Cert.OutFfnSRefIdeal.main_arg6)
          ∧ r.2.mem ((c.tc : Thread Cert.OutFfnSRefIdeal.nD Cert.OutFfnSRefIdeal.τ).loc Cert.OutFfnSRefIdeal.main_arg7) = m' ((c.tc : Thread Cert.OutFfnSRefIdeal.nD Cert.OutFfnSRefIdeal.τ).loc Cert.OutFfnSRefIdeal.main_arg7)
          ∧ r.2.mem ((c.tc : Thread Cert.OutFfnSRefIdeal.nD Cert.OutFfnSRefIdeal.τ).loc Cert.OutFfnSRefIdeal.main_arg8) = m' ((c.tc : Thread Cert.OutFfnSRefIdeal.nD Cert.OutFfnSRefIdeal.τ).loc Cert.OutFfnSRefIdeal.main_arg8)
          ∧ r.2.mem ((c.tc : Thread Cert.OutFfnSRefIdeal.nD Cert.OutFfnSRefIdeal.τ).loc Cert.OutFfnSRefIdeal.main_arg9) = m' ((c.tc : Thread Cert.OutFfnSRefIdeal.nD Cert.OutFfnSRefIdeal.τ).loc Cert.OutFfnSRefIdeal.main_arg9))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hFoxPrep : Cert.FoxPrep.Facts) (hFoxPrepIdeal : Cert.FoxPrepIdeal.Facts) (hFoxPrepRefIdeal : Cert.FoxPrepRefIdeal.Facts) (hOutFfn : Cert.OutFfn.Facts) (hOutFfnIdeal : Cert.OutFfnIdeal.Facts) (hOutFfnRefIdeal : Cert.OutFfnRefIdeal.Facts) (hLogfCum : Cert.LogfCum.Facts) (hLogfCumIdeal : Cert.LogfCumIdeal.Facts) (hLogfCumRefIdeal : Cert.LogfCumRefIdeal.Facts) (hInProjS : Cert.InProjS.Facts) (hInProjSIdeal : Cert.InProjSIdeal.Facts) (hInProjSRefIdeal : Cert.InProjSRefIdeal.Facts) (hOutFfnS : Cert.OutFfnS.Facts) (hOutFfnSIdeal : Cert.OutFfnSIdeal.Facts) (hOutFfnSRefIdeal : Cert.OutFfnSRefIdeal.Facts) (hPre_tables : Cert.Pre_tables.Facts) (hPre_finite : Cert.Pre_finite.Facts),
    quiescent_Attn (hAttn := hAttn) (hPre_tables := hPre_tables)
    ∧ quiescent_AttnIdeal (hAttnIdeal := hAttnIdeal) (hPre_tables := hPre_tables)
    ∧ quiescent_AttnRefIdeal (hAttnRefIdeal := hAttnRefIdeal) (hPre_tables := hPre_tables)
    ∧ quiescent_InProj (hInProj := hInProj)
    ∧ quiescent_InProjIdeal (hInProjIdeal := hInProjIdeal)
    ∧ quiescent_InProjRefIdeal (hInProjRefIdeal := hInProjRefIdeal)
    ∧ quiescent_FoxPrep (hFoxPrep := hFoxPrep)
    ∧ quiescent_FoxPrepIdeal (hFoxPrepIdeal := hFoxPrepIdeal)
    ∧ quiescent_FoxPrepIdeal_pre_finite (hFoxPrepIdeal := hFoxPrepIdeal) (hPre_finite := hPre_finite)
    ∧ quiescent_FoxPrepRefIdeal (hFoxPrepRefIdeal := hFoxPrepRefIdeal) (hPre_finite := hPre_finite)
    ∧ quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_LogfCum (hLogfCum := hLogfCum)
    ∧ quiescent_LogfCumIdeal (hLogfCumIdeal := hLogfCumIdeal)
    ∧ quiescent_LogfCumRefIdeal (hLogfCumRefIdeal := hLogfCumRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_OutFfnS (hOutFfnS := hOutFfnS)
    ∧ quiescent_OutFfnSIdeal (hOutFfnSIdeal := hOutFfnSIdeal)
    ∧ quiescent_OutFfnSRefIdeal (hOutFfnSRefIdeal := hOutFfnSRefIdeal)
    ∧ preserves_Attn_AttnIdeal
    ∧ algebraic_AttnIdeal_AttnRefIdeal (hAttnIdeal := hAttnIdeal) (hAttnRefIdeal := hAttnRefIdeal) (hPre_tables := hPre_tables)
    ∧ preserves_InProj_InProjIdeal
    ∧ algebraic_InProjIdeal_InProjRefIdeal (hInProjIdeal := hInProjIdeal) (hInProjRefIdeal := hInProjRefIdeal)
    ∧ preserves_FoxPrep_FoxPrepIdeal
    ∧ algebraic_FoxPrepIdeal_FoxPrepRefIdeal_pre_finite (hFoxPrepIdeal := hFoxPrepIdeal) (hFoxPrepRefIdeal := hFoxPrepRefIdeal) (hPre_finite := hPre_finite)
    ∧ preserves_OutFfn_OutFfnIdeal
    ∧ algebraic_OutFfnIdeal_OutFfnRefIdeal (hOutFfnIdeal := hOutFfnIdeal) (hOutFfnRefIdeal := hOutFfnRefIdeal)
    ∧ preserves_LogfCum_LogfCumIdeal
    ∧ algebraic_LogfCumIdeal_LogfCumRefIdeal (hLogfCumIdeal := hLogfCumIdeal) (hLogfCumRefIdeal := hLogfCumRefIdeal)
    ∧ preserves_InProjS_InProjSIdeal
    ∧ algebraic_InProjSIdeal_InProjSRefIdeal (hInProjSIdeal := hInProjSIdeal) (hInProjSRefIdeal := hInProjSRefIdeal)
    ∧ preserves_OutFfnS_OutFfnSIdeal
    ∧ algebraic_OutFfnSIdeal_OutFfnSRefIdeal (hOutFfnSIdeal := hOutFfnSIdeal) (hOutFfnSRefIdeal := hOutFfnSRefIdeal)
-- ==== Pre_finite.lean ====
abbrev S16384x2944 : Shape := ⟨2, ![16384, 2944]⟩
abbrev S1x128 : Shape := ⟨2, ![1, 128]⟩
abbrev S16384x4 : Shape := ⟨2, ![16384, 4]⟩
abbrev S_ : Shape := ⟨0, ![]⟩
abbrev S1x4 : Shape := ⟨2, ![1, 4]⟩

class Facts : Prop where
  slices_S16384x2944_S16384x4_0_2816 : S16384x2944.Slices ![0, 2816] S16384x4
  bcast_S_S16384x4 : S_.BroadcastsInDim S16384x4 (![] : Fin 0 → Fin S16384x4.rank)
  slices_S1x128_S1x4_0_0 : S1x128.Slices ![0, 0] S1x4
  bcast_S_S1x4 : S_.BroadcastsInDim S1x4 (![] : Fin 0 → Fin S1x4.rank)

variable [Facts]

def fn {F : FTy → Type} [FloatOps F] (main_arg0 : FVec F S16384x2944 .f32) (main_arg1 : FVec F S1x128 .f32) : IVec S16384x4 1 × IVec S1x4 1 :=
  let main_v0 : FVec F S16384x4 .f32 := (extractStridedSlice S16384x4 ![0, 2816] · slices_S16384x2944_S16384x4_0_2816) main_arg0
  let main_v1 : FVec F S16384x4 .f32 := Host.absf main_v0
  let main_cst : FVec F S_ .f32 := constant S_ .f32 0x7F800000#32
  let main_v2 : FVec F S16384x4 .f32 := broadcastInDim S16384x4 ![] bcast_S_S16384x4 main_cst
  let main_v3 : IVec S16384x4 1 := cmpf .olt main_v1 main_v2
  let main_v4 : FVec F S1x4 .f32 := (extractStridedSlice S1x4 ![0, 0] · slices_S1x128_S1x4_0_0) main_arg1
  let main_v5 : FVec F S1x4 .f32 := Host.absf main_v4
  let main_cst_0 : FVec F S_ .f32 := constant S_ .f32 0x7F800000#32
  let main_v6 : FVec F S1x4 .f32 := broadcastInDim S1x4 ![] bcast_S_S1x4 main_cst_0
  let main_v7 : IVec S1x4 1 := cmpf .olt main_v5 main_v6
  (main_v3, main_v7)
-- ==== Pre_tables.lean ====
abbrev S36 : Shape := ⟨1, ![36]⟩
abbrev S16384x512 : Shape := ⟨2, ![16384, 512]⟩
abbrev S4x256x4096 : Shape := ⟨3, ![4, 256, 4096]⟩
abbrev S256x1 : Shape := ⟨2, ![256, 1]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn {F : FTy → Type} [FloatOps F] (main_arg0 : IVec S36 32) (main_arg1 : IVec S36 32) (main_arg2 : FVec F S16384x512 .bf16) (main_arg3 : FVec F S16384x512 .bf16) (main_arg4 : FVec F S4x256x4096 .bf16) (main_arg5 : FVec F S256x1 .f32) : IVec S36 1 × IVec S36 1 × IVec S16384x512 1 × IVec S16384x512 1 :=
  let main_c : IVec S36 32 := fun i => lit0 (S36.rowMajor i)
  let main_c_0 : IVec S36 32 := fun i => lit1 (S36.rowMajor i)
  let main_v0 : IVec S36 1 := cmpi .eq main_arg0 main_c
  let main_v1 : IVec S36 1 := cmpi .eq main_arg1 main_c_0
  let main_v2 : FVec F S16384x512 .f32 := (extf .f32 · bitsLt_bf16_f32) main_arg2
  let main_v3 : FVec F S16384x512 .f32 := Host.absf main_v2
  let main_cst : FVec F S_ .f32 := constant S_ .f32 0x7F800000#32
  let main_v4 : FVec F S16384x512 .f32 := broadcastInDim S16384x512 ![] bcast_S_S16384x512 main_cst
  let main_v5 : IVec S16384x512 1 := cmpf .olt main_v3 main_v4
  let main_v6 : FVec F S16384x512 .f32 := (extf .f32 · bitsLt_bf16_f32) main_arg3
  let main_v7 : FVec F S16384x512 .f32 := Host.absf main_v6
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  (main_v0, main_v1, main_v5, main_v9)
-- ==== Attn.lean ====
abbrev S36 : Shape := ⟨1, ![36]⟩
abbrev S16384x512 : Shape := ⟨2, ![16384, 512]⟩
abbrev S4x256x4096 : Shape := ⟨3, ![4, 256, 4096]⟩
abbrev S256x1 : Shape := ⟨2, ![256, 1]⟩
abbrev S16384x256 : Shape := ⟨2, ![16384, 256]⟩
abbrev S512x512 : Shape := ⟨2, ![512, 512]⟩
abbrev S1 : Shape := ⟨1, ![1]⟩
abbrev S1x256x512 : Shape := ⟨3, ![1, 256, 512]⟩
abbrev S512x256 : Shape := ⟨2, ![512, 256]⟩
abbrev S4x1x512 : Shape := ⟨3, ![4, 1, 512]⟩
abbrev S4x64x512 : Shape := ⟨3, ![4, 64, 512]⟩
abbrev S4x512x512 : Shape := ⟨3, ![4, 512, 512]⟩
abbrev S512x128 : Shape := ⟨2, ![512, 128]⟩
abbrev S1x512x512 : Shape := ⟨3, ![1, 512, 512]⟩
abbrev S1x1x512 : Shape := ⟨3, ![1, 1, 512]⟩
abbrev S1x512 : Shape := ⟨2, ![1, 512]⟩
abbrev S512 : Shape := ⟨1, ![512]⟩
abbrev S1x64x512 : Shape := ⟨3, ![1, 64, 512]⟩
abbrev S64x512 : Shape := ⟨2, ![64, 512]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S4x256x4096, .bf16⟩
  | .hbm, ⟨3, _⟩ => ⟨S256x1, .f32⟩
  | .hbm, ⟨4, _⟩ => ⟨S16384x256, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x1, .f32⟩
  | .local _ .vmem, ⟨7, _⟩ => ⟨S512x256, .f32⟩
  | .local _ .vmem, ⟨8, _⟩ => ⟨S512x256, .f32⟩
  | .local _ .vmem, ⟨9, _⟩ => ⟨S4x1x512, .f32⟩
  | .local _ .vmem, ⟨10, _⟩ => ⟨S4x1x512, .f32⟩
  | .local _ .vmem, ⟨11, _⟩ => ⟨S4x64x512, .f32⟩
  | .local _ .vmem, ⟨12, _⟩ => ⟨S4x512x512, .f32⟩
  | .local _ .smem, ⟨0, _⟩ => ⟨S36, .i32⟩
  | .local _ .smem, ⟨1, _⟩ => ⟨S36, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond4 (v1 : BitVec 32) (v3 : BitVec 32) : BitVec 1 :=
  let c1_i32 : BitVec 32 := 1#32
  let v7 : BitVec 32 := Scalar.muli v1 c1_i32
  let v8 : BitVec 32 := Scalar.subi v3 v7
  let c0_i32_5 : BitVec 32 := 0#32
  let v15 : BitVec 1 := Scalar.cmpi .eq v8 c0_i32_5
  let v16 : BitVec 32 := Scalar.extui v15
  let c0_i32_6 : BitVec 32 := 0#32
  let v17 : BitVec 1 := Scalar.cmpi .ne v16 c0_i32_6
  v17

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "neg" => some ⊥
  | _ => none
-- ==== AttnRefIdeal.lean ====
abbrev S36 : Shape := ⟨1, ![36]⟩
abbrev S16384x512 : Shape := ⟨2, ![16384, 512]⟩
abbrev S4x256x4096 : Shape := ⟨3, ![4, 256, 4096]⟩
abbrev S256x1 : Shape := ⟨2, ![256, 1]⟩
abbrev S4x4096x4x128 : Shape := ⟨4, ![4, 4096, 4, 128]⟩
abbrev S4x4x64x4096 : Shape := ⟨4, ![4, 4, 64, 4096]⟩
abbrev S4x4x4096x4096 : Shape := ⟨4, ![4, 4, 4096, 4096]⟩
abbrev S_ : Shape := ⟨0, ![]⟩
abbrev S4x4x4096 : Shape := ⟨3, ![4, 4, 4096]⟩
abbrev S4x4x4096x1 : Shape := ⟨4, ![4, 4, 4096, 1]⟩
abbrev S4x4096x4x64 : Shape := ⟨4, ![4, 4096, 4, 64]⟩
abbrev S16384x256 : Shape := ⟨2, ![16384, 256]⟩
abbrev S256 : Shape := ⟨1, ![256]⟩
abbrev S16384 : Shape := ⟨1, ![16384]⟩
abbrev S16384x1 : Shape := ⟨2, ![16384, 1]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S16384x512, .bf16⟩
  | .hbm, ⟨3, _⟩ => ⟨S16384x512, .bf16⟩
  | .hbm, ⟨4, _⟩ => ⟨S4x256x4096, .bf16⟩
  | .hbm, ⟨5, _⟩ => ⟨S256x1, .f32⟩
  | .hbm, ⟨6, _⟩ => ⟨S16384x512, .f32⟩
  | .hbm, ⟨7, _⟩ => ⟨S4x4096x4x128, .f32⟩
  | .hbm, ⟨8, _⟩ => ⟨S16384x512, .f32⟩
  | .hbm, ⟨9, _⟩ => ⟨S4x4096x4x128, .f32⟩
  | .hbm, ⟨10, _⟩ => ⟨S4x256x4096, .f32⟩
  | .hbm, ⟨11, _⟩ => ⟨S4x4x64x4096, .f32⟩
  | .hbm, ⟨12, _⟩ => ⟨S4x4x4096x4096, .f32⟩
  | .hbm, ⟨13, _⟩ => ⟨S4x4x4096x4096, .i32⟩
  | .hbm, ⟨14, _⟩ => ⟨S4x4x4096x4096, .i32⟩
  | .hbm, ⟨15, _⟩ => ⟨S4x4x4096x4096, .i1⟩
  | .hbm, ⟨16, _⟩ => ⟨S_, .f32⟩
  | .hbm, ⟨17, _⟩ => ⟨S_, .f32⟩
  | .hbm, ⟨18, _⟩ => ⟨S4x4x4096x4096, .f32⟩
  | .hbm, ⟨19, _⟩ => ⟨S4x4x4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4x4096, .f32⟩
  | .hbm, ⟨24, _⟩ => ⟨S4x4x4096x1, .f32⟩
  | .hbm, ⟨25, _⟩ => ⟨S4x4x4096x4096, .f32⟩
  | .hbm, ⟨26, _⟩ => ⟨S4x4x4096x4096, .f32⟩
  | .hbm, ⟨27, _⟩ => ⟨S_, .f32⟩
  | .hbm, ⟨28, _⟩ => ⟨S4x4x4096x4096, .f32⟩
  | .hbm, ⟨29, _⟩ => ⟨S4x4x4096x4096, .f32⟩
  | .hbm, ⟨30, _⟩ => ⟨S4x4x4096x4096, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x4096, .f32⟩
  | .hbm, ⟨35, _⟩ => ⟨S4x4x4096x4096, .f32⟩
  | .hbm, ⟨36, _⟩ => ⟨S4x4x64x4096, .f32⟩
  | .hbm, ⟨37, _⟩ => ⟨S4x4096x4x64, .f32⟩
  | .hbm, ⟨38, _⟩ => ⟨S16384x256, .f32⟩
  | .hbm, ⟨39, _⟩ => ⟨S256, .f32⟩
  | .hbm, ⟨40, _⟩ => ⟨S16384x256, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x256, .f32⟩
  | .hbm, ⟨52, _⟩ => ⟨S16384x256, .f32⟩
  | .hbm, ⟨53, _⟩ => ⟨S1x256, .f32⟩
  | .hbm, ⟨54, _⟩ => ⟨S16384x256, .f32⟩
  | .hbm, ⟨55, _⟩ => ⟨S16384x256, .f32⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x2824 : Shape := ⟨2, ![1024, 2824]⟩
abbrev S1x1024 : Shape := ⟨2, ![1, 1024]⟩
abbrev S1024x1024 : Shape := ⟨2, ![1024, 1024]⟩
abbrev S1024x768 : Shape := ⟨2, ![1024, 768]⟩
abbrev S1024x4 : Shape := ⟨2, ![1024, 4]⟩
abbrev S_ : Shape := ⟨0, ![]⟩
abbrev S1024x120 : Shape := ⟨2, ![1024, 120]⟩
abbrev S1024x2944 : Shape := ⟨2, ![1024, 2944]⟩
abbrev S16384x2944 : Shape := ⟨2, ![16384, 2944]⟩
abbrev S512x1024 : Shape := ⟨2, ![512, 1024]⟩
abbrev S512x2944 : Shape := ⟨2, ![512, 2944]⟩
abbrev S512 : Shape := ⟨1, ![512]⟩
abbrev S512x1 : Shape := ⟨2, ![512, 1]⟩

abbrev nBuf : Space → Nat
  | .hbm => 14
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2824, .f32⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S1024x768, .f32⟩
  | .hbm, ⟨7, _⟩ => ⟨S1024x4, .f32⟩
  | .hbm, ⟨8, _⟩ => ⟨S1024x4, .f32⟩
  | .hbm, ⟨9, _⟩ => ⟨S_, .f32⟩
  | .hbm, ⟨10, _⟩ => ⟨S1024x120, .f32⟩
  | .hbm, ⟨11, _⟩ => ⟨S1024x2944, .f32⟩
  | .hbm, ⟨12, _⟩ => ⟨S1024x2944, .bf16⟩
  | .hbm, ⟨13, _⟩ => ⟨S16384x2944, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x2944, .f32⟩
  | .local _ .vmem, ⟨5, _⟩ => ⟨S512x2944, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProjRefIdeal.lean ====
abbrev S16384x1024 : Shape := ⟨2, ![16384, 1024]⟩
abbrev S1024 : Shape := ⟨1, ![1024]⟩
abbrev S1024x2824 : Shape := ⟨2, ![1024, 2824]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2824 : Shape := ⟨2, ![16384, 2824]⟩
abbrev S16384x768 : Shape := ⟨2, ![16384, 768]⟩
abbrev S16384x4 : Shape := ⟨2, ![16384, 4]⟩
abbrev S16384x120 : Shape := ⟨2, ![16384, 120]⟩
abbrev S16384x2944 : Shape := ⟨2, ![16384, 2944]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2824, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2824, .f32⟩
  | .hbm, ⟨20, _⟩ => ⟨S16384x1024, .f32⟩
  | .hbm, ⟨21, _⟩ => ⟨S16384x1024, .f32⟩
  | .hbm, ⟨22, _⟩ => ⟨S16384x768, .f32⟩
  | .hbm, ⟨23, _⟩ => ⟨S16384x4, .f32⟩
  | .hbm, ⟨24, _⟩ => ⟨S16384x4, .f32⟩
  | .hbm, ⟨25, _⟩ => ⟨S_, .f32⟩
  | .hbm, ⟨26, _⟩ => ⟨S16384x120, .f32⟩
  | .hbm, ⟨27, _⟩ => ⟨S16384x2944, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== FoxPrep.lean ====
abbrev S16384x2944 : Shape := ⟨2, ![16384, 2944]⟩
abbrev S1x128 : Shape := ⟨2, ![1, 128]⟩
abbrev S16384x128 : Shape := ⟨2, ![16384, 128]⟩
abbrev S16384x512 : Shape := ⟨2, ![16384, 512]⟩
abbrev S4x256x4096 : Shape := ⟨3, ![4, 256, 4096]⟩
abbrev S512x128 : Shape := ⟨2, ![512, 128]⟩
abbrev S512x256 : Shape := ⟨2, ![512, 256]⟩
abbrev S512x512 : Shape := ⟨2, ![512, 512]⟩
abbrev S1x256x512 : Shape := ⟨3, ![1, 256, 512]⟩
abbrev S256x512 : Shape := ⟨2, ![256, 512]⟩
abbrev S1x512 : Shape := ⟨2, ![1, 512]⟩
abbrev S512x1 : Shape := ⟨2, ![512, 1]⟩

abbrev nBuf : Space → Nat
  | .hbm => 8
  | .vmem => 22
  | .smem => 0
  | _ => 0

abbrev bufTy : (tb : Table) → Fin (tcTables nBuf tb) → BufTy
  | .hbm, ⟨0, _⟩ => ⟨S16384x2944, .f32⟩
  | .hbm, ⟨1, _⟩ => ⟨S1x128, .f32⟩
  | .hbm, ⟨2, _⟩ => ⟨S16384x128, .f32⟩
  | .hbm, ⟨3, _⟩ => ⟨S16384x512, .bf16⟩
  | .hbm, ⟨4, _⟩ => ⟨S16384x512, .bf16⟩
  | .hbm, ⟨5, _⟩ => ⟨S4x256x4096, .f32⟩
  | .hbm, ⟨6, _⟩ => ⟨S4x256x4096, .f32⟩
  | .hbm, ⟨7, _⟩ => ⟨S4x256x4096, .bf16⟩
  | .local _ .vmem, ⟨0, _⟩ => ⟨S512x128, .f32⟩
  | .local _ .vmem, ⟨1, _⟩ => ⟨S512x128, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .bf16⟩
  | .local _ .vmem, ⟨20, _⟩ => ⟨S1x256x512, .bf16⟩
  | .local _ .vmem, ⟨21, _⟩ => ⟨S1x128, .f32⟩
  | _, _ => ⟨S16384x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c22_i32 : BitVec 32 := 22#32
  let c0_i32 : BitVec 32 := 0#32
  ![v1.toNat, c22_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FoxPrepRefIdeal.lean ====
abbrev S16384x2944 : Shape := ⟨2, ![16384, 2944]⟩
abbrev S1x128 : Shape := ⟨2, ![1, 128]⟩
abbrev S16384x256 : Shape := ⟨2, ![16384, 256]⟩
abbrev S16384x128 : Shape := ⟨2, ![16384, 128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16384x4 : Shape := ⟨2, ![16384, 4]⟩
abbrev S4x4096x4 : Shape := ⟨3, ![4, 4096, 4]⟩
abbrev S4x4x4096 : Shape := ⟨3, ![4, 4, 4096]⟩
abbrev S16384x4x1 : Shape := ⟨3, ![16384, 4, 1]⟩
abbrev S16384x4x58 : Shape := ⟨3, ![16384, 4, 58]⟩
abbrev S16384x4x64 : Shape := ⟨3, ![16384, 4, 64]⟩
abbrev S16384x4x128 : Shape := ⟨3, ![16384, 4, 128]⟩
abbrev S16384x512 : Shape := ⟨2, ![16384, 512]⟩
abbrev S4x4096x256 : Shape := ⟨3, ![4, 4096, 256]⟩
abbrev S4x256x4096 : Shape := ⟨3, ![4, 256, 4096]⟩

abbrev nBuf : Space → Nat
  | .hbm => 67
  | .vmem => 0
  | .smem => 0
  | _ => 0

abbrev bufTy : (tb : Table) → Fin (tcTables nBuf tb) → BufTy
  | .hbm, ⟨0, _⟩ => ⟨S16384x2944, .f32⟩
  | .hbm, ⟨1, _⟩ => ⟨S1x128, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x128, .f32⟩
  | .hbm, ⟨6, _⟩ => ⟨S16384x128, .f32⟩
  | .hbm, ⟨7, _⟩ => ⟨S16384x128, .f32⟩
  | .hbm, ⟨8, _⟩ => ⟨S16384x128, .f32⟩
  | .hbm, ⟨9, _⟩ => ⟨S_, .f32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S16384x128, .f32⟩
  | .hbm, ⟨14, _⟩ => ⟨S16384x128, .i1⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S16384x4, .f32⟩
  | .hbm, ⟨37, _⟩ => ⟨S4x4096x4, .f32⟩
  | .hbm, ⟨38, _⟩ => ⟨S4x4x4096, .f32⟩
  | .hbm, ⟨39, _⟩ => ⟨S4x4096x4, .f32⟩
  | .hbm, ⟨40, _⟩ => ⟨S_, .f32⟩
  | .hbm, ⟨41, _⟩ => ⟨S4x4096x4, .f32⟩
  | .hbm, ⟨42, _⟩ => ⟨S4x4096x4, .f32⟩
  | .hbm, ⟨43, _⟩ => ⟨S16384x4x1, .f32⟩
  | .hbm, ⟨44, _⟩ => ⟨S_, .f32⟩
  | .hbm, ⟨45, _⟩ => ⟨S16384x4x1, .f32⟩
  | .hbm, ⟨46, _⟩ => ⟨S_, .f32⟩
  | .hbm, ⟨47, _⟩ => ⟨S16384x4x1, .f32⟩
  | .hbm, ⟨48, _⟩ => ⟨S_, .f32⟩
  | .hbm, ⟨49, _⟩ => ⟨S16384x4x58, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S16384x4x64, .f32⟩
  | .hbm, ⟨54, _⟩ => ⟨S16384x4x64, .f32⟩
  | .hbm, ⟨55, _⟩ => ⟨S16384x4x128, .f32⟩
  | .hbm, ⟨56, _⟩ => ⟨S16384x512, .f32⟩
  | .hbm, ⟨57, _⟩ => ⟨S16384x4x1, .f32⟩
  | .hbm, ⟨58, _⟩ => ⟨S16384x4x128, .f32⟩
  | .hbm, ⟨59, _⟩ => ⟨S16384x512, .f32⟩
  | .hbm, ⟨60, _⟩ => ⟨S4x4096x256, .f32⟩
  | .hbm, ⟨61, _⟩ => ⟨S4x256x4096, .f32⟩
  | .hbm, ⟨62, _⟩ => ⟨S4x4096x256, .f32⟩
  | .hbm, ⟨63, _⟩ => ⟨S4x256x4096, .f32⟩
  | .hbm, ⟨64, _⟩ => ⟨S16384x512, .bf16⟩
  | .hbm, ⟨65, _⟩ => ⟨S16384x512, .bf16⟩
  | .hbm, ⟨66, _⟩ => ⟨S4x256x4096, .bf16⟩
  | _, _ => ⟨S16384x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== OutFfn.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S16384x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutFfnRefIdeal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== LogfCum.lean ====
abbrev S128x2944 : Shape := ⟨2, ![128, 2944]⟩
abbrev S1x128 : Shape := ⟨2, ![1, 128]⟩
abbrev S128x128 : Shape := ⟨2, ![128, 128]⟩

abbrev nBuf : Space → Nat
  | .hbm => 4
  | .vmem => 5
  | .smem => 0
  | _ => 0

abbrev bufTy : (tb : Table) → Fin (tcTables nBuf tb) → BufTy
  | .hbm, ⟨0, _⟩ => ⟨S128x2944, .f32⟩
  | .hbm, ⟨1, _⟩ => ⟨S1x128, .f32⟩
  | .hbm, ⟨2, _⟩ => ⟨S128x128, .f32⟩
  | .hbm, ⟨3, _⟩ => ⟨S128x128, .f32⟩
  | .local _ .vmem, ⟨0, _⟩ => ⟨S128x128, .f32⟩
  | .local _ .vmem, ⟨1, _⟩ => ⟨S1x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | _, _ => ⟨S128x2944, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c22_i32 : BitVec 32 := 22#32
  let c0_i32 : BitVec 32 := 0#32
  ![v1.toNat, c22_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== LogfCumRefIdeal.lean ====
abbrev S128x2944 : Shape := ⟨2, ![128, 2944]⟩
abbrev S1x128 : Shape := ⟨2, ![1, 128]⟩
abbrev S128x128 : Shape := ⟨2, ![128, 128]⟩
abbrev S_ : Shape := ⟨0, ![]⟩
abbrev S128 : Shape := ⟨1, ![128]⟩
abbrev S128x1 : Shape := ⟨2, ![128, 1]⟩

abbrev nBuf : Space → Nat
  | .hbm => 34
  | .vmem => 0
  | .smem => 0
  | _ => 0

abbrev bufTy : (tb : Table) → Fin (tcTables nBuf tb) → BufTy
  | .hbm, ⟨0, _⟩ => ⟨S128x2944, .f32⟩
  | .hbm, ⟨1, _⟩ => ⟨S1x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .i1⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128, .i32⟩
  | .hbm, ⟨22, _⟩ => ⟨S1x128, .i32⟩
  | .hbm, ⟨23, _⟩ => ⟨S128, .i32⟩
  | .hbm, ⟨24, _⟩ => ⟨S128x1, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S_, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | _, _ => ⟨S128x2944, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== InProjS.lean ====
abbrev S128x1024 : Shape := ⟨2, ![128, 1024]⟩
abbrev S1024 : Shape := ⟨1, ![1024]⟩
abbrev S1024x2824 : Shape := ⟨2, ![1024, 2824]⟩
abbrev S1x1024 : Shape := ⟨2, ![1, 1024]⟩
abbrev S1024x1024 : Shape := ⟨2, ![1024, 1024]⟩
abbrev S1024x768 : Shape := ⟨2, ![1024, 768]⟩
abbrev S1024x4 : Shape := ⟨2, ![1024, 4]⟩
abbrev S_ : Shape := ⟨0, ![]⟩
abbrev S1024x120 : Shape := ⟨2, ![1024, 120]⟩
abbrev S1024x2944 : Shape := ⟨2, ![1024, 2944]⟩
abbrev S128x2944 : Shape := ⟨2, ![128, 2944]⟩
abbrev S128 : Shape := ⟨1, ![128]⟩
abbrev S128x1 : Shape := ⟨2, ![128, 1]⟩
abbrev S128x256 : Shape := ⟨2, ![128, 256]⟩

abbrev nBuf : Space → Nat
  | .hbm => 16
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2824, .f32⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S1024x768, .f32⟩
  | .hbm, ⟨7, _⟩ => ⟨S1024x4, .f32⟩
  | .hbm, ⟨8, _⟩ => ⟨S1024x4, .f32⟩
  | .hbm, ⟨9, _⟩ => ⟨S_, .f32⟩
  | .hbm, ⟨10, _⟩ => ⟨S1024x120, .f32⟩
  | .hbm, ⟨11, _⟩ => ⟨S1024x2944, .f32⟩
  | .hbm, ⟨12, _⟩ => ⟨S1024x2944, .bf16⟩
  | .hbm, ⟨13, _⟩ => ⟨S128x2944, .f32⟩
  | .hbm, ⟨14, _⟩ => ⟨S128x256, .f32⟩
  | .hbm, ⟨15, _⟩ => ⟨S128x256, .f32⟩
  | .local _ .vmem, ⟨0, _⟩ => ⟨S128x1024, .f32⟩
  | .local _ .vmem, ⟨1, _⟩ => ⟨S1x1024, .f32⟩
  | .local _ .vmem, ⟨2, _⟩ => ⟨S1024x2944, .bf16⟩
  | .local _ .vmem, ⟨3, _⟩ => ⟨S128x2944, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== InProjSRefIdeal.lean ====
abbrev S128x1024 : Shape := ⟨2, ![128, 1024]⟩
abbrev S1024 : Shape := ⟨1, ![1024]⟩
abbrev S1024x2824 : Shape := ⟨2, ![1024, 2824]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2824 : Shape := ⟨2, ![128, 2824]⟩
abbrev S128x768 : Shape := ⟨2, ![128, 768]⟩
abbrev S128x4 : Shape := ⟨2, ![128, 4]⟩
abbrev S128x120 : Shape := ⟨2, ![128, 120]⟩
abbrev S128x2944 : Shape := ⟨2, ![128, 2944]⟩
abbrev S128x256 : Shape := ⟨2, ![128, 256]⟩

abbrev nBuf : Space → Nat
  | .hbm => 30
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x2824, .f32⟩
  | .hbm, ⟨3, _⟩ => ⟨S128x1024, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x1024, .f32⟩
  | .hbm, ⟨15, _⟩ => ⟨S128x1024, .f32⟩
  | .hbm, ⟨16, _⟩ => ⟨S1x1024, .f32⟩
  | .hbm, ⟨17, _⟩ => ⟨S128x1024, .f32⟩
  | .hbm, ⟨18, _⟩ => ⟨S128x1024, .f32⟩
  | .hbm, ⟨19, _⟩ => ⟨S128x2824, .f32⟩
  | .hbm, ⟨20, _⟩ => ⟨S128x1024, .f32⟩
  | .hbm, ⟨21, _⟩ => ⟨S128x1024, .f32⟩
  | .hbm, ⟨22, _⟩ => ⟨S128x768, .f32⟩
  | .hbm, ⟨23, _⟩ => ⟨S128x4, .f32⟩
  | .hbm, ⟨24, _⟩ => ⟨S128x4, .f32⟩
  | .hbm, ⟨25, _⟩ => ⟨S_, .f32⟩
  | .hbm, ⟨26, _⟩ => ⟨S128x120, .f32⟩
  | .hbm, ⟨27, _⟩ => ⟨S128x2944, .f32⟩
  | .hbm, ⟨28, _⟩ => ⟨S128x256, .f32⟩
  | .hbm, ⟨29, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== OutFfnS.lean ====
abbrev S128x1024 : Shape := ⟨2, ![128, 1024]⟩
abbrev S128x256 : Shape := ⟨2, ![128, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S128 : Shape := ⟨1, ![128]⟩
abbrev S128x1 : Shape := ⟨2, ![128, 1]⟩

abbrev nBuf : Space → Nat
  | .hbm => 17
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S128x1024, .f32⟩
  | .hbm, ⟨16, _⟩ => ⟨S128x1024, .f32⟩
  | .local _ .vmem, ⟨0, _⟩ => ⟨S128x1024, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S1024x1024, .bf16⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== OutFfnSRefIdeal.lean ====
abbrev S128x1024 : Shape := ⟨2, ![128, 1024]⟩
abbrev S128x256 : Shape := ⟨2, ![128, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x4096 : Shape := ⟨2, ![128, 4096]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | .hbm, ⟨29, _⟩ => ⟨S128x4096, .f32⟩
  | .hbm, ⟨30, _⟩ => ⟨S_, .f32⟩
  | .hbm, ⟨31, _⟩ => ⟨S128x4096, .f32⟩
  | .hbm, ⟨32, _⟩ => ⟨S128x4096, .f32⟩
  | .hbm, ⟨33, _⟩ => ⟨S128x4096, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S128x1, .f32⟩
  | .hbm, ⟨47, _⟩ => ⟨S128x1024, .f32⟩
  | .hbm, ⟨48, _⟩ => ⟨S128x1024, .f32⟩
  | .hbm, ⟨49, _⟩ => ⟨S1x1024, .f32⟩
  | .hbm, ⟨50, _⟩ => ⟨S128x1024, .f32⟩
  | .hbm, ⟨51, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Proof.AttnPre.lean ====
/-
The precondition of the attention, read: the two tables are the causal schedule's, and every
entry of the queries and of the keys is finite.
-/
module

public import proofs.«01_k».proof.Defs
public import proofs.«01_k».proof.Proof.Gen.Pre_tables
public import proofs.«01_k».proof.Proof.Gen.Attn.Flash
public import proofs.«01_k».proof.Proof.Gen.AttnIdeal.Flash
public import Idealize.ShloMosaic.Lib.Pointwise

@[expose] public section

set_option maxRecDepth 16384

noncomputable section

open Idealize.ShloMosaic Idealize.ShloMosaic.TcCoe Idealize.SL.Sem

namespace Cert.AttnPre

/-- The bits of an equality test of two words are set exactly when the words are equal. -/
theorem eq_of_cmpi {s : Shape} (x y : IVec s 32) (h : cmpi .eq x y = fun _ => 1#1) : x = y := by
  funext i
  have e := congrFun h i
  by_contra hne
  have : cmpi .eq x y i = 0#1 := by simp [cmpi, IntOp.cmpi, beq_eq_false_iff_ne.mpr hne]
  rw [this] at e
  exact absurd e (by decide)

/-- The launch memory the precondition allows holds the schedule's tables. -/
theorem pinned (m : (ℓ : Loc Cert.Attn.nD Cert.Attn.τ Cert.Attn.sig) → Buf (Elt Bits) ℓ)
    (h : Cert.Pre_Attn (hPre_tables := Cert.Pre_tables.Gen.facts) m) : Cert.Attn.Gen.Pinned 0 m := by
  refine ⟨fun c => ?_, fun c => ?_⟩
  · exact (eq_of_cmpi _ _ (h c).1).trans (by funext i; revert i; decide +kernel)
  · exact (eq_of_cmpi _ _ (h c).2.1).trans (by funext i; revert i; decide +kernel)

/-- The same for the idealized program. -/
theorem pinnedIdeal (m : (ℓ : Loc Cert.AttnIdeal.nD Cert.AttnIdeal.τ Cert.AttnIdeal.sig) → Buf (Elt Ideal) ℓ)
    (h : Cert.Pre_AttnIdeal (hPre_tables := Cert.Pre_tables.Gen.facts) m) : Cert.AttnIdeal.Gen.Pinned 0 m := by
  refine ⟨fun c => ?_, fun c => ?_⟩
  · exact (eq_of_cmpi _ _ (h c).1).trans (by funext i; revert i; decide +kernel)
  · exact (eq_of_cmpi _ _ (h c).2.1).trans (by funext i; revert i; decide +kernel)

/-- An extended real whose magnitude lies below infinity is a real. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  have hlt : max x (-x) < ⊤ := by
    by_contra hn
    simp only [Ideal.cmp, hn, decide_false, BitVec.ofBool_false] at h
    exact absurd h (by decide)
  induction x with
  | bot => simp at hlt
  | top => simp at hlt
  | coe r => exact ⟨r, rfl⟩

/-- Every entry of the queries is a real number. -/
theorem query_real (m : (ℓ : Loc Cert.AttnIdeal.nD Cert.AttnIdeal.τ Cert.AttnIdeal.sig) → Buf (Elt Ideal) ℓ)
    (h : Cert.Pre_AttnIdeal (hPre_tables := Cert.Pre_tables.Gen.facts) m) (c : Dev Cert.AttnIdeal.nD) (i : Cert.AttnIdeal.S16384x512.Idx) :
    ∃ r : ℝ, ((m ((c.tc : Thread Cert.AttnIdeal.nD Cert.AttnIdeal.τ).loc Cert.AttnIdeal.main_arg2) : FVec Ideal Cert.AttnIdeal.S16384x512 .bf16) i : EReal) = ((r : ℝ) : EReal) :=
  real_of_lt _ (congrFun (h c).2.2.1 i)

/-- Every entry of the keys is a real number. -/
theorem key_real (m : (ℓ : Loc Cert.AttnIdeal.nD Cert.AttnIdeal.τ Cert.AttnIdeal.sig) → Buf (Elt Ideal) ℓ)
    (h : Cert.Pre_AttnIdeal (hPre_tables := Cert.Pre_tables.Gen.facts) m) (c : Dev Cert.AttnIdeal.nD) (i : Cert.AttnIdeal.S16384x512.Idx) :
    ∃ r : ℝ, ((m ((c.tc : Thread Cert.AttnIdeal.nD Cert.AttnIdeal.τ).loc Cert.AttnIdeal.main_arg3) : FVec Ideal Cert.AttnIdeal.S16384x512 .bf16) i : EReal) = ((r : ℝ) : EReal) :=
  real_of_lt _ (congrFun (h c).2.2.2 i)

end Cert.AttnPre

end
-- ==== Proof.AttnMath.lean ====
/-
The running softmax as mathematics: maxima, sums and weighted sums over a growing range of
blocks of scores, how one more block updates them, and what they say of the whole row.
-/
module

public import Idealize.ShloMosaic.Lib.Pipeline.ValueKit
public import Idealize.ShloMosaic.Lib.Pointwise

@[expose] public section

noncomputable section

open Idealize.ShloMosaic

namespace Cert.AttnMath

/-- A nonnegative real goes through a sum. -/
theorem mul_sum_real {ι : Type} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- Nothing less anything is nothing. -/
theorem bot_sub' (x : EReal) : (⊥ : EReal) - x = ⊥ := by
  rw [sub_eq_add_neg]
  exact EReal.bot_add _

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A number below `⊤` less a real is below `⊤`. -/
theorem sub_ne_top (x y : EReal) (hx : x ≠ ⊤) (hy : y ≠ ⊥) : x - y ≠ ⊤ := by
  induction x using EReal.rec with
  | top => exact absurd rfl hx
  | bot => rw [bot_sub']; exact bot_ne_top
  | coe x =>
    induction y using EReal.rec with
    | bot => exact absurd rfl hy
    | top => rw [show ((x : EReal) - ⊤) = ⊥ from EReal.sub_top _]; exact bot_ne_top
    | coe y => rw [← EReal.coe_sub]; exact EReal.coe_ne_top _

/-- A power of two of anything below `⊤` is a nonnegative real. -/
theorem exp2_real (x : EReal) (hx : x ≠ ⊤) : ∃ r : ℝ, 0 ≤ r ∧ Ideal.exp2 x = (r : EReal) := by
  induction x using EReal.rec with
  | bot => exact ⟨0, le_refl _, rfl⟩
  | top => exact absurd rfl hx
  | coe r => exact ⟨Real.rpow 2 r, Real.rpow_nonneg (by norm_num) r, rfl⟩

/-- Two to a difference, through a third number. -/
theorem exp2_shift (s a b : EReal) (hs : s ≠ ⊤) (hsa : s ≤ a) (ha : a ≠ ⊤) (hb : b ≠ ⊤) (hb' : b ≠ ⊥) :
    Ideal.exp2 (a - b) * Ideal.exp2 (s - a) = Ideal.exp2 (s - b) := by
  induction s using EReal.rec with
  | top => exact absurd rfl hs
  | bot =>
    rw [bot_sub', bot_sub', Ideal.exp2_bot, mul_zero]
  | coe s =>
    induction a using EReal.rec with
    | top => exact absurd rfl ha
    | bot => exact absurd (le_bot_iff.mp hsa) (EReal.coe_ne_bot s)
    | coe a =>
      induction b using EReal.rec with
      | top => exact absurd rfl hb
      | bot => exact absurd rfl hb'
      | coe b =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (s - a) = (2 : ℝ) ^ (s - b)
        rw [← Real.rpow_add (by norm_num)]
        congr 1
        ring

section
variable (s v : ℕ → Fin 512 → EReal)

/-- The greatest score of the first `n` blocks. -/
def Mx (n : ℕ) : EReal := (Finset.range n).sup fun i => Finset.univ.sup fun r => s i r
/-- The sum of the powers of two of the first `n` blocks. -/
def Lx (n : ℕ) : EReal := ∑ i ∈ Finset.range n, ∑ r : Fin 512, Ideal.exp2 (s i r - Mx s n)
/-- The weighted sum of the values of the first `n` blocks. -/
def Ax (n : ℕ) : EReal := ∑ i ∈ Finset.range n, ∑ r : Fin 512, v i r * Ideal.exp2 (s i r - Mx s n)

/-- No block: minus infinity. -/
theorem Mx_zero : Mx s 0 = ⊥ := rfl
/-- No block: the sum is zero. -/
theorem Lx_zero : Lx s 0 = 0 := rfl
/-- No block: the weighted sum is zero. -/
theorem Ax_zero : Ax s v 0 = 0 := rfl

/-- One more block: the maximum. -/
theorem Mx_succ (n : ℕ) : Mx s (n + 1) = max (Mx s n) (Finset.univ.sup fun r => s n r) := by
  unfold Mx
  rw [Finset.range_add_one, Finset.sup_insert, sup_comm]

/-- A block's score lies below the maximum. -/
theorem le_Mx (n i : ℕ) (hi : i < n) (r : Fin 512) : s i r ≤ Mx s n :=
  le_trans (Finset.le_sup (f := fun r => s i r) (Finset.mem_univ r))
    (Finset.le_sup (f := fun i => Finset.univ.sup fun r => s i r) (Finset.mem_range.mpr hi))

/-- The maximum is not plus infinity. -/
theorem Mx_ne_top (hs : ∀ i r, s i r ≠ ⊤) (n : ℕ) : Mx s n ≠ ⊤ := by
  refine ne_of_lt ((Finset.sup_lt_iff bot_lt_top).mpr fun i _ => (Finset.sup_lt_iff bot_lt_top).mpr fun r _ => lt_top_iff_ne_top.mpr (hs i r))

/-- The maximum is not minus infinity once the first key is read. -/
theorem Mx_ne_bot (h0 : s 0 0 ≠ ⊥) (n : ℕ) (hn : 0 < n) : Mx s n ≠ ⊥ := fun h =>
  h0 (le_bot_iff.mp (h ▸ le_Mx s n 0 hn 0))

/-- The step's factor is a nonnegative real. -/
theorem factor (hs : ∀ i r, s i r ≠ ⊤) (h0 : s 0 0 ≠ ⊥) (n : ℕ) :
    ∃ a : ℝ, 0 ≤ a ∧ Ideal.exp2 (Mx s n - Mx s (n + 1)) = (a : EReal) := by
  exact exp2_real _ (sub_ne_top _ _ (Mx_ne_top s hs n) (Mx_ne_bot s h0 (n + 1) (Nat.succ_pos n)))

/-- One more block: the sum. -/
theorem Lx_succ (hs : ∀ i r, s i r ≠ ⊤) (h0 : s 0 0 ≠ ⊥) (n : ℕ) :
    Ideal.exp2 (Mx s n - Mx s (n + 1)) * Lx s n + ∑ r : Fin 512, Ideal.exp2 (s n r - Mx s (n + 1)) = Lx s (n + 1) := by
  obtain ⟨a, ha, ea⟩ := factor s hs h0 n
  have hM := Mx_ne_top s hs (n + 1)
  have hM' := Mx_ne_bot s h0 (n + 1) (Nat.succ_pos n)
  unfold Lx
  rw [Finset.sum_range_succ _ n, ea, mul_sum_real a ha]
  congr 1
  refine Finset.sum_congr rfl fun i hi => ?_
  rw [mul_sum_real a ha]
  refine Finset.sum_congr rfl fun r _ => ?_
  rw [← ea]
  exact exp2_shift _ _ _ (hs i r) (le_Mx s n i (Finset.mem_range.mp hi) r) (Mx_ne_top s hs n) hM hM'

/-- One more block: the weighted sum. -/
theorem Ax_succ (hs : ∀ i r, s i r ≠ ⊤) (h0 : s 0 0 ≠ ⊥) (n : ℕ) :
    Ideal.exp2 (Mx s n - Mx s (n + 1)) * Ax s v n + ∑ r : Fin 512, v n r * Ideal.exp2 (s n r - Mx s (n + 1)) = Ax s v (n + 1) := by
  obtain ⟨a, ha, ea⟩ := factor s hs h0 n
  have hM := Mx_ne_top s hs (n + 1)
  have hM' := Mx_ne_bot s h0 (n + 1) (Nat.succ_pos n)
  unfold Ax
  rw [Finset.sum_range_succ _ n, ea, mul_sum_real a ha]
  congr 1
  refine Finset.sum_congr rfl fun i hi => ?_
  rw [mul_sum_real a ha]
  refine Finset.sum_congr rfl fun r _ => ?_
  rw [← ea, mul_left_comm]
  congr 1
  exact exp2_shift _ _ _ (hs i r) (le_Mx s n i (Finset.mem_range.mp hi) r) (Mx_ne_top s hs n) hM hM'

/-- The sum is a positive real. -/
theorem Lx_real (hs : ∀ i r, s i r ≠ ⊤) (h0 : s 0 0 ≠ ⊥) (n : ℕ) (hn : 0 < n) : ∃ L : ℝ, 0 < L ∧ Lx s n = (L : EReal) := by
  have hM := Mx_ne_top s hs n
  have hM' := Mx_ne_bot s h0 n hn
  obtain ⟨M, eM⟩ : ∃ M : ℝ, Mx s n = (M : EReal) := ⟨(Mx s n).toReal, (EReal.coe_toReal hM hM').symm⟩
  have hp : ∀ i r, ∃ x : ℝ, 0 ≤ x ∧ Ideal.exp2 (s i r - Mx s n) = (x : EReal) := by
    intro i r
    exact exp2_real _ (sub_ne_top _ _ (hs i r) hM')
  choose f hf ef using hp
  refine ⟨∑ i ∈ Finset.range n, ∑ r : Fin 512, f i r, ?_, ?_⟩
  · refine Finset.sum_pos' (fun i _ => Finset.sum_nonneg fun r _ => hf i r) ⟨0, Finset.mem_range.mpr hn, ?_⟩
    refine Finset.sum_pos' (fun r _ => hf 0 r) ⟨0, Finset.mem_univ _, ?_⟩
    have h := ef 0 0
    obtain ⟨y, ey⟩ : ∃ y : ℝ, s 0 0 = (y : EReal) := ⟨(s 0 0).toReal, (EReal.coe_toReal (hs 0 0) h0).symm⟩
    rw [ey, eM, ← EReal.coe_sub, Ideal.exp2_coe] at h
    rw [← EReal.coe_eq_coe_iff.mp h]
    exact Real.rpow_pos_of_pos (by norm_num) _
  · unfold Lx
    simp only [ef, coe_sum]

/-- The weighted sum over the sum is the sum of the values times the shares. -/
theorem Ax_div (hs : ∀ i r, s i r ≠ ⊤) (h0 : s 0 0 ≠ ⊥) (n : ℕ) (hn : 0 < n) :
    Ideal.div (Ax s v n) (Lx s n) = ∑ i ∈ Finset.range n, ∑ r : Fin 512, v i r * Ideal.div (Ideal.exp2 (s i r - Mx s n)) (Lx s n) := by
  obtain ⟨L, hL, eL⟩ := Lx_real s hs h0 n hn
  have hne : (L : EReal) ≠ 0 := by
    intro h; exact hL.ne' (EReal.coe_eq_zero.mp h)
  rw [eL]
  unfold Ideal.div
  simp only [if_neg hne]
  rw [← EReal.coe_inv, mul_comm]
  unfold Ax
  rw [mul_sum_real _ (inv_nonneg.mpr hL.le)]
  refine Finset.sum_congr rfl fun i _ => ?_
  rw [mul_sum_real _ (inv_nonneg.mpr hL.le)]
  refine Finset.sum_congr rfl fun r _ => ?_
  rw [mul_left_comm, mul_comm (((L⁻¹ : ℝ)) : EReal)]

/-- Blocks of hidden scores change nothing: the maximum. -/
theorem Mx_hidden (n k : ℕ) (h : ∀ i r, n ≤ i → s i r = ⊥) (hk : n ≤ k) : Mx s k = Mx s n := by
  obtain ⟨d, rfl⟩ := Nat.exists_eq_add_of_le hk
  clear hk
  induction d with
  | zero => rfl
  | succ d ih =>
    rw [← Nat.add_assoc, Mx_succ, ih]
    have : (Finset.univ.sup fun r => s (n + d) r) = ⊥ := by
      simp only [h (n + d) _ (Nat.le_add_right n d), Finset.sup_const Finset.univ_nonempty]
    rw [this]
    exact max_eq_left bot_le

/-- A hidden score has no share. -/
theorem exp2_hidden (M : EReal) : Ideal.exp2 (⊥ - M) = 0 := by
  rw [bot_sub', Ideal.exp2_bot]

/-- A sum over blocks of zeros behind. -/
theorem sum_hidden (n k : ℕ) (F : ℕ → Fin 512 → EReal) (h : ∀ i r, n ≤ i → F i r = 0) (hk : n ≤ k) :
    ∑ i ∈ Finset.range k, ∑ r : Fin 512, F i r = ∑ i ∈ Finset.range n, ∑ r : Fin 512, F i r := by
  refine (Finset.sum_subset (Finset.range_mono hk) fun i _ hi => ?_).symm
  exact Finset.sum_eq_zero fun r _ => h i r (by simpa using hi)
end

/-- The position of an entry of a block. -/
theorem sum_blocks (F : ℕ → EReal) : ∑ j : Fin 4096, F j.val = ∑ i ∈ Finset.range 8, ∑ r : Fin 512, F (i * 512 + r.val) := by
  rw [← Fin.sum_univ_eq_sum_range (fun i => ∑ r : Fin 512, F (i * 512 + r.val)) 8, ← Fintype.sum_prod_type']
  refine (Fintype.sum_equiv (finProdFinEquiv (m := 8) (n := 512)) _ (fun j : Fin 4096 => F j.val) fun x => ?_).symm
  show F (x.1.val * 512 + x.2.val) = F (x.2.val + 512 * x.1.val)
  congr 1
  ring

/-- The greatest of a whole row, block by block. -/
theorem sup_blocks (F : ℕ → EReal) : (Finset.univ.sup fun j : Fin 4096 => F j.val) = Mx (fun i r => F (i * 512 + r.val)) 8 := by
  apply le_antisymm
  · refine Finset.sup_le fun j _ => ?_
    have h := le_Mx (fun i r => F (i * 512 + r.val)) 8 (j.val / 512) (by omega) ⟨j.val % 512, by omega⟩
    have e : j.val / 512 * 512 + j.val % 512 = j.val := by omega
    simp only [e] at h
    exact h
  · refine Finset.sup_le fun i hi => Finset.sup_le fun r _ => ?_
    have := Finset.mem_range.mp hi
    exact Finset.le_sup (f := fun j : Fin 4096 => F j.val) (Finset.mem_univ (⟨i * 512 + r.val, by omega⟩ : Fin 4096))

/-- The reference's exponential of `log 2` times a number is its power of two. -/
theorem exp_log2 (x : EReal) (hx : x ≠ ⊤) : Ideal.exp (((Real.log 2 : ℝ) : EReal) * x) = Ideal.exp2 x := by
  have hl : 0 < Real.log 2 := Real.log_pos (by norm_num)
  induction x using EReal.rec with
  | top => exact absurd rfl hx
  | bot => rw [EReal.coe_mul_bot_of_pos hl]; rfl
  | coe r =>
    rw [← EReal.coe_mul]
    show ((Real.exp (Real.log 2 * r) : ℝ) : EReal) = (((2 : ℝ) ^ r : ℝ) : EReal)
    rw [Real.rpow_def_of_pos (by norm_num)]

end Cert.AttnMath
-- ==== Proof.AttnRef.lean ====
/-
The attention's reference, read at an index: masked scores, their shares, the weighted sum of
the values, the normalisation over the four heads.
-/
module

public import proofs.«01_k».proof.Proof.Gen.AttnRefIdeal.Run
public import proofs.«01_k».proof.Proof.AttnMath
public import Idealize.ShloMosaic.Lib.WordCmp

@[expose] public section

set_option maxRecDepth 16384

noncomputable section

open Idealize.ShloMosaic Idealize.ShloMosaic.TcCoe Idealize.SL.Sem

namespace Cert.AttnRefIdeal.Value

open Cert.AttnRefIdeal Cert.AttnRefIdeal.Gen

/-- The scores. -/
def SC (Q K : FVec Ideal S16384x512 .bf16) : FVec Ideal S4x4x4096x4096 .f32 :=
  Host.dotGeneral dot_S4x4096x4x128_S4x4096x4x128_S4x4x4096x4096_3_3_1_1_02_02 none (shapeCast _ (extf .f32 Q bitsLt_bf16_f32) shapeCasts_S16384x512_S4x4096x4x128) (shapeCast _ (extf .f32 K bitsLt_bf16_f32) shapeCasts_S16384x512_S4x4096x4x128)

/-- The scores of the visible keys, nothing elsewhere. -/
def SM (S : FVec Ideal S4x4x4096x4096 .f32) : FVec Ideal S4x4x4096x4096 .f32 :=
  select (cmpi .sle (iotaInDim S4x4x4096x4096 32 3) (iotaInDim S4x4x4096x4096 32 2)) S (broadcastInDim S4x4x4096x4096 ![] bcast_S_S4x4x4096x4096 (id (constant S_ .f32 0xFF800000#32)))

/-- The row's greatest score. -/
def MX (S : FVec Ideal S4x4x4096x4096 .f32) : FVec Ideal S4x4x4096 .f32 :=
  Host.reduce FloatOps.maximumf S (constant S_ .f32 0xFF800000#32) reducesTo_S4x4x4096x4096_S4x4x4096_d3 h_S_

/-- The powers of two. -/
def PW (S : FVec Ideal S4x4x4096x4096 .f32) : FVec Ideal S4x4x4096x4096 .f32 :=
  Host.exp (mulf (broadcastInDim S4x4x4096x4096 ![] bcast_S_S4x4x4096x4096 (id (Host.log (constant S_ .f32 0x40000000#32)))) (subf S (broadcastInDim S4x4x4096x4096 ![0, 1, 2, 3] bcast_S4x4x4096x1_S4x4x4096x4096_0_1_2_3 (broadcastInDim S4x4x4096x1 ![0, 1, 2] bcast_S4x4x4096_S4x4x4096x1_0_1_2 (MX S)))))

/-- The shares. -/
def SHR (P : FVec Ideal S4x4x4096x4096 .f32) : FVec Ideal S4x4x4096x4096 .f32 :=
  Host.divf P (broadcastInDim S4x4x4096x4096 ![0, 1, 2, 3] bcast_S4x4x4096x1_S4x4x4096x4096_0_1_2_3 (broadcastInDim S4x4x4096x1 ![0, 1, 2] bcast_S4x4x4096_S4x4x4096x1_0_1_2 (Host.reduceAdd P (constant S_ .f32 0x00000000#32) reducesTo_S4x4x4096x4096_S4x4x4096_d3 h_S_)))

/-- The weighted sum of the values. -/
def WV (V : FVec Ideal S4x256x4096 .bf16) (P : FVec Ideal S4x4x4096x4096 .f32) : FVec Ideal S4x4x64x4096 .f32 :=
  Host.dotGeneral dot_S4x4x64x4096_S4x4x4096x4096_S4x4x64x4096_3_3_2_2_01_01 none (shapeCast _ (extf .f32 V bitsLt_bf16_f32) shapeCasts_S4x256x4096_S4x4x64x4096) P

/-- The heads side by side, a row for each token. -/
def RO (o : FVec Ideal S4x4x64x4096 .f32) : FVec Ideal S16384x256 .f32 :=
  shapeCast _ (transpose S4x4096x4x64 [0, 3, 1, 2] o transposes_S4x4x64x4096_S4x4096x4x64_0_3_1_2) shapeCasts_S4x4096x4x64_S16384x256

/-- The normalisation of a row. -/
def NRM (x : FVec Ideal S16384x256 .f32) (g : FVec Ideal S256x1 .f32) : FVec Ideal S16384x256 .f32 :=
  mulf (mulf x (broadcastInDim S16384x256 ![0, 1] bcast_S16384x1_S16384x256_0_1 (Host.rsqrt (addf (Host.divf (broadcastInDim S16384x1 ![0] bcast_S16384_S16384x1_0 (Host.reduceAdd (mulf x x) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x3727C5AC#32)))))) (broadcastInDim S16384x256 ![0, 1] bcast_S1x256_S16384x256_0_1 (broadcastInDim S1x256 ![1] bcast_S256_S1x256_1 (shapeCast _ g shapeCasts_S256x1_S256)))

/-- The reference's result. -/
def REF (Q K : FVec Ideal S16384x512 .bf16) (V : FVec Ideal S4x256x4096 .bf16) (g : FVec Ideal S256x1 .f32) : FVec Ideal S16384x256 .f32 :=
  NRM (RO (WV V (SHR (PW (SM (SC Q K)))))) g

/-- The result named by the reference's run is `REF` of the arguments. -/
theorem res_eq (m : (ℓ : Loc nD τ sig) → Buf (Elt Ideal) ℓ) (c : Dev nD) :
    res_main_v40 (F := Ideal) m c = REF (m ((c.tc : Thread nD τ).loc main_arg2)) (m ((c.tc : Thread nD τ).loc main_arg3)) (m ((c.tc : Thread nD τ).loc main_arg4)) (m ((c.tc : Thread nD τ).loc main_arg5)) := rfl

/-- The scores, read. -/
theorem SC_apply (Q K : FVec Ideal S16384x512 .bf16) (b h : Fin 4) (q k : Fin 4096) :
    SC Q K (ix4 b h q k) = ∑ d : Fin 128, (Q (ix2 ⟨b.val * 4096 + q.val, by omega⟩ ⟨h.val * 128 + d.val, by omega⟩) * K (ix2 ⟨b.val * 4096 + k.val, by omega⟩ ⟨h.val * 128 + d.val, by omega⟩) : EReal) := by
  pointwise [SC]

/-- Minus infinity's word. -/
theorem neg_inf : Ideal.ofBits FTy.f32 0xFF800000#32 = ⊥ := by simp [Ideal.ofBits, Ideal.ieee]

/-- The masked scores, read. -/
theorem SM_apply (S : FVec Ideal S4x4x4096x4096 .f32) (b h : Fin 4) (q k : Fin 4096) :
    SM S (ix4 b h q k) = if k.val ≤ q.val then (S (ix4 b h q k) : EReal) else ⊥ := by
  pointwise [SM]
  rw [WordCmp.cmpi_sle_ofNat (by have := k.isLt; omega) (by have := q.isLt; omega)]
  by_cases hk : k.val ≤ q.val
  · rw [if_pos hk, decide_eq_true hk]; rfl
  · rw [if_neg hk, decide_eq_false hk]; exact neg_inf

/-- The row's greatest score, read. -/
theorem MX_apply (S : FVec Ideal S4x4x4096x4096 .f32) (b h : Fin 4) (q : Fin 4096) :
    MX S (ix3 b h q) = Finset.univ.sup fun k : Fin 4096 => (S (ix4 b h q k) : EReal) := by
  pointwise [MX]
  rw [neg_inf]
  rfl

/-- The constant's logarithm. -/
theorem log_two (i : S_.Idx) : ((id (Host.log (constant (F := Ideal) S_ .f32 0x40000000#32))) i : EReal) = ((Real.log 2 : ℝ) : EReal) := by
  have h2 : Ideal.ofBits FTy.f32 0x40000000#32 = ((2 : ℝ) : EReal) := by
    simp [Ideal.ofBits, Ideal.ieee]
    rw [← EReal.coe_mul]
    congr 1
    norm_num
  show Ideal.log (Ideal.ofBits FTy.f32 0x40000000#32) = _
  rw [h2, Ideal.log_coe, if_neg (by norm_num)]

/-- The powers of two, read. -/
theorem PW_apply (S : FVec Ideal S4x4x4096x4096 .f32) (b h : Fin 4) (q k : Fin 4096) (hne : (S (ix4 b h q k) : EReal) - MX S (ix3 b h q) ≠ ⊤) :
    PW S (ix4 b h q k) = Ideal.exp2 ((S (ix4 b h q k) : EReal) - MX S (ix3 b h q)) := by
  rw [← AttnMath.exp_log2 _ hne, ← log_two ix0]
  pointwise [PW]

/-- The shares, read. -/
theorem SHR_apply (S : FVec Ideal S4x4x4096x4096 .f32) (b h : Fin 4) (q k : Fin 4096) :
    SHR S (ix4 b h q k) = Ideal.div (S (ix4 b h q k)) (∑ x : Fin 4096, (S (ix4 b h q x) : EReal)) := by
  pointwise [SHR]

/-- The weighted sum of the values, read. -/
theorem WV_apply (V : FVec Ideal S4x256x4096 .bf16) (P : FVec Ideal S4x4x4096x4096 .f32) (b h : Fin 4) (d : Fin 64) (q : Fin 4096) :
    WV V P (ix4 b h d q) = ∑ k : Fin 4096, (V (ix3 b ⟨h.val * 64 + d.val, by omega⟩ k) * P (ix4 b h q k) : EReal) := by
  pointwise [WV]

/-- A row of the heads side by side, read. -/
theorem RO_apply (o : FVec Ideal S4x4x64x4096 .f32) (t : Fin 16384) (j : Fin 256) :
    RO o (ix2 t j) = o (ix4 ⟨t.val / 4096, by omega⟩ ⟨j.val / 64, by omega⟩ ⟨j.val % 64, by omega⟩ ⟨t.val % 4096, by omega⟩) := by
  pointwise [RO]

/-- The normalised row, read. -/
theorem NRM_apply (x : FVec Ideal S16384x256 .f32) (g : FVec Ideal S256x1 .f32) (t : Fin 16384) (j : Fin 256) :
    NRM x g (ix2 t j) = (x (ix2 t j) * Ideal.rsqrt (Ideal.div (∑ i : Fin 256, (x (ix2 t i) * x (ix2 t i) : EReal)) (Ideal.ofBits FTy.f32 0x43800000#32) + Ideal.ofBits FTy.f32 0x3727C5AC#32) * g (ix2 j 0) : EReal) := by
  pointwise [NRM]

/-- A query's score with the key at place `n` of its sequence: nothing behind the query. -/
def sN (Q K : FVec Ideal S16384x512 .bf16) (b h : Fin 4) (q : ℕ) (n : ℕ) : EReal :=
  if n ≤ q then ∑ d : Fin 128, (Q (ix2 (Fin.ofNat 16384 (b.val * 4096 + q)) ⟨h.val * 128 + d.val, by omega⟩) * K (ix2 (Fin.ofNat 16384 (b.val * 4096 + n)) ⟨h.val * 128 + d.val, by omega⟩) : EReal) else ⊥

/-- The value at place `n` of the sequence. -/
def vN (V : FVec Ideal S4x256x4096 .bf16) (b h : Fin 4) (d : Fin 64) (n : ℕ) : EReal :=
  V (ix3 b ⟨h.val * 64 + d.val, by omega⟩ (Fin.ofNat 4096 n))

/-- The masked scores by place. -/
theorem SM_sN (Q K : FVec Ideal S16384x512 .bf16) (b h : Fin 4) (q k : Fin 4096) :
    SM (SC Q K) (ix4 b h q k) = sN Q K b h q.val k.val := by
  rw [SM_apply, SC_apply]
  unfold sN
  have e1 : Fin.ofNat 16384 (b.val * 4096 + q.val) = ⟨b.val * 4096 + q.val, by omega⟩ := Fin.ext (Nat.mod_eq_of_lt (by omega))
  have e2 : Fin.ofNat 16384 (b.val * 4096 + k.val) = ⟨b.val * 4096 + k.val, by omega⟩ := Fin.ext (Nat.mod_eq_of_lt (by omega))
  rw [e1, e2]

/-- The scores split into blocks of 512 keys. -/
abbrev sB (Q K : FVec Ideal S16384x512 .bf16) (b h : Fin 4) (q : ℕ) (i : ℕ) (r : Fin 512) : EReal := sN Q K b h q (i * 512 + r.val)
/-- The values split into blocks of 512 keys. -/
abbrev vB (V : FVec Ideal S4x256x4096 .bf16) (b h : Fin 4) (d : Fin 64) (i : ℕ) (r : Fin 512) : EReal := vN V b h d (i * 512 + r.val)

/-- The weighted sum of the values from the blocks up to the query's own. -/
theorem WV_blocks (Q K : FVec Ideal S16384x512 .bf16) (V : FVec Ideal S4x256x4096 .bf16) (b h : Fin 4) (d : Fin 64) (q : Fin 4096) (n : ℕ)
    (hs : ∀ k, sN Q K b h q.val k ≠ ⊤) (h0 : sN Q K b h q.val 0 ≠ ⊥) (hn : 0 < n) (hn8 : n ≤ 8) (hq : q.val < n * 512) :
    (WV V (SHR (PW (SM (SC Q K)))) (ix4 b h d q) : EReal)
      = Ideal.div (AttnMath.Ax (sB Q K b h q.val) (vB V b h d) n) (AttnMath.Lx (sB Q K b h q.val) n) := by
  have hid : ∀ i (r : Fin 512), n ≤ i → sB Q K b h q.val i r = ⊥ := by
    intro i r hi
    have : n * 512 ≤ i * 512 := Nat.mul_le_mul_right _ hi
    exact if_neg (by omega)
  have hs' : ∀ i r, sB Q K b h q.val i r ≠ ⊤ := fun i r => hs _
  have hM : MX (SM (SC Q K)) (ix3 b h q) = AttnMath.Mx (sB Q K b h q.val) n := by
    rw [MX_apply]
    simp only [SM_sN]
    rw [AttnMath.sup_blocks (sN Q K b h q.val)]
    exact AttnMath.Mx_hidden _ n 8 hid hn8
  have hMb := AttnMath.Mx_ne_bot (sB Q K b h q.val) h0 n hn
  have hP : ∀ k : Fin 4096, (PW (SM (SC Q K)) (ix4 b h q k) : EReal) = Ideal.exp2 (sN Q K b h q.val k.val - AttnMath.Mx (sB Q K b h q.val) n) := by
    intro k
    rw [PW_apply _ _ _ _ _ (by rw [hM, SM_sN]; exact AttnMath.sub_ne_top _ _ (hs _) hMb), hM, SM_sN]
  have hL : (∑ x : Fin 4096, (PW (SM (SC Q K)) (ix4 b h q x) : EReal)) = AttnMath.Lx (sB Q K b h q.val) n := by
    simp only [hP]
    rw [AttnMath.sum_blocks (fun k => Ideal.exp2 (sN Q K b h q.val k - AttnMath.Mx (sB Q K b h q.val) n))]
    exact AttnMath.sum_hidden n 8 (fun i r => Ideal.exp2 (sB Q K b h q.val i r - AttnMath.Mx (sB Q K b h q.val) n)) (fun i r hi => by
      show Ideal.exp2 (sB Q K b h q.val i r - _) = 0
      rw [hid i r hi, AttnMath.exp2_hidden]) hn8
  have hv : ∀ k : Fin 4096, (V (ix3 b ⟨h.val * 64 + d.val, by omega⟩ k) : EReal) = vN V b h d k.val := by
    intro k
    unfold vN
    have e : Fin.ofNat 4096 k.val = k := Fin.ext (Nat.mod_eq_of_lt k.isLt)
    rw [e]
  rw [WV_apply, AttnMath.Ax_div _ _ hs' h0 n hn]
  simp only [SHR_apply, hL, hv]
  simp only [hP]
  rw [AttnMath.sum_blocks (fun k => vN V b h d k * Ideal.div (Ideal.exp2 (sN Q K b h q.val k - AttnMath.Mx (sB Q K b h q.val) n)) (AttnMath.Lx (sB Q K b h q.val) n))]
  exact AttnMath.sum_hidden n 8 (fun i r => vB V b h d i r * Ideal.div (Ideal.exp2 (sB Q K b h q.val i r - AttnMath.Mx (sB Q K b h q.val) n)) (AttnMath.Lx (sB Q K b h q.val) n)) (fun i r hi => by
    show vB V b h d i r * Ideal.div (Ideal.exp2 (sB Q K b h q.val i r - _)) _ = 0
    obtain ⟨L, hL0, eL⟩ := AttnMath.Lx_real _ hs' h0 n hn
    have hne : (L : EReal) ≠ 0 := fun h => hL0.ne' (EReal.coe_eq_zero.mp h)
    rw [hid i r hi, AttnMath.exp2_hidden, eL, Ideal.div, if_neg hne, zero_mul, mul_zero]) hn8

end Cert.AttnRefIdeal.Value
-- ==== Proof.AttnCore.lean ====
/-
One block of the attention's running softmax, as the kernel computes it: the new maximum, the
new sum and the new weighted sum of one head, from the block's scores and the values before.
-/
module

public import proofs.«01_k».proof.Proof.Gen.AttnIdeal.Flash
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.AttnIdeal Cert.AttnIdeal.Gen

namespace Cert.AttnCore

/-- The new maximum of every query of the block. -/
def mN (S : FVec Ideal S512x512 .f32) (m : FVec Ideal S1x1x512 .f32) : FVec Ideal S1x512 .f32 :=
  maximumf (shapeCast S1x512 m shapeCasts_S1x1x512_S1x512)
    (shapeCast S1x512 (multiReduction .maximumf [0] S512 S 0xFF800000#32 reduces_S512x512_S512 (.inl rfl) rfl) shapeCasts_S512_S1x512)

/-- The factor that rescales what was summed before. -/
def al (S : FVec Ideal S512x512 .f32) (m : FVec Ideal S1x1x512 .f32) : FVec Ideal S1x512 .f32 :=
  exp2 (subf (shapeCast S1x512 m shapeCasts_S1x1x512_S1x512) (mN S m))

/-- The block's weights. -/
def pN (S : FVec Ideal S512x512 .f32) (m : FVec Ideal S1x1x512 .f32) : FVec Ideal S512x512 .f32 :=
  exp2 (subf S (broadcastTo S512x512 (mN S m) broadcasts_S1x512_S512x512))

/-- The new maximum as it is stored. -/
def mO (S : FVec Ideal S512x512 .f32) (m : FVec Ideal S1x1x512 .f32) : FVec Ideal S1x1x512 .f32 :=
  shapeCast S1x1x512 (mN S m) shapeCasts_S1x512_S1x1x512

/-- The new sum as it is stored. -/
def lO (S : FVec Ideal S512x512 .f32) (m l : FVec Ideal S1x1x512 .f32) : FVec Ideal S1x1x512 .f32 :=
  shapeCast S1x1x512 (addf (mulf (al S m) (shapeCast S1x512 l shapeCasts_S1x1x512_S1x512))
    (shapeCast S1x512 (multiReduction .add [0] S512 (pN S m) 0x00000000#32 reduces_S512x512_S512 (.inl rfl) rfl) shapeCasts_S512_S1x512))
    shapeCasts_S1x512_S1x1x512

/-- The new weighted sum as it is stored. -/
def aO (S : FVec Ideal S512x512 .f32) (m : FVec Ideal S1x1x512 .f32) (v : FVec Ideal S1x64x512 .bf16) (a : FVec Ideal S1x64x512 .f32) :
    FVec Ideal S1x64x512 .f32 :=
  shapeCast S1x64x512 (addf
    (mulf (broadcastTo S64x512 (al S m) broadcasts_S1x512_S64x512) (shapeCast S64x512 a shapeCasts_S1x64x512_S64x512))
    (matmul dot_S64x512_S512x512_S64x512_1_0_0_1_n_n none (shapeCast S64x512 v shapeCasts_S1x64x512_S64x512)
      (truncf .bf16 (pN S m) bitsLt_bf16_f32) (constant S64x512 .f32 0x00000000#32))) shapeCasts_S64x512_S1x64x512

/-- The scores of a block: keys against queries. -/
def sc (k q : FVec Ideal S512x128 .bf16) : FVec Ideal S512x512 .f32 :=
  matmul dot_S512x128_S512x128_S512x512_1_1_0_0_n_n none k q (constant S512x512 .f32 0x00000000#32)

/-- The scores as the scratch holds them. -/
def sS (k q : FVec Ideal S512x128 .bf16) : FVec Ideal S1x512x512 .f32 := shapeCast S1x512x512 (sc k q) shapeCasts_S512x512_S1x512x512

/-- The scores read back. -/
def cS (s : FVec Ideal S1x512x512 .f32) : FVec Ideal S512x512 .f32 := shapeCast S512x512 s shapeCasts_S1x512x512_S512x512

/-- The scores read back on a diagonal block: the later keys are hidden. -/
def cM (s : FVec Ideal S1x512x512 .f32) : FVec Ideal S512x512 .f32 := k0_pay54 k0_pay48 s

/-- Minus infinity's word. -/
theorem neg_inf : Ideal.ofBits FTy.f32 0xFF800000#32 = ⊥ := by simp [Ideal.ofBits, Ideal.ieee]

/-- The new maximum, read. -/
theorem mN_apply (S : FVec Ideal S512x512 .f32) (m : FVec Ideal S1x1x512 .f32) (q : Fin 512) :
    mN S m (ix2 0 q) = max (m (ix3 0 0 q) : EReal) (Finset.univ.sup fun r : Fin 512 => (S (ix2 r q) : EReal)) := by
  pointwise [mN]
  rw [neg_inf]
  rfl

/-- The stored maximum, read. -/
theorem mO_apply (S : FVec Ideal S512x512 .f32) (m : FVec Ideal S1x1x512 .f32) (q : Fin 512) :
    mO S m (ix3 0 0 q) = max (m (ix3 0 0 q) : EReal) (Finset.univ.sup fun r : Fin 512 => (S (ix2 r q) : EReal)) := by
  rw [← mN_apply]
  pointwise [mO]

/-- The rescaling factor, read. -/
theorem al_apply (S : FVec Ideal S512x512 .f32) (m : FVec Ideal S1x1x512 .f32) (q : Fin 512) :
    al S m (ix2 0 q) = Ideal.exp2 ((m (ix3 0 0 q) : EReal) - mN S m (ix2 0 q)) := by
  pointwise [al]
  rfl

/-- The weights, read. -/
theorem pN_apply (S : FVec Ideal S512x512 .f32) (m : FVec Ideal S1x1x512 .f32) (r q : Fin 512) :
    pN S m (ix2 r q) = Ideal.exp2 ((S (ix2 r q) : EReal) - mN S m (ix2 0 q)) := by
  pointwise [pN]
  rfl

/-- The stored sum, read. -/
theorem lO_apply (S : FVec Ideal S512x512 .f32) (m l : FVec Ideal S1x1x512 .f32) (q : Fin 512) :
    lO S m l (ix3 0 0 q) = (al S m (ix2 0 q) * l (ix3 0 0 q) + ∑ r : Fin 512, pN S m (ix2 r q) : EReal) := by
  pointwise [lO]

/-- The stored weighted sum, read. -/
theorem aO_apply (S : FVec Ideal S512x512 .f32) (m : FVec Ideal S1x1x512 .f32) (v : FVec Ideal S1x64x512 .bf16) (a : FVec Ideal S1x64x512 .f32)
    (d : Fin 64) (q : Fin 512) :
    aO S m v a (ix3 0 d q) = (al S m (ix2 0 q) * a (ix3 0 d q) + ∑ r : Fin 512, v (ix3 0 d r) * pN S m (ix2 r q) : EReal) := by
  pointwise [aO]

/-- The scores, read. -/
theorem cS_apply (k q : FVec Ideal S512x128 .bf16) (r c : Fin 512) :
    cS (sS k q) (ix2 r c) = (∑ d : Fin 128, k (ix2 r d) * q (ix2 c d) : EReal) := by
  pointwise [cS, sS, sc]

/-- The scores of a diagonal block, read. -/
theorem cM_apply (s : FVec Ideal S1x512x512 .f32) (r c : Fin 512) :
    cM s (ix2 r c) = if r.val ≤ c.val then cS s (ix2 r c) else (⊥ : EReal) := by
  pointwise [cM, cS, k0_pay54, k0_pay48]
  rw [show (IntOp.addi (BitVec.ofNat 32 r.val) 0#32) = BitVec.ofNat 32 r.val from BitVec.add_zero _,
    WordCmp.cmpi_sle_ofNat (by have := r.isLt; omega) (by have := c.isLt; omega),
    show (Named.named (F := Ideal) Cert.AttnIdeal.κ "neg" (φ := .f32) 4048155338#32) = (⊥ : EReal) from
      IdealRules.named_const.ideal_named_scalar _ _ _ _ rfl]
  by_cases h : r.val ≤ c.val
  · rw [if_pos h, decide_eq_true h]; rfl
  · rw [if_neg h, decide_eq_false h]; rfl

/-- What is read at a place of the newest piece. -/
theorem canon_hit {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- What is read outside the newest piece. -/
theorem canon_miss {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y := by
  refine View.canon_cons_of_not_mem _ L fun hm => ?_
  obtain ⟨x, hx⟩ := (Rect.unit off size inb).exists_idx_of_mem hm
  have h1 : (y a).val = off a + 1 * (x a).val := by rw [← hx]; rfl
  have h2 : (x a).val < size a := (x a).isLt
  omega

/-- Four heads' pieces of maxima or sums over anything. -/
def hp (w0 w1 w2 w3 : FVec Ideal S1x1x512 .f32) (L : List (View.Piece (Elt Ideal) S4x1x512 .f32)) : List (View.Piece (Elt Ideal) S4x1x512 .f32) :=
  (⟨Rect.unit ![3, 0, 0] S1x1x512.size inb_S4x1x512_S1x1x512_3_0_0, w3⟩ : View.Piece (Elt Ideal) S4x1x512 .f32) ::
  (⟨Rect.unit ![2, 0, 0] S1x1x512.size inb_S4x1x512_S1x1x512_2_0_0, w2⟩ : View.Piece (Elt Ideal) S4x1x512 .f32) ::
  (⟨Rect.unit ![1, 0, 0] S1x1x512.size inb_S4x1x512_S1x1x512_1_0_0, w1⟩ : View.Piece (Elt Ideal) S4x1x512 .f32) ::
  (⟨Rect.unit ![0, 0, 0] S1x1x512.size inb_S4x1x512_S1x1x512_0_0_0, w0⟩ : View.Piece (Elt Ideal) S4x1x512 .f32) :: L

/-- Four heads' pieces of weighted sums over anything. -/
def hq (w0 w1 w2 w3 : FVec Ideal S1x64x512 .f32) (L : List (View.Piece (Elt Ideal) S4x64x512 .f32)) : List (View.Piece (Elt Ideal) S4x64x512 .f32) :=
  (⟨Rect.unit ![3, 0, 0] S1x64x512.size inb_S4x64x512_S1x64x512_3_0_0, w3⟩ : View.Piece (Elt Ideal) S4x64x512 .f32) ::
  (⟨Rect.unit ![2, 0, 0] S1x64x512.size inb_S4x64x512_S1x64x512_2_0_0, w2⟩ : View.Piece (Elt Ideal) S4x64x512 .f32) ::
  (⟨Rect.unit ![1, 0, 0] S1x64x512.size inb_S4x64x512_S1x64x512_1_0_0, w1⟩ : View.Piece (Elt Ideal) S4x64x512 .f32) ::
  (⟨Rect.unit ![0, 0, 0] S1x64x512.size inb_S4x64x512_S1x64x512_0_0_0, w0⟩ : View.Piece (Elt Ideal) S4x64x512 .f32) :: L

/-- A head's piece of maxima or sums, at that head. -/
theorem hp_hit (o : ℕ) (inb : ∀ a, (![o, 0, 0] : Fin 3 → ℕ) a + S1x1x512.size a ≤ S4x1x512.size a) (w : FVec Ideal S1x1x512 .f32)
    (L : List (View.Piece (Elt Ideal) S4x1x512 .f32)) (h : Fin 4) (q : Fin 512) (ho : h.val = o) :
    View.canon ((⟨Rect.unit ![o, 0, 0] S1x1x512.size inb, w⟩ : View.Piece (Elt Ideal) S4x1x512 .f32) :: L) (ix3 h 0 q) = w (ix3 0 0 q) := by
  refine canon_hit (s := S4x1x512) (e := .f32) (off := ![o, 0, 0]) (size := S1x1x512.size) inb w L _ (ix3 0 0 q : S1x1x512.Idx) ?_
  intro a
  match a with
  | ⟨0, _⟩ => exact ho
  | ⟨1, _⟩ => rfl
  | ⟨2, _⟩ => exact (Nat.zero_add _).symm

/-- A head's piece of maxima or sums, at another head. -/
theorem hp_miss (o : ℕ) (inb : ∀ a, (![o, 0, 0] : Fin 3 → ℕ) a + S1x1x512.size a ≤ S4x1x512.size a) (w : FVec Ideal S1x1x512 .f32)
    (L : List (View.Piece (Elt Ideal) S4x1x512 .f32)) (h : Fin 4) (q : Fin 512) (ho : h.val < o) :
    View.canon ((⟨Rect.unit ![o, 0, 0] S1x1x512.size inb, w⟩ : View.Piece (Elt Ideal) S4x1x512 .f32) :: L) (ix3 h 0 q) = View.canon L (ix3 h 0 q) :=
  canon_miss (s := S4x1x512) (e := .f32) (off := ![o, 0, 0]) (size := S1x1x512.size) inb w L _ (0 : Fin 3) (Or.inl ho)

/-- A head's piece of weighted sums, at that head. -/
theorem hq_hit (o : ℕ) (inb : ∀ a, (![o, 0, 0] : Fin 3 → ℕ) a + S1x64x512.size a ≤ S4x64x512.size a) (w : FVec Ideal S1x64x512 .f32)
    (L : List (View.Piece (Elt Ideal) S4x64x512 .f32)) (h : Fin 4) (d : Fin 64) (q : Fin 512) (ho : h.val = o) :
    View.canon ((⟨Rect.unit ![o, 0, 0] S1x64x512.size inb, w⟩ : View.Piece (Elt Ideal) S4x64x512 .f32) :: L) (ix3 h d q) = w (ix3 0 d q) := by
  refine canon_hit (s := S4x64x512) (e := .f32) (off := ![o, 0, 0]) (size := S1x64x512.size) inb w L _ (ix3 0 d q : S1x64x512.Idx) ?_
  intro a
  match a with
  | ⟨0, _⟩ => exact ho
  | ⟨1, _⟩ => exact (Nat.zero_add _).symm
  | ⟨2, _⟩ => exact (Nat.zero_add _).symm

/-- A head's piece of weighted sums, at another head. -/
theorem hq_miss (o : ℕ) (inb : ∀ a, (![o, 0, 0] : Fin 3 → ℕ) a + S1x64x512.size a ≤ S4x64x512.size a) (w : FVec Ideal S1x64x512 .f32)
    (L : List (View.Piece (Elt Ideal) S4x64x512 .f32)) (h : Fin 4) (d : Fin 64) (q : Fin 512) (ho : h.val < o) :
    View.canon ((⟨Rect.unit ![o, 0, 0] S1x64x512.size inb, w⟩ : View.Piece (Elt Ideal) S4x64x512 .f32) :: L) (ix3 h d q) = View.canon L (ix3 h d q) :=
  canon_miss (s := S4x64x512) (e := .f32) (off := ![o, 0, 0]) (size := S1x64x512.size) inb w L _ (0 : Fin 3) (Or.inl ho)

/-- Head `h`'s piece is what is read at head `h`. -/
theorem hp_apply (w0 w1 w2 w3 : FVec Ideal S1x1x512 .f32) (L : List (View.Piece (Elt Ideal) S4x1x512 .f32)) (h : Fin 4) (q : Fin 512) :
    View.canon (hp w0 w1 w2 w3 L) (ix3 h 0 q) = (![w0, w1, w2, w3] h) (ix3 0 0 q) := by
  unfold hp
  match h with
  | ⟨0, _⟩ => exact (hp_miss 3 _ _ _ _ _ (show 0 < 3 by omega)).trans ((hp_miss 2 _ _ _ _ _ (show 0 < 2 by omega)).trans ((hp_miss 1 _ _ _ _ _ (show 0 < 1 by omega)).trans (hp_hit 0 _ _ _ _ _ rfl)))
  | ⟨1, _⟩ => exact (hp_miss 3 _ _ _ _ _ (show 1 < 3 by omega)).trans ((hp_miss 2 _ _ _ _ _ (show 1 < 2 by omega)).trans (hp_hit 1 _ _ _ _ _ rfl))
  | ⟨2, _⟩ => exact (hp_miss 3 _ _ _ _ _ (show 2 < 3 by omega)).trans (hp_hit 2 _ _ _ _ _ rfl)
  | ⟨3, _⟩ => exact hp_hit 3 _ _ _ _ _ rfl

/-- Head `h`'s piece is what is read at head `h`. -/
theorem hq_apply (w0 w1 w2 w3 : FVec Ideal S1x64x512 .f32) (L : List (View.Piece (Elt Ideal) S4x64x512 .f32)) (h : Fin 4) (d : Fin 64) (q : Fin 512) :
    View.canon (hq w0 w1 w2 w3 L) (ix3 h d q) = (![w0, w1, w2, w3] h) (ix3 0 d q) := by
  unfold hq
  match h with
  | ⟨0, _⟩ => exact (hq_miss 3 _ _ _ _ _ _ (show 0 < 3 by omega)).trans ((hq_miss 2 _ _ _ _ _ _ (show 0 < 2 by omega)).trans ((hq_miss 1 _ _ _ _ _ _ (show 0 < 1 by omega)).trans (hq_hit 0 _ _ _ _ _ _ rfl)))
  | ⟨1, _⟩ => exact (hq_miss 3 _ _ _ _ _ _ (show 1 < 3 by omega)).trans ((hq_miss 2 _ _ _ _ _ _ (show 1 < 2 by omega)).trans (hq_hit 1 _ _ _ _ _ _ rfl))
  | ⟨2, _⟩ => exact (hq_miss 3 _ _ _ _ _ _ (show 2 < 3 by omega)).trans (hq_hit 2 _ _ _ _ _ _ rfl)
  | ⟨3, _⟩ => exact hq_hit 3 _ _ _ _ _ _ rfl

end Cert.AttnCore
-- ==== Proof.AttnStep.lean ====
/-
The contents of the kernel's scratch after each of the four kinds of block, head by head.
-/
module

public import proofs.«01_k».proof.Proof.AttnCore
public import Idealize.ShloMosaic.Lib.Pipeline.ReadBack

@[expose] public section

set_option maxRecDepth 16384

noncomputable section

open Idealize.ShloMosaic Idealize.ShloMosaic.TcCoe Idealize.SL.Sem
open Cert.AttnIdeal Cert.AttnIdeal.Gen

namespace Cert.AttnStep

open Cert.AttnCore

/-- Head 0's columns of a block of queries or keys. -/
def c0 (x : FVec Ideal S512x512 .bf16) : FVec Ideal S512x128 .bf16 := View.ld (Val := Elt Ideal) (S := S512x512) (e' := .bf16) x (Rect.unit ![0, 0] S512x128.size inb_S512x512_S512x128_0_0)
/-- Head 1's columns. -/
def c1 (x : FVec Ideal S512x512 .bf16) : FVec Ideal S512x128 .bf16 := View.ld (Val := Elt Ideal) (S := S512x512) (e' := .bf16) x (Rect.unit ![0, 128] S512x128.size inb_S512x512_S512x128_0_128)
/-- Head 2's columns. -/
def c2 (x : FVec Ideal S512x512 .bf16) : FVec Ideal S512x128 .bf16 := View.ld (Val := Elt Ideal) (S := S512x512) (e' := .bf16) x (Rect.unit ![0, 256] S512x128.size inb_S512x512_S512x128_0_256)
/-- Head 3's columns. -/
def c3 (x : FVec Ideal S512x512 .bf16) : FVec Ideal S512x128 .bf16 := View.ld (Val := Elt Ideal) (S := S512x512) (e' := .bf16) x (Rect.unit ![0, 384] S512x128.size inb_S512x512_S512x128_0_384)

/-- Head 0's row of the maxima or sums. -/
def m0 (x : FVec Ideal S4x1x512 .f32) : FVec Ideal S1x1x512 .f32 := View.ld (Val := Elt Ideal) (S := S4x1x512) (e' := .f32) x (Rect.unit ![0, 0, 0] S1x1x512.size inb_S4x1x512_S1x1x512_0_0_0)
/-- Head 1's row. -/
def m1 (x : FVec Ideal S4x1x512 .f32) : FVec Ideal S1x1x512 .f32 := View.ld (Val := Elt Ideal) (S := S4x1x512) (e' := .f32) x (Rect.unit ![1, 0, 0] S1x1x512.size inb_S4x1x512_S1x1x512_1_0_0)
/-- Head 2's row. -/
def m2 (x : FVec Ideal S4x1x512 .f32) : FVec Ideal S1x1x512 .f32 := View.ld (Val := Elt Ideal) (S := S4x1x512) (e' := .f32) x (Rect.unit ![2, 0, 0] S1x1x512.size inb_S4x1x512_S1x1x512_2_0_0)
/-- Head 3's row. -/
def m3 (x : FVec Ideal S4x1x512 .f32) : FVec Ideal S1x1x512 .f32 := View.ld (Val := Elt Ideal) (S := S4x1x512) (e' := .f32) x (Rect.unit ![3, 0, 0] S1x1x512.size inb_S4x1x512_S1x1x512_3_0_0)

/-- Head 0's weighted sums. -/
def a0 (x : FVec Ideal S4x64x512 .f32) : FVec Ideal S1x64x512 .f32 := View.ld (Val := Elt Ideal) (S := S4x64x512) (e' := .f32) x (Rect.unit ![0, 0, 0] S1x64x512.size inb_S4x64x512_S1x64x512_0_0_0)
/-- Head 1's weighted sums. -/
def a1 (x : FVec Ideal S4x64x512 .f32) : FVec Ideal S1x64x512 .f32 := View.ld (Val := Elt Ideal) (S := S4x64x512) (e' := .f32) x (Rect.unit ![1, 0, 0] S1x64x512.size inb_S4x64x512_S1x64x512_1_0_0)
/-- Head 2's weighted sums. -/
def a2 (x : FVec Ideal S4x64x512 .f32) : FVec Ideal S1x64x512 .f32 := View.ld (Val := Elt Ideal) (S := S4x64x512) (e' := .f32) x (Rect.unit ![2, 0, 0] S1x64x512.size inb_S4x64x512_S1x64x512_2_0_0)
/-- Head 3's weighted sums. -/
def a3 (x : FVec Ideal S4x64x512 .f32) : FVec Ideal S1x64x512 .f32 := View.ld (Val := Elt Ideal) (S := S4x64x512) (e' := .f32) x (Rect.unit ![3, 0, 0] S1x64x512.size inb_S4x64x512_S1x64x512_3_0_0)

/-- Head 0's values of a block of keys. -/
def v0 (x : FVec Ideal S1x256x512 .bf16) : FVec Ideal S1x64x512 .bf16 := View.ld (Val := Elt Ideal) (S := S1x256x512) (e' := .bf16) x (Rect.unit ![0, 0, 0] S1x64x512.size inb_S1x256x512_S1x64x512_0_0_0)
/-- Head 1's values. -/
def v1 (x : FVec Ideal S1x256x512 .bf16) : FVec Ideal S1x64x512 .bf16 := View.ld (Val := Elt Ideal) (S := S1x256x512) (e' := .bf16) x (Rect.unit ![0, 64, 0] S1x64x512.size inb_S1x256x512_S1x64x512_0_64_0)
/-- Head 2's values. -/
def v2 (x : FVec Ideal S1x256x512 .bf16) : FVec Ideal S1x64x512 .bf16 := View.ld (Val := Elt Ideal) (S := S1x256x512) (e' := .bf16) x (Rect.unit ![0, 128, 0] S1x64x512.size inb_S1x256x512_S1x64x512_0_128_0)
/-- Head 3's values. -/
def v3 (x : FVec Ideal S1x256x512 .bf16) : FVec Ideal S1x64x512 .bf16 := View.ld (Val := Elt Ideal) (S := S1x256x512) (e' := .bf16) x (Rect.unit ![0, 192, 0] S1x64x512.size inb_S1x256x512_S1x64x512_0_192_0)

variable (c : Dev nD) (w0 w1 : Memref sig .tc .vmem S512x512 .bf16) (w2 : Memref sig .tc .vmem S1x256x512 .bf16)
  (x0 x1 : Vec Ideal S512x512 .bf16) (x2 : Vec Ideal S1x256x512 .bf16)

/-- The first head's scores on path A, read back from the scratch. -/
theorem A_s0 : kernelRun0_A.sl.v47 w0 w1 x0 x1 = sS (c0 x1) (c0 x0) := by
  unfold kernelRun0_A.sl.v47 kernelRun0_A.sl.HS3_4
  rw [View.readCov_skip _ _ _ _ _ (by decide), View.readCov_skip _ _ _ _ _ (by decide), View.readCov_skip _ _ _ _ _ (by decide)]
  refine (View.readCov_cons_toLoadRect _ _ _ _).trans ?_
  unfold kernelRun0_A.sl.v28 kernelRun0_A.sl.v25
  rw [View.readAt_eq_ld, View.readAt_eq_ld, View.read_rep, View.read_rep]
  rfl

/-- The second head's scores on path A, read back from the scratch. -/
theorem A_s1 : kernelRun0_A.sl.v85 w0 w1 x0 x1 = sS (c1 x1) (c1 x0) := by
  unfold kernelRun0_A.sl.v85 kernelRun0_A.sl.HS3_4
  rw [View.readCov_skip _ _ _ _ _ (by decide), View.readCov_skip _ _ _ _ _ (by decide)]
  refine (View.readCov_cons_toLoadRect _ _ _ _).trans ?_
  unfold kernelRun0_A.sl.v34 kernelRun0_A.sl.v31
  rw [View.readAt_eq_ld, View.readAt_eq_ld, View.read_rep, View.read_rep]
  rfl

/-- The third head's scores on path A, read back from the scratch. -/
theorem A_s2 : kernelRun0_A.sl.v123 w0 w1 x0 x1 = sS (c2 x1) (c2 x0) := by
  unfold kernelRun0_A.sl.v123 kernelRun0_A.sl.HS3_4
  rw [View.readCov_skip _ _ _ _ _ (by decide)]
  refine (View.readCov_cons_toLoadRect _ _ _ _).trans ?_
  unfold kernelRun0_A.sl.v40 kernelRun0_A.sl.v37
  rw [View.readAt_eq_ld, View.readAt_eq_ld, View.read_rep, View.read_rep]
  rfl

/-- The fourth head's scores on path A, read back from the scratch. -/
theorem A_s3 : kernelRun0_A.sl.v161 w0 w1 x0 x1 = sS (c3 x1) (c3 x0) := by
  unfold kernelRun0_A.sl.v161 kernelRun0_A.sl.HS3_4
  refine (View.readCov_cons_toLoadRect _ _ _ _).trans ?_
  unfold kernelRun0_A.sl.v43
  rw [View.readAt_eq_ld, View.readAt_eq_ld, View.read_rep, View.read_rep]
  rfl

/-- The first head's scores on path B, read back from the scratch. -/
theorem B_s0 : kernelRun0_B.sl.v42 w0 w1 x0 x1 = sS (c0 x1) (c0 x0) := by
  unfold kernelRun0_B.sl.v42 kernelRun0_B.sl.HS3_4
  rw [View.readCov_skip _ _ _ _ _ (by decide), View.readCov_skip _ _ _ _ _ (by decide), View.readCov_skip _ _ _ _ _ (by decide)]
  refine (View.readCov_cons_toLoadRect _ _ _ _).trans ?_
  unfold kernelRun0_B.sl.v23 kernelRun0_B.sl.v20
  rw [View.readAt_eq_ld, View.readAt_eq_ld, View.read_rep, View.read_rep]
  rfl

/-- The second head's scores on path B, read back from the scratch. -/
theorem B_s1 : kernelRun0_B.sl.v78 w0 w1 x0 x1 = sS (c1 x1) (c1 x0) := by
  unfold kernelRun0_B.sl.v78 kernelRun0_B.sl.HS3_4
  rw [View.readCov_skip _ _ _ _ _ (by decide), View.readCov_skip _ _ _ _ _ (by decide)]
  refine (View.readCov_cons_toLoadRect _ _ _ _).trans ?_
  unfold kernelRun0_B.sl.v29 kernelRun0_B.sl.v26
  rw [View.readAt_eq_ld, View.readAt_eq_ld, View.read_rep, View.read_rep]
  rfl

/-- The third head's scores on path B, read back from the scratch. -/
theorem B_s2 : kernelRun0_B.sl.v114 w0 w1 x0 x1 = sS (c2 x1) (c2 x0) := by
  unfold kernelRun0_B.sl.v114 kernelRun0_B.sl.HS3_4
  rw [View.readCov_skip _ _ _ _ _ (by decide)]
  refine (View.readCov_cons_toLoadRect _ _ _ _).trans ?_
  unfold kernelRun0_B.sl.v35 kernelRun0_B.sl.v32
  rw [View.readAt_eq_ld, View.readAt_eq_ld, View.read_rep, View.read_rep]
  rfl

/-- The fourth head's scores on path B, read back from the scratch. -/
theorem B_s3 : kernelRun0_B.sl.v150 w0 w1 x0 x1 = sS (c3 x1) (c3 x0) := by
  unfold kernelRun0_B.sl.v150 kernelRun0_B.sl.HS3_4
  refine (View.readCov_cons_toLoadRect _ _ _ _).trans ?_
  unfold kernelRun0_B.sl.v41 kernelRun0_B.sl.v38
  rw [View.readAt_eq_ld, View.readAt_eq_ld, View.read_rep, View.read_rep]
  rfl

/-- The first head's scores on path C, read back from the scratch. -/
theorem C_s0 : kernelRun0_C.sl.v47 w0 w1 x0 x1 = sS (c0 x1) (c0 x0) := by
  unfold kernelRun0_C.sl.v47 kernelRun0_C.sl.HS3_4
  rw [View.readCov_skip _ _ _ _ _ (by decide), View.readCov_skip _ _ _ _ _ (by decide), View.readCov_skip _ _ _ _ _ (by decide)]
  refine (View.readCov_cons_toLoadRect _ _ _ _).trans ?_
  unfold kernelRun0_C.sl.v28 kernelRun0_C.sl.v25
  rw [View.readAt_eq_ld, View.readAt_eq_ld, View.read_rep, View.read_rep]
  rfl

/-- The second head's scores on path C, read back from the scratch. -/
theorem C_s1 : kernelRun0_C.sl.v85 w0 w1 x0 x1 = sS (c1 x1) (c1 x0) := by
  unfold kernelRun0_C.sl.v85 kernelRun0_C.sl.HS3_4
  rw [View.readCov_skip _ _ _ _ _ (by decide), View.readCov_skip _ _ _ _ _ (by decide)]
  refine (View.readCov_cons_toLoadRect _ _ _ _).trans ?_
  unfold kernelRun0_C.sl.v34 kernelRun0_C.sl.v31
  rw [View.readAt_eq_ld, View.readAt_eq_ld, View.read_rep, View.read_rep]
  rfl

/-- The third head's scores on path C, read back from the scratch. -/
theorem C_s2 : kernelRun0_C.sl.v123 w0 w1 x0 x1 = sS (c2 x1) (c2 x0) := by
  unfold kernelRun0_C.sl.v123 kernelRun0_C.sl.HS3_4
  rw [View.readCov_skip _ _ _ _ _ (by decide)]
  refine (View.readCov_cons_toLoadRect _ _ _ _).trans ?_
  unfold kernelRun0_C.sl.v40 kernelRun0_C.sl.v37
  rw [View.readAt_eq_ld, View.readAt_eq_ld, View.read_rep, View.read_rep]
  rfl

/-- The fourth head's scores on path C, read back from the scratch. -/
theorem C_s3 : kernelRun0_C.sl.v161 w0 w1 x0 x1 = sS (c3 x1) (c3 x0) := by
  unfold kernelRun0_C.sl.v161 kernelRun0_C.sl.HS3_4
  refine (View.readCov_cons_toLoadRect _ _ _ _).trans ?_
  unfold kernelRun0_C.sl.v43
  rw [View.readAt_eq_ld, View.readAt_eq_ld, View.read_rep, View.read_rep]
  rfl

/-- The first head's scores on path D, read back from the scratch. -/
theorem D_s0 : kernelRun0_D.sl.v42 w0 w1 x0 x1 = sS (c0 x1) (c0 x0) := by
  unfold kernelRun0_D.sl.v42 kernelRun0_D.sl.HS3_4
  rw [View.readCov_skip _ _ _ _ _ (by decide), View.readCov_skip _ _ _ _ _ (by decide), View.readCov_skip _ _ _ _ _ (by decide)]
  refine (View.readCov_cons_toLoadRect _ _ _ _).trans ?_
  unfold kernelRun0_D.sl.v23 kernelRun0_D.sl.v20
  rw [View.readAt_eq_ld, View.readAt_eq_ld, View.read_rep, View.read_rep]
  rfl

/-- The second head's scores on path D, read back from the scratch. -/
theorem D_s1 : kernelRun0_D.sl.v78 w0 w1 x0 x1 = sS (c1 x1) (c1 x0) := by
  unfold kernelRun0_D.sl.v78 kernelRun0_D.sl.HS3_4
  rw [View.readCov_skip _ _ _ _ _ (by decide), View.readCov_skip _ _ _ _ _ (by decide)]
  refine (View.readCov_cons_toLoadRect _ _ _ _).trans ?_
  unfold kernelRun0_D.sl.v29 kernelRun0_D.sl.v26
  rw [View.readAt_eq_ld, View.readAt_eq_ld, View.read_rep, View.read_rep]
  rfl

/-- The third head's scores on path D, read back from the scratch. -/
theorem D_s2 : kernelRun0_D.sl.v114 w0 w1 x0 x1 = sS (c2 x1) (c2 x0) := by
  unfold kernelRun0_D.sl.v114 kernelRun0_D.sl.HS3_4
  rw [View.readCov_skip _ _ _ _ _ (by decide)]
  refine (View.readCov_cons_toLoadRect _ _ _ _).trans ?_
  unfold kernelRun0_D.sl.v35 kernelRun0_D.sl.v32
  rw [View.readAt_eq_ld, View.readAt_eq_ld, View.read_rep, View.read_rep]
  rfl

/-- The fourth head's scores on path D, read back from the scratch. -/
theorem D_s3 : kernelRun0_D.sl.v150 w0 w1 x0 x1 = sS (c3 x1) (c3 x0) := by
  unfold kernelRun0_D.sl.v150 kernelRun0_D.sl.HS3_4
  refine (View.readCov_cons_toLoadRect _ _ _ _).trans ?_
  unfold kernelRun0_D.sl.v41 kernelRun0_D.sl.v38
  rw [View.readAt_eq_ld, View.readAt_eq_ld, View.read_rep, View.read_rep]
  rfl

variable (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- The maxima and sums a scratch holds. -/
abbrev rM (xa : Buf (Elt Ideal) ((c : Thread nD τ).loc cc0_scratch0)) : FVec Ideal S4x1x512 .f32 := View.read (Elt Ideal) (View.whole cc0_scratch0) xa
/-- The sums a scratch holds. -/
abbrev rL (xa : Buf (Elt Ideal) ((c : Thread nD τ).loc cc0_scratch1)) : FVec Ideal S4x1x512 .f32 := View.read (Elt Ideal) (View.whole cc0_scratch1) xa
/-- The weighted sums a scratch holds. -/
abbrev rA (xa : Buf (Elt Ideal) ((c : Thread nD τ).loc cc0_scratch2)) : FVec Ideal S4x64x512 .f32 := View.read (Elt Ideal) (View.whole cc0_scratch2) xa

/-- The four heads' maxima after a block below the diagonal or on it, from those before. -/
def MU (f : FVec Ideal S1x512x512 .f32 → FVec Ideal S512x512 .f32) (x0 x1 : FVec Ideal S512x512 .bf16) (M : FVec Ideal S4x1x512 .f32)
    (L : List (View.Piece (Elt Ideal) S4x1x512 .f32)) : List (View.Piece (Elt Ideal) S4x1x512 .f32) :=
  hp (mO (f (sS (c0 x1) (c0 x0))) (m0 M)) (mO (f (sS (c1 x1) (c1 x0))) (m1 M)) (mO (f (sS (c2 x1) (c2 x0))) (m2 M)) (mO (f (sS (c3 x1) (c3 x0))) (m3 M)) L

/-- The four heads' sums. -/
def LU (f : FVec Ideal S1x512x512 .f32 → FVec Ideal S512x512 .f32) (x0 x1 : FVec Ideal S512x512 .bf16) (M N : FVec Ideal S4x1x512 .f32)
    (L : List (View.Piece (Elt Ideal) S4x1x512 .f32)) : List (View.Piece (Elt Ideal) S4x1x512 .f32) :=
  hp (lO (f (sS (c0 x1) (c0 x0))) (m0 M) (m0 N)) (lO (f (sS (c1 x1) (c1 x0))) (m1 M) (m1 N)) (lO (f (sS (c2 x1) (c2 x0))) (m2 M) (m2 N))
    (lO (f (sS (c3 x1) (c3 x0))) (m3 M) (m3 N)) L

/-- The four heads' weighted sums. -/
def AU (f : FVec Ideal S1x512x512 .f32 → FVec Ideal S512x512 .f32) (x0 x1 : FVec Ideal S512x512 .bf16) (x2 : FVec Ideal S1x256x512 .bf16)
    (M : FVec Ideal S4x1x512 .f32) (A : FVec Ideal S4x64x512 .f32)
    (L : List (View.Piece (Elt Ideal) S4x64x512 .f32)) : List (View.Piece (Elt Ideal) S4x64x512 .f32) :=
  hq (aO (f (sS (c0 x1) (c0 x0))) (m0 M) (v0 x2) (a0 A)) (aO (f (sS (c1 x1) (c1 x0))) (m1 M) (v1 x2) (a1 A))
    (aO (f (sS (c2 x1) (c2 x0))) (m2 M) (v2 x2) (a2 A)) (aO (f (sS (c3 x1) (c3 x0))) (m3 M) (v3 x2) (a3 A)) L

/-- The maxima's pieces on path D. -/
theorem D_m : kernelRun0_D.sl.HS0_4 c w0 w1 x0 x1 xa0 = MU cS x0 x1 (rM c xa0) [] := by
  unfold MU
  rw [← D_s0 w0 w1 x0 x1, ← D_s1 w0 w1 x0 x1, ← D_s2 w0 w1 x0 x1, ← D_s3 w0 w1 x0 x1]
  rfl

/-- The sums' pieces on path D. -/
theorem D_l : kernelRun0_D.sl.HS1_4 c w0 w1 x0 x1 xa0 xa1 = LU cS x0 x1 (rM c xa0) (rL c xa1) [] := by
  unfold LU
  rw [← D_s0 w0 w1 x0 x1, ← D_s1 w0 w1 x0 x1, ← D_s2 w0 w1 x0 x1, ← D_s3 w0 w1 x0 x1]
  rfl

/-- What a window's buffer holds is read from it. -/
theorem w2_read : View.read (Elt Ideal) w2.view (w2.view.rep x2) = x2 := View.read_rep _ _

/-- The weighted sums' pieces on path D. -/
theorem D_a : kernelRun0_D.sl.HS2_4 c w0 w1 w2 x0 x1 x2 xa0 xa2 = AU cS x0 x1 x2 (rM c xa0) (rA c xa2) [] := by
  unfold AU
  rw [← D_s0 w0 w1 x0 x1, ← D_s1 w0 w1 x0 x1, ← D_s2 w0 w1 x0 x1, ← D_s3 w0 w1 x0 x1]
  conv_rhs => rw [← w2_read w2 x2]
  rfl

/-- The maxima's pieces on path C. -/
theorem C_m : kernelRun0_C.sl.HS0_4 c w0 w1 x0 x1 xa0 = MU cM x0 x1 (rM c xa0) [] := by
  unfold MU
  rw [← C_s0 w0 w1 x0 x1, ← C_s1 w0 w1 x0 x1, ← C_s2 w0 w1 x0 x1, ← C_s3 w0 w1 x0 x1]
  rfl

/-- The sums' pieces on path C. -/
theorem C_l : kernelRun0_C.sl.HS1_4 c w0 w1 x0 x1 xa0 xa1 = LU cM x0 x1 (rM c xa0) (rL c xa1) [] := by
  unfold LU
  rw [← C_s0 w0 w1 x0 x1, ← C_s1 w0 w1 x0 x1, ← C_s2 w0 w1 x0 x1, ← C_s3 w0 w1 x0 x1]
  rfl

/-- The weighted sums' pieces on path C. -/
theorem C_a : kernelRun0_C.sl.HS2_4 c w0 w1 w2 x0 x1 x2 xa0 xa2 = AU cM x0 x1 x2 (rM c xa0) (rA c xa2) [] := by
  unfold AU
  rw [← C_s0 w0 w1 x0 x1, ← C_s1 w0 w1 x0 x1, ← C_s2 w0 w1 x0 x1, ← C_s3 w0 w1 x0 x1]
  conv_rhs => rw [← w2_read w2 x2]
  rfl

/-- The first maxima: minus infinity everywhere. -/
abbrev iM : FVec Ideal S4x1x512 .f32 := k0_pay1
/-- The first sums: zero. -/
abbrev iL : FVec Ideal S4x1x512 .f32 := k0_pay2
/-- The first weighted sums: zero. -/
abbrev iA : FVec Ideal S4x64x512 .f32 := k0_pay3

/-- The first head's maxima on path A start from the fill. -/
theorem A_m0 : kernelRun0_A.sl.v51 = m0 iM := by
  unfold kernelRun0_A.sl.v51 kernelRun0_A.sl.HS0_1
  exact View.readCov_fill _ _ _ _ _ (by decide)

/-- The second head's maxima on path A start from the fill. -/
theorem A_m1 : kernelRun0_A.sl.v89 w0 w1 x0 x1 = m1 iM := by
  unfold kernelRun0_A.sl.v89 kernelRun0_A.sl.HS0_2 kernelRun0_A.sl.HS0_1
  rw [View.readCov_skip _ _ _ _ _ (by decide)]
  exact View.readCov_fill _ _ _ _ _ (by decide)

/-- The third head's maxima on path A start from the fill. -/
theorem A_m2 : kernelRun0_A.sl.v127 w0 w1 x0 x1 = m2 iM := by
  unfold kernelRun0_A.sl.v127 kernelRun0_A.sl.HS0_3 kernelRun0_A.sl.HS0_2 kernelRun0_A.sl.HS0_1
  rw [View.readCov_skip _ _ _ _ _ (by decide), View.readCov_skip _ _ _ _ _ (by decide)]
  exact View.readCov_fill _ _ _ _ _ (by decide)

/-- The fourth head's maxima on path A start from the fill. -/
theorem A_m3 : kernelRun0_A.sl.v165 w0 w1 x0 x1 = m3 iM := by
  unfold kernelRun0_A.sl.v165 kernelRun0_A.sl.HS0_4 kernelRun0_A.sl.HS0_3 kernelRun0_A.sl.HS0_2 kernelRun0_A.sl.HS0_1
  rw [View.readCov_skip _ _ _ _ _ (by decide), View.readCov_skip _ _ _ _ _ (by decide), View.readCov_skip _ _ _ _ _ (by decide)]
  exact View.readCov_fill _ _ _ _ _ (by decide)

/-- The first head's sums on path A start from the fill. -/
theorem A_l0 : kernelRun0_A.sl.v61 = m0 iL := by
  unfold kernelRun0_A.sl.v61 kernelRun0_A.sl.HS1_1
  exact View.readCov_fill _ _ _ _ _ (by decide)

/-- The second head's sums on path A start from the fill. -/
theorem A_l1 : kernelRun0_A.sl.v99 w0 w1 x0 x1 = m1 iL := by
  unfold kernelRun0_A.sl.v99 kernelRun0_A.sl.HS1_2 kernelRun0_A.sl.HS1_1
  rw [View.readCov_skip _ _ _ _ _ (by decide)]
  exact View.readCov_fill _ _ _ _ _ (by decide)

/-- The third head's sums on path A start from the fill. -/
theorem A_l2 : kernelRun0_A.sl.v137 w0 w1 x0 x1 = m2 iL := by
  unfold kernelRun0_A.sl.v137 kernelRun0_A.sl.HS1_3 kernelRun0_A.sl.HS1_2 kernelRun0_A.sl.HS1_1
  rw [View.readCov_skip _ _ _ _ _ (by decide), View.readCov_skip _ _ _ _ _ (by decide)]
  exact View.readCov_fill _ _ _ _ _ (by decide)

/-- The fourth head's sums on path A start from the fill. -/
theorem A_l3 : kernelRun0_A.sl.v175 w0 w1 x0 x1 = m3 iL := by
  unfold kernelRun0_A.sl.v175 kernelRun0_A.sl.HS1_4 kernelRun0_A.sl.HS1_3 kernelRun0_A.sl.HS1_2 kernelRun0_A.sl.HS1_1
  rw [View.readCov_skip _ _ _ _ _ (by decide), View.readCov_skip _ _ _ _ _ (by decide), View.readCov_skip _ _ _ _ _ (by decide)]
  exact View.readCov_fill _ _ _ _ _ (by decide)

/-- The first head's weighted sums on path A start from the fill. -/
theorem A_a0 : kernelRun0_A.sl.v72 = a0 iA := by
  unfold kernelRun0_A.sl.v72 kernelRun0_A.sl.HS2_1
  exact View.readCov_fill _ _ _ _ _ (by decide)

/-- The second head's weighted sums on path A start from the fill. -/
theorem A_a1 : kernelRun0_A.sl.v110 w0 w1 w2 x0 x1 x2 = a1 iA := by
  unfold kernelRun0_A.sl.v110 kernelRun0_A.sl.HS2_2 kernelRun0_A.sl.HS2_1
  rw [View.readCov_skip _ _ _ _ _ (by decide)]
  exact View.readCov_fill _ _ _ _ _ (by decide)

/-- The third head's weighted sums on path A start from the fill. -/
theorem A_a2 : kernelRun0_A.sl.v148 w0 w1 w2 x0 x1 x2 = a2 iA := by
  unfold kernelRun0_A.sl.v148 kernelRun0_A.sl.HS2_3 kernelRun0_A.sl.HS2_2 kernelRun0_A.sl.HS2_1
  rw [View.readCov_skip _ _ _ _ _ (by decide), View.readCov_skip _ _ _ _ _ (by decide)]
  exact View.readCov_fill _ _ _ _ _ (by decide)

/-- The fourth head's weighted sums on path A start from the fill. -/
theorem A_a3 : kernelRun0_A.sl.v186 w0 w1 w2 x0 x1 x2 = a3 iA := by
  unfold kernelRun0_A.sl.v186 kernelRun0_A.sl.HS2_4 kernelRun0_A.sl.HS2_3 kernelRun0_A.sl.HS2_2 kernelRun0_A.sl.HS2_1
  rw [View.readCov_skip _ _ _ _ _ (by decide), View.readCov_skip _ _ _ _ _ (by decide), View.readCov_skip _ _ _ _ _ (by decide)]
  exact View.readCov_fill _ _ _ _ _ (by decide)

/-- The maxima's pieces on path A. -/
theorem A_m : kernelRun0_A.sl.HS0_5 w0 w1 x0 x1 = MU cM x0 x1 iM kernelRun0_A.sl.HS0_1 := by
  unfold MU
  rw [← A_s0 w0 w1 x0 x1, ← A_s1 w0 w1 x0 x1, ← A_s2 w0 w1 x0 x1, ← A_s3 w0 w1 x0 x1,
    ← A_m0, ← A_m1 w0 w1 x0 x1, ← A_m2 w0 w1 x0 x1, ← A_m3 w0 w1 x0 x1]
  rfl

/-- The sums' pieces on path A. -/
theorem A_l : kernelRun0_A.sl.HS1_5 w0 w1 x0 x1 = LU cM x0 x1 iM iL kernelRun0_A.sl.HS1_1 := by
  unfold LU
  rw [← A_s0 w0 w1 x0 x1, ← A_s1 w0 w1 x0 x1, ← A_s2 w0 w1 x0 x1, ← A_s3 w0 w1 x0 x1,
    ← A_m0, ← A_m1 w0 w1 x0 x1, ← A_m2 w0 w1 x0 x1, ← A_m3 w0 w1 x0 x1,
    ← A_l0, ← A_l1 w0 w1 x0 x1, ← A_l2 w0 w1 x0 x1, ← A_l3 w0 w1 x0 x1]
  rfl

/-- The weighted sums' pieces on path A. -/
theorem A_a : kernelRun0_A.sl.HS2_5 w0 w1 w2 x0 x1 x2 = AU cM x0 x1 x2 iM iA kernelRun0_A.sl.HS2_1 := by
  unfold AU
  conv_rhs => rw [← w2_read w2 x2]
  rw [← A_s0 w0 w1 x0 x1, ← A_s1 w0 w1 x0 x1, ← A_s2 w0 w1 x0 x1, ← A_s3 w0 w1 x0 x1,
    ← A_m0, ← A_m1 w0 w1 x0 x1, ← A_m2 w0 w1 x0 x1, ← A_m3 w0 w1 x0 x1,
    ← A_a0, ← A_a1 w0 w1 w2 x0 x1 x2, ← A_a2 w0 w1 w2 x0 x1 x2, ← A_a3 w0 w1 w2 x0 x1 x2]
  rfl

/-- The first head's maxima on path B start from the fill. -/
theorem B_m0 : kernelRun0_B.sl.v44 = m0 iM := by
  unfold kernelRun0_B.sl.v44 kernelRun0_B.sl.HS0_1
  exact View.readCov_fill _ _ _ _ _ (by decide)

/-- The second head's maxima on path B start from the fill. -/
theorem B_m1 : kernelRun0_B.sl.v80 w0 w1 x0 x1 = m1 iM := by
  unfold kernelRun0_B.sl.v80 kernelRun0_B.sl.HS0_2 kernelRun0_B.sl.HS0_1
  rw [View.readCov_skip _ _ _ _ _ (by decide)]
  exact View.readCov_fill _ _ _ _ _ (by decide)

/-- The third head's maxima on path B start from the fill. -/
theorem B_m2 : kernelRun0_B.sl.v116 w0 w1 x0 x1 = m2 iM := by
  unfold kernelRun0_B.sl.v116 kernelRun0_B.sl.HS0_3 kernelRun0_B.sl.HS0_2 kernelRun0_B.sl.HS0_1
  rw [View.readCov_skip _ _ _ _ _ (by decide), View.readCov_skip _ _ _ _ _ (by decide)]
  exact View.readCov_fill _ _ _ _ _ (by decide)

/-- The fourth head's maxima on path B start from the fill. -/
theorem B_m3 : kernelRun0_B.sl.v152 w0 w1 x0 x1 = m3 iM := by
  unfold kernelRun0_B.sl.v152 kernelRun0_B.sl.HS0_4 kernelRun0_B.sl.HS0_3 kernelRun0_B.sl.HS0_2 kernelRun0_B.sl.HS0_1
  rw [View.readCov_skip _ _ _ _ _ (by decide), View.readCov_skip _ _ _ _ _ (by decide), View.readCov_skip _ _ _ _ _ (by decide)]
  exact View.readCov_fill _ _ _ _ _ (by decide)

/-- The first head's sums on path B start from the fill. -/
theorem B_l0 : kernelRun0_B.sl.v54 = m0 iL := by
  unfold kernelRun0_B.sl.v54 kernelRun0_B.sl.HS1_1
  exact View.readCov_fill _ _ _ _ _ (by decide)

/-- The second head's sums on path B start from the fill. -/
theorem B_l1 : kernelRun0_B.sl.v90 w0 w1 x0 x1 = m1 iL := by
  unfold kernelRun0_B.sl.v90 kernelRun0_B.sl.HS1_2 kernelRun0_B.sl.HS1_1
  rw [View.readCov_skip _ _ _ _ _ (by decide)]
  exact View.readCov_fill _ _ _ _ _ (by decide)

/-- The third head's sums on path B start from the fill. -/
theorem B_l2 : kernelRun0_B.sl.v126 w0 w1 x0 x1 = m2 iL := by
  unfold kernelRun0_B.sl.v126 kernelRun0_B.sl.HS1_3 kernelRun0_B.sl.HS1_2 kernelRun0_B.sl.HS1_1
  rw [View.readCov_skip _ _ _ _ _ (by decide), View.readCov_skip _ _ _ _ _ (by decide)]
  exact View.readCov_fill _ _ _ _ _ (by decide)

/-- The fourth head's sums on path B start from the fill. -/
theorem B_l3 : kernelRun0_B.sl.v162 w0 w1 x0 x1 = m3 iL := by
  unfold kernelRun0_B.sl.v162 kernelRun0_B.sl.HS1_4 kernelRun0_B.sl.HS1_3 kernelRun0_B.sl.HS1_2 kernelRun0_B.sl.HS1_1
  rw [View.readCov_skip _ _ _ _ _ (by decide), View.readCov_skip _ _ _ _ _ (by decide), View.readCov_skip _ _ _ _ _ (by decide)]
  exact View.readCov_fill _ _ _ _ _ (by decide)

/-- The first head's weighted sums on path B start from the fill. -/
theorem B_a0 : kernelRun0_B.sl.v65 = a0 iA := by
  unfold kernelRun0_B.sl.v65 kernelRun0_B.sl.HS2_1
  exact View.readCov_fill _ _ _ _ _ (by decide)

/-- The second head's weighted sums on path B start from the fill. -/
theorem B_a1 : kernelRun0_B.sl.v101 w0 w1 w2 x0 x1 x2 = a1 iA := by
  unfold kernelRun0_B.sl.v101 kernelRun0_B.sl.HS2_2 kernelRun0_B.sl.HS2_1
  rw [View.readCov_skip _ _ _ _ _ (by decide)]
  exact View.readCov_fill _ _ _ _ _ (by decide)

/-- The third head's weighted sums on path B start from the fill. -/
theorem B_a2 : kernelRun0_B.sl.v137 w0 w1 w2 x0 x1 x2 = a2 iA := by
  unfold kernelRun0_B.sl.v137 kernelRun0_B.sl.HS2_3 kernelRun0_B.sl.HS2_2 kernelRun0_B.sl.HS2_1
  rw [View.readCov_skip _ _ _ _ _ (by decide), View.readCov_skip _ _ _ _ _ (by decide)]
  exact View.readCov_fill _ _ _ _ _ (by decide)

/-- The fourth head's weighted sums on path B start from the fill. -/
theorem B_a3 : kernelRun0_B.sl.v173 w0 w1 w2 x0 x1 x2 = a3 iA := by
  unfold kernelRun0_B.sl.v173 kernelRun0_B.sl.HS2_4 kernelRun0_B.sl.HS2_3 kernelRun0_B.sl.HS2_2 kernelRun0_B.sl.HS2_1
  rw [View.readCov_skip _ _ _ _ _ (by decide), View.readCov_skip _ _ _ _ _ (by decide), View.readCov_skip _ _ _ _ _ (by decide)]
  exact View.readCov_fill _ _ _ _ _ (by decide)

/-- The maxima's pieces on path B. -/
theorem B_m : kernelRun0_B.sl.HS0_5 w0 w1 x0 x1 = MU cS x0 x1 iM kernelRun0_B.sl.HS0_1 := by
  unfold MU
  rw [← B_s0 w0 w1 x0 x1, ← B_s1 w0 w1 x0 x1, ← B_s2 w0 w1 x0 x1, ← B_s3 w0 w1 x0 x1,
    ← B_m0, ← B_m1 w0 w1 x0 x1, ← B_m2 w0 w1 x0 x1, ← B_m3 w0 w1 x0 x1]
  rfl

/-- The sums' pieces on path B. -/
theorem B_l : kernelRun0_B.sl.HS1_5 w0 w1 x0 x1 = LU cS x0 x1 iM iL kernelRun0_B.sl.HS1_1 := by
  unfold LU
  rw [← B_s0 w0 w1 x0 x1, ← B_s1 w0 w1 x0 x1, ← B_s2 w0 w1 x0 x1, ← B_s3 w0 w1 x0 x1,
    ← B_m0, ← B_m1 w0 w1 x0 x1, ← B_m2 w0 w1 x0 x1, ← B_m3 w0 w1 x0 x1,
    ← B_l0, ← B_l1 w0 w1 x0 x1, ← B_l2 w0 w1 x0 x1, ← B_l3 w0 w1 x0 x1]
  rfl

/-- The weighted sums' pieces on path B. -/
theorem B_a : kernelRun0_B.sl.HS2_5 w0 w1 w2 x0 x1 x2 = AU cS x0 x1 x2 iM iA kernelRun0_B.sl.HS2_1 := by
  unfold AU
  conv_rhs => rw [← w2_read w2 x2]
  rw [← B_s0 w0 w1 x0 x1, ← B_s1 w0 w1 x0 x1, ← B_s2 w0 w1 x0 x1, ← B_s3 w0 w1 x0 x1,
    ← B_m0, ← B_m1 w0 w1 x0 x1, ← B_m2 w0 w1 x0 x1, ← B_m3 w0 w1 x0 x1,
    ← B_a0, ← B_a1 w0 w1 w2 x0 x1 x2, ← B_a2 w0 w1 w2 x0 x1 x2, ← B_a3 w0 w1 w2 x0 x1 x2]
  rfl

end Cert.AttnStep
-- ==== Proof.AttnOut.lean ====
/-
The kernel's scratch after one block, and its output on a diagonal block, read at an index.
-/
module

public import proofs.«01_k».proof.Proof.AttnStep

@[expose] public section

set_option maxRecDepth 16384

noncomputable section

open Idealize.ShloMosaic Idealize.ShloMosaic.TcCoe Idealize.SL.Sem
open Cert.AttnIdeal Cert.AttnIdeal.Gen Cert.AttnCore Cert.AttnStep

namespace Cert.AttnOut

/-- The scores of a block, head by head. -/
def Sh (f : FVec Ideal S1x512x512 .f32 → FVec Ideal S512x512 .f32) (x0 x1 : FVec Ideal S512x512 .bf16) (h : Fin 4) : FVec Ideal S512x512 .f32 :=
  ![f (sS (c0 x1) (c0 x0)), f (sS (c1 x1) (c1 x0)), f (sS (c2 x1) (c2 x0)), f (sS (c3 x1) (c3 x0))] h

/-- The column of a head's entry. -/
def col (h : Fin 4) (d : Fin 128) : Fin 512 := ⟨128 * h.val + d.val, by omega⟩
/-- The row of a head's value entry. -/
def row (h : Fin 4) (d : Fin 64) : Fin 256 := ⟨64 * h.val + d.val, by omega⟩

section
variable (x : FVec Ideal S512x512 .bf16) (y : FVec Ideal S4x1x512 .f32) (a : FVec Ideal S4x64x512 .f32) (v : FVec Ideal S1x256x512 .bf16)

/-- The first head's columns, read. -/
theorem c0_apply (r : Fin 512) (d : Fin 128) : c0 x (ix2 r d) = x (ix2 r (col 0 d)) :=
  congrArg x (funext fun i => by match i with | ⟨0, _⟩ => exact Fin.ext (by show 0 + 1 * r.val = r.val; omega) | ⟨1, _⟩ => exact Fin.ext (by show 0 + 1 * d.val = 128 * 0 + d.val; omega))
/-- The second head's columns, read. -/
theorem c1_apply (r : Fin 512) (d : Fin 128) : c1 x (ix2 r d) = x (ix2 r (col 1 d)) :=
  congrArg x (funext fun i => by match i with | ⟨0, _⟩ => exact Fin.ext (by show 0 + 1 * r.val = r.val; omega) | ⟨1, _⟩ => exact Fin.ext (by show 128 + 1 * d.val = 128 * 1 + d.val; omega))
/-- The third head's columns, read. -/
theorem c2_apply (r : Fin 512) (d : Fin 128) : c2 x (ix2 r d) = x (ix2 r (col 2 d)) :=
  congrArg x (funext fun i => by match i with | ⟨0, _⟩ => exact Fin.ext (by show 0 + 1 * r.val = r.val; omega) | ⟨1, _⟩ => exact Fin.ext (by show 256 + 1 * d.val = 128 * 2 + d.val; omega))
/-- The fourth head's columns, read. -/
theorem c3_apply (r : Fin 512) (d : Fin 128) : c3 x (ix2 r d) = x (ix2 r (col 3 d)) :=
  congrArg x (funext fun i => by match i with | ⟨0, _⟩ => exact Fin.ext (by show 0 + 1 * r.val = r.val; omega) | ⟨1, _⟩ => exact Fin.ext (by show 384 + 1 * d.val = 128 * 3 + d.val; omega))

/-- The first head's row, read. -/
theorem m0_apply (q : Fin 512) : m0 y (ix3 0 0 q) = y (ix3 0 0 q) :=
  congrArg y (funext fun i => by match i with | ⟨0, _⟩ => rfl | ⟨1, _⟩ => rfl | ⟨2, _⟩ => exact Fin.ext (by show 0 + 1 * q.val = q.val; omega))
/-- The second head's row, read. -/
theorem m1_apply (q : Fin 512) : m1 y (ix3 0 0 q) = y (ix3 1 0 q) :=
  congrArg y (funext fun i => by match i with | ⟨0, _⟩ => rfl | ⟨1, _⟩ => rfl | ⟨2, _⟩ => exact Fin.ext (by show 0 + 1 * q.val = q.val; omega))
/-- The third head's row, read. -/
theorem m2_apply (q : Fin 512) : m2 y (ix3 0 0 q) = y (ix3 2 0 q) :=
  congrArg y (funext fun i => by match i with | ⟨0, _⟩ => rfl | ⟨1, _⟩ => rfl | ⟨2, _⟩ => exact Fin.ext (by show 0 + 1 * q.val = q.val; omega))
/-- The fourth head's row, read. -/
theorem m3_apply (q : Fin 512) : m3 y (ix3 0 0 q) = y (ix3 3 0 q) :=
  congrArg y (funext fun i => by match i with | ⟨0, _⟩ => rfl | ⟨1, _⟩ => rfl | ⟨2, _⟩ => exact Fin.ext (by show 0 + 1 * q.val = q.val; omega))

/-- The first head's plane, read. -/
theorem a0_apply (d : Fin 64) (q : Fin 512) : a0 a (ix3 0 d q) = a (ix3 0 d q) :=
  congrArg a (funext fun i => by match i with | ⟨0, _⟩ => rfl | ⟨1, _⟩ => exact Fin.ext (by show 0 + 1 * d.val = d.val; omega) | ⟨2, _⟩ => exact Fin.ext (by show 0 + 1 * q.val = q.val; omega))
/-- The second head's plane, read. -/
theorem a1_apply (d : Fin 64) (q : Fin 512) : a1 a (ix3 0 d q) = a (ix3 1 d q) :=
  congrArg a (funext fun i => by match i with | ⟨0, _⟩ => rfl | ⟨1, _⟩ => exact Fin.ext (by show 0 + 1 * d.val = d.val; omega) | ⟨2, _⟩ => exact Fin.ext (by show 0 + 1 * q.val = q.val; omega))
/-- The third head's plane, read. -/
theorem a2_apply (d : Fin 64) (q : Fin 512) : a2 a (ix3 0 d q) = a (ix3 2 d q) :=
  congrArg a (funext fun i => by match i with | ⟨0, _⟩ => rfl | ⟨1, _⟩ => exact Fin.ext (by show 0 + 1 * d.val = d.val; omega) | ⟨2, _⟩ => exact Fin.ext (by show 0 + 1 * q.val = q.val; omega))
/-- The fourth head's plane, read. -/
theorem a3_apply (d : Fin 64) (q : Fin 512) : a3 a (ix3 0 d q) = a (ix3 3 d q) :=
  congrArg a (funext fun i => by match i with | ⟨0, _⟩ => rfl | ⟨1, _⟩ => exact Fin.ext (by show 0 + 1 * d.val = d.val; omega) | ⟨2, _⟩ => exact Fin.ext (by show 0 + 1 * q.val = q.val; omega))

/-- The first head's values, read. -/
theorem v0_apply (d : Fin 64) (r : Fin 512) : v0 v (ix3 0 d r) = v (ix3 0 (row 0 d) r) :=
  congrArg v (funext fun i => by match i with | ⟨0, _⟩ => rfl | ⟨1, _⟩ => exact Fin.ext (by show 0 + 1 * d.val = 64 * 0 + d.val; omega) | ⟨2, _⟩ => exact Fin.ext (by show 0 + 1 * r.val = r.val; omega))
/-- The second head's values, read. -/
theorem v1_apply (d : Fin 64) (r : Fin 512) : v1 v (ix3 0 d r) = v (ix3 0 (row 1 d) r) :=
  congrArg v (funext fun i => by match i with | ⟨0, _⟩ => rfl | ⟨1, _⟩ => exact Fin.ext (by show 64 + 1 * d.val = 64 * 1 + d.val; omega) | ⟨2, _⟩ => exact Fin.ext (by show 0 + 1 * r.val = r.val; omega))
/-- The third head's values, read. -/
theorem v2_apply (d : Fin 64) (r : Fin 512) : v2 v (ix3 0 d r) = v (ix3 0 (row 2 d) r) :=
  congrArg v (funext fun i => by match i with | ⟨0, _⟩ => rfl | ⟨1, _⟩ => exact Fin.ext (by show 128 + 1 * d.val = 64 * 2 + d.val; omega) | ⟨2, _⟩ => exact Fin.ext (by show 0 + 1 * r.val = r.val; omega))
/-- The fourth head's values, read. -/
theorem v3_apply (d : Fin 64) (r : Fin 512) : v3 v (ix3 0 d r) = v (ix3 0 (row 3 d) r) :=
  congrArg v (funext fun i => by match i with | ⟨0, _⟩ => rfl | ⟨1, _⟩ => exact Fin.ext (by show 192 + 1 * d.val = 64 * 3 + d.val; omega) | ⟨2, _⟩ => exact Fin.ext (by show 0 + 1 * r.val = r.val; omega))
end

section
variable (f : FVec Ideal S1x512x512 .f32 → FVec Ideal S512x512 .f32) (x0 x1 : FVec Ideal S512x512 .bf16) (x2 : FVec Ideal S1x256x512 .bf16)
variable (M N : FVec Ideal S4x1x512 .f32) (A : FVec Ideal S4x64x512 .f32)

/-- The maximum of a head's query after the block. -/
def M' (h : Fin 4) (q : Fin 512) : EReal := max (M (ix3 h 0 q)) (Finset.univ.sup fun r : Fin 512 => Sh f x0 x1 h (ix2 r q))

/-- The maxima after a block, read. -/
theorem MU_apply (L : List (View.Piece (Elt Ideal) S4x1x512 .f32)) (h : Fin 4) (q : Fin 512) :
    View.canon (MU f x0 x1 M L) (ix3 h 0 q) = M' f x0 x1 M h q := by
  unfold MU
  rw [hp_apply]
  match h with
  | ⟨0, _⟩ => exact (mO_apply _ _ q).trans (by rw [m0_apply]; rfl)
  | ⟨1, _⟩ => exact (mO_apply _ _ q).trans (by rw [m1_apply]; rfl)
  | ⟨2, _⟩ => exact (mO_apply _ _ q).trans (by rw [m2_apply]; rfl)
  | ⟨3, _⟩ => exact (mO_apply _ _ q).trans (by rw [m3_apply]; rfl)

/-- The sums after a block, read. -/
theorem LU_apply (L : List (View.Piece (Elt Ideal) S4x1x512 .f32)) (h : Fin 4) (q : Fin 512) :
    View.canon (LU f x0 x1 M N L) (ix3 h 0 q)
      = Ideal.exp2 (M (ix3 h 0 q) - M' f x0 x1 M h q) * N (ix3 h 0 q) + ∑ r : Fin 512, Ideal.exp2 (Sh f x0 x1 h (ix2 r q) - M' f x0 x1 M h q) := by
  unfold LU
  rw [hp_apply]
  match h with
  | ⟨0, _⟩ => exact (lO_apply _ _ _ q).trans (by simp only [al_apply, pN_apply, mN_apply, m0_apply]; rfl)
  | ⟨1, _⟩ => exact (lO_apply _ _ _ q).trans (by simp only [al_apply, pN_apply, mN_apply, m1_apply]; rfl)
  | ⟨2, _⟩ => exact (lO_apply _ _ _ q).trans (by simp only [al_apply, pN_apply, mN_apply, m2_apply]; rfl)
  | ⟨3, _⟩ => exact (lO_apply _ _ _ q).trans (by simp only [al_apply, pN_apply, mN_apply, m3_apply]; rfl)

/-- The weighted sums after a block, read. -/
theorem AU_apply (L : List (View.Piece (Elt Ideal) S4x64x512 .f32)) (h : Fin 4) (d : Fin 64) (q : Fin 512) :
    View.canon (AU f x0 x1 x2 M A L) (ix3 h d q)
      = Ideal.exp2 (M (ix3 h 0 q) - M' f x0 x1 M h q) * A (ix3 h d q)
        + ∑ r : Fin 512, x2 (ix3 0 (row h d) r) * Ideal.exp2 (Sh f x0 x1 h (ix2 r q) - M' f x0 x1 M h q) := by
  unfold AU
  rw [hq_apply]
  match h with
  | ⟨0, _⟩ => exact (aO_apply _ _ _ _ d q).trans (by simp only [al_apply, pN_apply, mN_apply, m0_apply, a0_apply, v0_apply]; rfl)
  | ⟨1, _⟩ => exact (aO_apply _ _ _ _ d q).trans (by simp only [al_apply, pN_apply, mN_apply, m1_apply, a1_apply, v1_apply]; rfl)
  | ⟨2, _⟩ => exact (aO_apply _ _ _ _ d q).trans (by simp only [al_apply, pN_apply, mN_apply, m2_apply, a2_apply, v2_apply]; rfl)
  | ⟨3, _⟩ => exact (aO_apply _ _ _ _ d q).trans (by simp only [al_apply, pN_apply, mN_apply, m3_apply, a3_apply, v3_apply]; rfl)

/-- The scores of a whole block, read. -/
theorem ShS_apply (h : Fin 4) (r q : Fin 512) : Sh cS x0 x1 h (ix2 r q) = ∑ d : Fin 128, x1 (ix2 r (col h d)) * x0 (ix2 q (col h d)) := by
  match h with
  | ⟨0, _⟩ => exact (cS_apply _ _ r q).trans (by simp only [c0_apply]; rfl)
  | ⟨1, _⟩ => exact (cS_apply _ _ r q).trans (by simp only [c1_apply]; rfl)
  | ⟨2, _⟩ => exact (cS_apply _ _ r q).trans (by simp only [c2_apply]; rfl)
  | ⟨3, _⟩ => exact (cS_apply _ _ r q).trans (by simp only [c3_apply]; rfl)

/-- The scores of a diagonal block, read. -/
theorem ShM_apply (h : Fin 4) (r q : Fin 512) :
    Sh cM x0 x1 h (ix2 r q) = if r.val ≤ q.val then Sh cS x0 x1 h (ix2 r q) else ⊥ := by
  match h with
  | ⟨0, _⟩ => exact cM_apply _ r q
  | ⟨1, _⟩ => exact cM_apply _ r q
  | ⟨2, _⟩ => exact cM_apply _ r q
  | ⟨3, _⟩ => exact cM_apply _ r q
end

/-- The initial maxima are minus infinity. -/
theorem iM_apply (i : S4x1x512.Idx) : (iM i : EReal) = ⊥ := IdealRules.named_const.ideal_named_scalar _ _ _ _ rfl
/-- The initial sums are zero. -/
theorem iL_apply (i : S4x1x512.Idx) : (iL i : EReal) = 0 := by
  show Ideal.ofBits .f32 0x00000000#32 = 0
  exact Ideal.ofBits_zero .f32
/-- The initial weighted sums are zero. -/
theorem iA_apply (i : S4x64x512.Idx) : (iA i : EReal) = 0 := by
  show Ideal.ofBits .f32 0x00000000#32 = 0
  exact Ideal.ofBits_zero .f32

end Cert.AttnOut
-- ==== Proof.AttnTraj.lean ====
/-
What one step of the attention's grid leaves in the scratch buffers and in the output block.
-/
module

public import proofs.«01_k».proof.Proof.AttnOut

@[expose] public section

set_option maxRecDepth 16384

noncomputable section

open Idealize.ShloMosaic Idealize.ShloMosaic.TcCoe Idealize.SL.Sem
open Cert.AttnIdeal Cert.AttnIdeal.Gen Cert.AttnCore Cert.AttnStep Cert.AttnOut

namespace Cert.AttnTraj

/-- The first head's piece read back. -/
theorem hp_read0 {sig' : RefSig} {κ' : Kind} {sp' : Space} (v : View sig' κ' sp' S4x1x512 .f32) (w0 w1 w2 w3 : FVec Ideal S1x1x512 .f32) (L : List (View.Piece (Elt Ideal) S4x1x512 .f32)) :
    v.readCov (hp w0 w1 w2 w3 L) (Rect.unit (s := S4x1x512) ![0, 0, 0] S1x1x512.size inb_S4x1x512_S1x1x512_0_0_0).toLoadRect = w0 := by
  unfold hp
  rw [View.readCov_skip _ _ _ _ _ (by decide)]
  rw [View.readCov_skip _ _ _ _ _ (by decide)]
  rw [View.readCov_skip _ _ _ _ _ (by decide)]
  exact View.readCov_cons_toLoadRect _ _ _ _

/-- The second head's piece read back. -/
theorem hp_read1 {sig' : RefSig} {κ' : Kind} {sp' : Space} (v : View sig' κ' sp' S4x1x512 .f32) (w0 w1 w2 w3 : FVec Ideal S1x1x512 .f32) (L : List (View.Piece (Elt Ideal) S4x1x512 .f32)) :
    v.readCov (hp w0 w1 w2 w3 L) (Rect.unit (s := S4x1x512) ![1, 0, 0] S1x1x512.size inb_S4x1x512_S1x1x512_1_0_0).toLoadRect = w1 := by
  unfold hp
  rw [View.readCov_skip _ _ _ _ _ (by decide)]
  rw [View.readCov_skip _ _ _ _ _ (by decide)]
  exact View.readCov_cons_toLoadRect _ _ _ _

/-- The third head's piece read back. -/
theorem hp_read2 {sig' : RefSig} {κ' : Kind} {sp' : Space} (v : View sig' κ' sp' S4x1x512 .f32) (w0 w1 w2 w3 : FVec Ideal S1x1x512 .f32) (L : List (View.Piece (Elt Ideal) S4x1x512 .f32)) :
    v.readCov (hp w0 w1 w2 w3 L) (Rect.unit (s := S4x1x512) ![2, 0, 0] S1x1x512.size inb_S4x1x512_S1x1x512_2_0_0).toLoadRect = w2 := by
  unfold hp
  rw [View.readCov_skip _ _ _ _ _ (by decide)]
  exact View.readCov_cons_toLoadRect _ _ _ _

/-- The fourth head's piece read back. -/
theorem hp_read3 {sig' : RefSig} {κ' : Kind} {sp' : Space} (v : View sig' κ' sp' S4x1x512 .f32) (w0 w1 w2 w3 : FVec Ideal S1x1x512 .f32) (L : List (View.Piece (Elt Ideal) S4x1x512 .f32)) :
    v.readCov (hp w0 w1 w2 w3 L) (Rect.unit (s := S4x1x512) ![3, 0, 0] S1x1x512.size inb_S4x1x512_S1x1x512_3_0_0).toLoadRect = w3 := by
  unfold hp
  exact View.readCov_cons_toLoadRect _ _ _ _

/-- The first head's piece read back. -/
theorem hq_read0 {sig' : RefSig} {κ' : Kind} {sp' : Space} (v : View sig' κ' sp' S4x64x512 .f32) (w0 w1 w2 w3 : FVec Ideal S1x64x512 .f32) (L : List (View.Piece (Elt Ideal) S4x64x512 .f32)) :
    v.readCov (hq w0 w1 w2 w3 L) (Rect.unit (s := S4x64x512) ![0, 0, 0] S1x64x512.size inb_S4x64x512_S1x64x512_0_0_0).toLoadRect = w0 := by
  unfold hq
  rw [View.readCov_skip _ _ _ _ _ (by decide)]
  rw [View.readCov_skip _ _ _ _ _ (by decide)]
  rw [View.readCov_skip _ _ _ _ _ (by decide)]
  exact View.readCov_cons_toLoadRect _ _ _ _

/-- The second head's piece read back. -/
theorem hq_read1 {sig' : RefSig} {κ' : Kind} {sp' : Space} (v : View sig' κ' sp' S4x64x512 .f32) (w0 w1 w2 w3 : FVec Ideal S1x64x512 .f32) (L : List (View.Piece (Elt Ideal) S4x64x512 .f32)) :
    v.readCov (hq w0 w1 w2 w3 L) (Rect.unit (s := S4x64x512) ![1, 0, 0] S1x64x512.size inb_S4x64x512_S1x64x512_1_0_0).toLoadRect = w1 := by
  unfold hq
  rw [View.readCov_skip _ _ _ _ _ (by decide)]
  rw [View.readCov_skip _ _ _ _ _ (by decide)]
  exact View.readCov_cons_toLoadRect _ _ _ _

/-- The third head's piece read back. -/
theorem hq_read2 {sig' : RefSig} {κ' : Kind} {sp' : Space} (v : View sig' κ' sp' S4x64x512 .f32) (w0 w1 w2 w3 : FVec Ideal S1x64x512 .f32) (L : List (View.Piece (Elt Ideal) S4x64x512 .f32)) :
    v.readCov (hq w0 w1 w2 w3 L) (Rect.unit (s := S4x64x512) ![2, 0, 0] S1x64x512.size inb_S4x64x512_S1x64x512_2_0_0).toLoadRect = w2 := by
  unfold hq
  rw [View.readCov_skip _ _ _ _ _ (by decide)]
  exact View.readCov_cons_toLoadRect _ _ _ _

/-- The fourth head's piece read back. -/
theorem hq_read3 {sig' : RefSig} {κ' : Kind} {sp' : Space} (v : View sig' κ' sp' S4x64x512 .f32) (w0 w1 w2 w3 : FVec Ideal S1x64x512 .f32) (L : List (View.Piece (Elt Ideal) S4x64x512 .f32)) :
    v.readCov (hq w0 w1 w2 w3 L) (Rect.unit (s := S4x64x512) ![3, 0, 0] S1x64x512.size inb_S4x64x512_S1x64x512_3_0_0).toLoadRect = w3 := by
  unfold hq
  exact View.readCov_cons_toLoadRect _ _ _ _

section
variable (c : Dev nD)
variable (w0 w1 : Memref sig .tc .vmem S512x512 .bf16) (w2 : Memref sig .tc .vmem S1x256x512 .bf16)
variable (x0 x1 : FVec Ideal S512x512 .bf16) (x2 : FVec Ideal S1x256x512 .bf16)
variable (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

/-- The first head's weighted sums read back on path A. -/
theorem A_oa0 : kernelRun0_A.sl.v18_1 w0 w1 w2 x0 x1 x2 = aO (cM (sS (c0 x1) (c0 x0))) (m0 iM) (v0 x2) (a0 iA) := by
  unfold kernelRun0_A.sl.v18_1
  rw [A_a]
  unfold AU
  exact hq_read0 _ _ _ _ _ _

/-- The first head's sums read back on path A. -/
theorem A_ol0 : kernelRun0_A.sl.v20_1 w0 w1 x0 x1 = lO (cM (sS (c0 x1) (c0 x0))) (m0 iM) (m0 iL) := by
  unfold kernelRun0_A.sl.v20_1
  rw [A_l]
  unfold LU
  exact hp_read0 _ _ _ _ _ _

/-- The second head's weighted sums read back on path A. -/
theorem A_oa1 : kernelRun0_A.sl.v24 w0 w1 w2 x0 x1 x2 = aO (cM (sS (c1 x1) (c1 x0))) (m1 iM) (v1 x2) (a1 iA) := by
  unfold kernelRun0_A.sl.v24
  rw [A_a]
  unfold AU
  exact hq_read1 _ _ _ _ _ _

/-- The second head's sums read back on path A. -/
theorem A_ol1 : kernelRun0_A.sl.v26 w0 w1 x0 x1 = lO (cM (sS (c1 x1) (c1 x0))) (m1 iM) (m1 iL) := by
  unfold kernelRun0_A.sl.v26
  rw [A_l]
  unfold LU
  exact hp_read1 _ _ _ _ _ _

/-- The third head's weighted sums read back on path A. -/
theorem A_oa2 : kernelRun0_A.sl.v30 w0 w1 w2 x0 x1 x2 = aO (cM (sS (c2 x1) (c2 x0))) (m2 iM) (v2 x2) (a2 iA) := by
  unfold kernelRun0_A.sl.v30
  rw [A_a]
  unfold AU
  exact hq_read2 _ _ _ _ _ _

/-- The third head's sums read back on path A. -/
theorem A_ol2 : kernelRun0_A.sl.v32_1 w0 w1 x0 x1 = lO (cM (sS (c2 x1) (c2 x0))) (m2 iM) (m2 iL) := by
  unfold kernelRun0_A.sl.v32_1
  rw [A_l]
  unfold LU
  exact hp_read2 _ _ _ _ _ _

/-- The fourth head's weighted sums read back on path A. -/
theorem A_oa3 : kernelRun0_A.sl.v36 w0 w1 w2 x0 x1 x2 = aO (cM (sS (c3 x1) (c3 x0))) (m3 iM) (v3 x2) (a3 iA) := by
  unfold kernelRun0_A.sl.v36
  rw [A_a]
  unfold AU
  exact hq_read3 _ _ _ _ _ _

/-- The fourth head's sums read back on path A. -/
theorem A_ol3 : kernelRun0_A.sl.v38_1 w0 w1 x0 x1 = lO (cM (sS (c3 x1) (c3 x0))) (m3 iM) (m3 iL) := by
  unfold kernelRun0_A.sl.v38_1
  rw [A_l]
  unfold LU
  exact hp_read3 _ _ _ _ _ _

/-- The first head's weighted sums read back on path C. -/
theorem C_oa0 : kernelRun0_C.sl.v18_1 c w0 w1 w2 x0 x1 x2 xa0 xa2 = aO (cM (sS (c0 x1) (c0 x0))) (m0 (rM c xa0)) (v0 x2) (a0 (rA c xa2)) := by
  unfold kernelRun0_C.sl.v18_1
  rw [C_a]
  unfold AU
  exact hq_read0 _ _ _ _ _ _

/-- The first head's sums read back on path C. -/
theorem C_ol0 : kernelRun0_C.sl.v20_1 c w0 w1 x0 x1 xa0 xa1 = lO (cM (sS (c0 x1) (c0 x0))) (m0 (rM c xa0)) (m0 (rL c xa1)) := by
  unfold kernelRun0_C.sl.v20_1
  rw [C_l]
  unfold LU
  exact hp_read0 _ _ _ _ _ _

/-- The second head's weighted sums read back on path C. -/
theorem C_oa1 : kernelRun0_C.sl.v24 c w0 w1 w2 x0 x1 x2 xa0 xa2 = aO (cM (sS (c1 x1) (c1 x0))) (m1 (rM c xa0)) (v1 x2) (a1 (rA c xa2)) := by
  unfold kernelRun0_C.sl.v24
  rw [C_a]
  unfold AU
  exact hq_read1 _ _ _ _ _ _

/-- The second head's sums read back on path C. -/
theorem C_ol1 : kernelRun0_C.sl.v26 c w0 w1 x0 x1 xa0 xa1 = lO (cM (sS (c1 x1) (c1 x0))) (m1 (rM c xa0)) (m1 (rL c xa1)) := by
  unfold kernelRun0_C.sl.v26
  rw [C_l]
  unfold LU
  exact hp_read1 _ _ _ _ _ _

/-- The third head's weighted sums read back on path C. -/
theorem C_oa2 : kernelRun0_C.sl.v30 c w0 w1 w2 x0 x1 x2 xa0 xa2 = aO (cM (sS (c2 x1) (c2 x0))) (m2 (rM c xa0)) (v2 x2) (a2 (rA c xa2)) := by
  unfold kernelRun0_C.sl.v30
  rw [C_a]
  unfold AU
  exact hq_read2 _ _ _ _ _ _

/-- The third head's sums read back on path C. -/
theorem C_ol2 : kernelRun0_C.sl.v32_1 c w0 w1 x0 x1 xa0 xa1 = lO (cM (sS (c2 x1) (c2 x0))) (m2 (rM c xa0)) (m2 (rL c xa1)) := by
  unfold kernelRun0_C.sl.v32_1
  rw [C_l]
  unfold LU
  exact hp_read2 _ _ _ _ _ _

/-- The fourth head's weighted sums read back on path C. -/
theorem C_oa3 : kernelRun0_C.sl.v36 c w0 w1 w2 x0 x1 x2 xa0 xa2 = aO (cM (sS (c3 x1) (c3 x0))) (m3 (rM c xa0)) (v3 x2) (a3 (rA c xa2)) := by
  unfold kernelRun0_C.sl.v36
  rw [C_a]
  unfold AU
  exact hq_read3 _ _ _ _ _ _

/-- The fourth head's sums read back on path C. -/
theorem C_ol3 : kernelRun0_C.sl.v38_1 c w0 w1 x0 x1 xa0 xa1 = lO (cM (sS (c3 x1) (c3 x0))) (m3 (rM c xa0)) (m3 (rL c xa1)) := by
  unfold kernelRun0_C.sl.v38_1
  rw [C_l]
  unfold LU
  exact hp_read3 _ _ _ _ _ _

end

/-- The output block: the four heads' weighted sums over their sums, normalised. -/
def oP (a0 : FVec Ideal S1x64x512 .f32) (l0 : FVec Ideal S1x1x512 .f32) (a1 : FVec Ideal S1x64x512 .f32) (l1 : FVec Ideal S1x1x512 .f32)
    (a2 : FVec Ideal S1x64x512 .f32) (l2 : FVec Ideal S1x1x512 .f32) (a3 : FVec Ideal S1x64x512 .f32) (l3 : FVec Ideal S1x1x512 .f32)
    (g : FVec Ideal S256x1 .f32) : FVec Ideal S512x256 .f32 :=
  k0_pay9 (k0_pay88 a0 l0 a1 l1 a2 l2 a3 l3) (k0_pay89 a0 l0 a1 l1 a2 l2 a3 l3) g

/-- The output block of a diagonal step, from the values before it. -/
def OU (x0 x1 : FVec Ideal S512x512 .bf16) (x2 : FVec Ideal S1x256x512 .bf16) (g : FVec Ideal S256x1 .f32)
    (M N : FVec Ideal S4x1x512 .f32) (A : FVec Ideal S4x64x512 .f32) : FVec Ideal S512x256 .f32 :=
  oP (aO (cM (sS (c0 x1) (c0 x0))) (m0 M) (v0 x2) (a0 A)) (lO (cM (sS (c0 x1) (c0 x0))) (m0 M) (m0 N))
    (aO (cM (sS (c1 x1) (c1 x0))) (m1 M) (v1 x2) (a1 A)) (lO (cM (sS (c1 x1) (c1 x0))) (m1 M) (m1 N))
    (aO (cM (sS (c2 x1) (c2 x0))) (m2 M) (v2 x2) (a2 A)) (lO (cM (sS (c2 x1) (c2 x0))) (m2 M) (m2 N))
    (aO (cM (sS (c3 x1) (c3 x0))) (m3 M) (v3 x2) (a3 A)) (lO (cM (sS (c3 x1) (c3 x0))) (m3 M) (m3 N)) g

/-- The gains' buffer read whole. -/
theorem w3_read (w : Memref sig .tc .vmem S256x1 .f32) (x : FVec Ideal S256x1 .f32) :
    View.readAt (Elt Ideal) w.view (Rect.unit (s := S256x1) ![0, 0] S256x1.size inb_S256x1_S256x1_0_0).toLoadRect (w.view.rep x) = x := by
  funext j
  rw [View.readAt_apply, View.read_rep]
  refine congrArg x (funext fun i => ?_)
  match i with
  | ⟨0, _⟩ => exact Fin.ext (by show 0 + 1 * (j 0).val = (j 0).val; omega)
  | ⟨1, _⟩ => exact Fin.ext (by show 0 + 1 * (j 1).val = (j 1).val; omega)

section
variable (ch : Fin 1)
variable (m : (ℓ : Loc nD τ sig) → Buf (Elt Ideal) ℓ) (ρ : Dev nD → PrngReg) (c : Dev nD) (t : Fin (cfgA ch).N)
variable (prev : (S512x256.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3))

/-- The block of queries. -/
abbrev bq : FVec Ideal S512x512 .bf16 := iblk ch m ρ c (0 : Fin 5) t
/-- The block of keys. -/
abbrev bk : FVec Ideal S512x512 .bf16 := iblk ch m ρ c (1 : Fin 5) t
/-- The block of values. -/
abbrev bv : FVec Ideal S1x256x512 .bf16 := iblk ch m ρ c (2 : Fin 5) t
/-- The gains. -/
abbrev bg : FVec Ideal S256x1 .f32 := iblk ch m ρ c (3 : Fin 5) t

/-- What a step at the only block of a query block leaves: the maxima. -/
theorem step_A_m (q0 : P0_0 ch t) (q1 : ¬P0_1 ch t) :
    rM c (step0 ch m ρ c t prev).2.1 = View.canon (MU cM (bq ch m ρ c t) (bk ch m ρ c t) iM kernelRun0_A.sl.HS0_1) := by
  rw [step0_A ch m ρ c t prev q0 q1]
  unfold kernelRun0_A
  dsimp only
  exact (View.read_writes_junk_eq_canon _ _).trans (congrArg View.canon (A_m _ _ _ _))

/-- What a step at the only block of a query block leaves: the sums. -/
theorem step_A_l (q0 : P0_0 ch t) (q1 : ¬P0_1 ch t) :
    rL c (step0 ch m ρ c t prev).2.2.1 = View.canon (LU cM (bq ch m ρ c t) (bk ch m ρ c t) iM iL kernelRun0_A.sl.HS1_1) := by
  rw [step0_A ch m ρ c t prev q0 q1]
  unfold kernelRun0_A
  dsimp only
  exact (View.read_writes_junk_eq_canon _ _).trans (congrArg View.canon (A_l _ _ _ _))

/-- What a step at the only block of a query block leaves: the weighted sums. -/
theorem step_A_a (q0 : P0_0 ch t) (q1 : ¬P0_1 ch t) :
    rA c (step0 ch m ρ c t prev).2.2.2.1 = View.canon (AU cM (bq ch m ρ c t) (bk ch m ρ c t) (bv ch m ρ c t) iM iA kernelRun0_A.sl.HS2_1) := by
  rw [step0_A ch m ρ c t prev q0 q1]
  unfold kernelRun0_A
  dsimp only
  exact (View.read_writes_junk_eq_canon _ _).trans (congrArg View.canon (A_a _ _ _ _ _ _))

/-- What a step at the only block of a query block leaves: the output block. -/
theorem step_A_o (q0 : P0_0 ch t) (q1 : ¬P0_1 ch t) :
    (step0 ch m ρ c t prev).1 = OU (bq ch m ρ c t) (bk ch m ρ c t) (bv ch m ρ c t) (bg ch m ρ c t) iM iL iA := by
  rw [step0_A ch m ρ c t prev q0 q1]
  unfold OU out0_A_4 kernelRun0_A
  dsimp only
  unfold kernelRun0_A.sl.HO4_1
  rw [View.read_writes_junk_eq_canon, View.canon_cons_unit_lit _ _ _ (by decide)]
  rw [← w3_read (ms0_3 ch t) (bg ch m ρ c t)]
  rw [← A_oa0 (ms0_0 ch t) (ms0_1 ch t) (ms0_2 ch t) (bq ch m ρ c t) (bk ch m ρ c t) (bv ch m ρ c t), ← A_ol0 (ms0_0 ch t) (ms0_1 ch t) (bq ch m ρ c t) (bk ch m ρ c t),
    ← A_oa1 (ms0_0 ch t) (ms0_1 ch t) (ms0_2 ch t) (bq ch m ρ c t) (bk ch m ρ c t) (bv ch m ρ c t), ← A_ol1 (ms0_0 ch t) (ms0_1 ch t) (bq ch m ρ c t) (bk ch m ρ c t),
    ← A_oa2 (ms0_0 ch t) (ms0_1 ch t) (ms0_2 ch t) (bq ch m ρ c t) (bk ch m ρ c t) (bv ch m ρ c t), ← A_ol2 (ms0_0 ch t) (ms0_1 ch t) (bq ch m ρ c t) (bk ch m ρ c t),
    ← A_oa3 (ms0_0 ch t) (ms0_1 ch t) (ms0_2 ch t) (bq ch m ρ c t) (bk ch m ρ c t) (bv ch m ρ c t), ← A_ol3 (ms0_0 ch t) (ms0_1 ch t) (bq ch m ρ c t) (bk ch m ρ c t)]
  rfl

/-- What a step at the first of several blocks leaves: the maxima. -/
theorem step_B_m (q0 : P0_0 ch t) (q1 : P0_1 ch t) :
    rM c (step0 ch m ρ c t prev).2.1 = View.canon (MU cS (bq ch m ρ c t) (bk ch m ρ c t) iM kernelRun0_B.sl.HS0_1) := by
  rw [step0_B ch m ρ c t prev q0 q1]
  unfold kernelRun0_B
  dsimp only
  exact (View.read_writes_junk_eq_canon _ _).trans (congrArg View.canon (B_m _ _ _ _))

/-- What a step at the first of several blocks leaves: the sums. -/
theorem step_B_l (q0 : P0_0 ch t) (q1 : P0_1 ch t) :
    rL c (step0 ch m ρ c t prev).2.2.1 = View.canon (LU cS (bq ch m ρ c t) (bk ch m ρ c t) iM iL kernelRun0_B.sl.HS1_1) := by
  rw [step0_B ch m ρ c t prev q0 q1]
  unfold kernelRun0_B
  dsimp only
  exact (View.read_writes_junk_eq_canon _ _).trans (congrArg View.canon (B_l _ _ _ _))

/-- What a step at the first of several blocks leaves: the weighted sums. -/
theorem step_B_a (q0 : P0_0 ch t) (q1 : P0_1 ch t) :
    rA c (step0 ch m ρ c t prev).2.2.2.1 = View.canon (AU cS (bq ch m ρ c t) (bk ch m ρ c t) (bv ch m ρ c t) iM iA kernelRun0_B.sl.HS2_1) := by
  rw [step0_B ch m ρ c t prev q0 q1]
  unfold kernelRun0_B
  dsimp only
  exact (View.read_writes_junk_eq_canon _ _).trans (congrArg View.canon (B_a _ _ _ _ _ _))

/-- What a step at the last, diagonal block leaves: the maxima. -/
theorem step_C_m (q0 : ¬P0_0 ch t) (q1 : ¬P0_1 ch t) :
    rM c (step0 ch m ρ c t prev).2.1 = View.canon (MU cM (bq ch m ρ c t) (bk ch m ρ c t) (rM c prev.2.1) []) := by
  rw [step0_C ch m ρ c t prev q0 q1]
  unfold kernelRun0_C
  dsimp only
  exact (View.read_writes_junk_eq_canon _ _).trans (congrArg View.canon (C_m _ _ _ _ _ _))

/-- What a step at the last, diagonal block leaves: the sums. -/
theorem step_C_l (q0 : ¬P0_0 ch t) (q1 : ¬P0_1 ch t) :
    rL c (step0 ch m ρ c t prev).2.2.1 = View.canon (LU cM (bq ch m ρ c t) (bk ch m ρ c t) (rM c prev.2.1) (rL c prev.2.2.1) []) := by
  rw [step0_C ch m ρ c t prev q0 q1]
  unfold kernelRun0_C
  dsimp only
  exact (View.read_writes_junk_eq_canon _ _).trans (congrArg View.canon (C_l _ _ _ _ _ _ _))

/-- What a step at the last, diagonal block leaves: the weighted sums. -/
theorem step_C_a (q0 : ¬P0_0 ch t) (q1 : ¬P0_1 ch t) :
    rA c (step0 ch m ρ c t prev).2.2.2.1 = View.canon (AU cM (bq ch m ρ c t) (bk ch m ρ c t) (bv ch m ρ c t) (rM c prev.2.1) (rA c prev.2.2.2.1) []) := by
  rw [step0_C ch m ρ c t prev q0 q1]
  unfold kernelRun0_C
  dsimp only
  exact (View.read_writes_junk_eq_canon _ _).trans (congrArg View.canon (C_a _ _ _ _ _ _ _ _ _))

/-- What a step at the last, diagonal block leaves: the output block. -/
theorem step_C_o (q0 : ¬P0_0 ch t) (q1 : ¬P0_1 ch t) :
    (step0 ch m ρ c t prev).1 = OU (bq ch m ρ c t) (bk ch m ρ c t) (bv ch m ρ c t) (bg ch m ρ c t) (rM c prev.2.1) (rL c prev.2.2.1) (rA c prev.2.2.2.1) := by
  rw [step0_C ch m ρ c t prev q0 q1]
  unfold OU out0_C_4 kernelRun0_C
  dsimp only
  unfold kernelRun0_C.sl.HO4_1
  rw [View.read_writes_junk_eq_canon, View.canon_cons_unit_lit _ _ _ (by decide)]
  rw [← w3_read (ms0_3 ch t) (bg ch m ρ c t)]
  rw [← C_oa0 c (ms0_0 ch t) (ms0_1 ch t) (ms0_2 ch t) (bq ch m ρ c t) (bk ch m ρ c t) (bv ch m ρ c t) prev.2.1 prev.2.2.2.1, ← C_ol0 c (ms0_0 ch t) (ms0_1 ch t) (bq ch m ρ c t) (bk ch m ρ c t) prev.2.1 prev.2.2.1,
    ← C_oa1 c (ms0_0 ch t) (ms0_1 ch t) (ms0_2 ch t) (bq ch m ρ c t) (bk ch m ρ c t) (bv ch m ρ c t) prev.2.1 prev.2.2.2.1, ← C_ol1 c (ms0_0 ch t) (ms0_1 ch t) (bq ch m ρ c t) (bk ch m ρ c t) prev.2.1 prev.2.2.1,
    ← C_oa2 c (ms0_0 ch t) (ms0_1 ch t) (ms0_2 ch t) (bq ch m ρ c t) (bk ch m ρ c t) (bv ch m ρ c t) prev.2.1 prev.2.2.2.1, ← C_ol2 c (ms0_0 ch t) (ms0_1 ch t) (bq ch m ρ c t) (bk ch m ρ c t) prev.2.1 prev.2.2.1,
    ← C_oa3 c (ms0_0 ch t) (ms0_1 ch t) (ms0_2 ch t) (bq ch m ρ c t) (bk ch m ρ c t) (bv ch m ρ c t) prev.2.1 prev.2.2.2.1, ← C_ol3 c (ms0_0 ch t) (ms0_1 ch t) (bq ch m ρ c t) (bk ch m ρ c t) prev.2.1 prev.2.2.1]
  rfl

/-- What a step at a block between leaves: the maxima. -/
theorem step_D_m (q0 : ¬P0_0 ch t) (q1 : P0_1 ch t) :
    rM c (step0 ch m ρ c t prev).2.1 = View.canon (MU cS (bq ch m ρ c t) (bk ch m ρ c t) (rM c prev.2.1) []) := by
  rw [step0_D ch m ρ c t prev q0 q1]
  unfold kernelRun0_D
  dsimp only
  exact (View.read_writes_junk_eq_canon _ _).trans (congrArg View.canon (D_m _ _ _ _ _ _))

/-- What a step at a block between leaves: the sums. -/
theorem step_D_l (q0 : ¬P0_0 ch t) (q1 : P0_1 ch t) :
    rL c (step0 ch m ρ c t prev).2.2.1 = View.canon (LU cS (bq ch m ρ c t) (bk ch m ρ c t) (rM c prev.2.1) (rL c prev.2.2.1) []) := by
  rw [step0_D ch m ρ c t prev q0 q1]
  unfold kernelRun0_D
  dsimp only
  exact (View.read_writes_junk_eq_canon _ _).trans (congrArg View.canon (D_l _ _ _ _ _ _ _))

/-- What a step at a block between leaves: the weighted sums. -/
theorem step_D_a (q0 : ¬P0_0 ch t) (q1 : P0_1 ch t) :
    rA c (step0 ch m ρ c t prev).2.2.2.1 = View.canon (AU cS (bq ch m ρ c t) (bk ch m ρ c t) (bv ch m ρ c t) (rM c prev.2.1) (rA c prev.2.2.2.1) []) := by
  rw [step0_D ch m ρ c t prev q0 q1]
  unfold kernelRun0_D
  dsimp only
  exact (View.read_writes_junk_eq_canon _ _).trans (congrArg View.canon (D_a _ _ _ _ _ _ _ _ _))

end

end Cert.AttnTraj
-- ==== Proof.AttnBlk.lean ====
/-
The output block of a diagonal step, read at an index: the weighted sums over the sums,
normalised over the row.
-/
module

public import proofs.«01_k».proof.Proof.AttnTraj

@[expose] public section

set_option maxRecDepth 16384

noncomputable section

open Idealize.ShloMosaic Idealize.ShloMosaic.TcCoe Idealize.SL.Sem
open Cert.AttnIdeal Cert.AttnIdeal.Gen Cert.AttnCore Cert.AttnStep Cert.AttnOut Cert.AttnTraj

namespace Cert.AttnBlk

section
variable (a0 a1 a2 a3 : FVec Ideal S1x64x512 .f32) (l0 l1 l2 l3 : FVec Ideal S1x1x512 .f32)

/-- The quotients of the four heads, one above the other, read. -/
theorem pay88_apply (j : Fin 256) (q : Fin 512) :
    (k0_pay88 (F := Ideal) a0 l0 a1 l1 a2 l2 a3 l3 (ix2 j q) : EReal)
      = Ideal.div (![a0, a1, a2, a3] ⟨j.val / 64, by omega⟩ (ix3 0 ⟨j.val % 64, by omega⟩ q)) (![l0, l1, l2, l3] ⟨j.val / 64, by omega⟩ (ix3 0 0 q)) := by
  pointwise [k0_pay88]
  have hj := j.isLt
  have key : ∀ (n : Fin 4) (d : Fin 64), j.val = 64 * n.val + d.val → (⟨j.val / 64, by omega⟩ : Fin 4) = n ∧ (⟨j.val % 64, by omega⟩ : Fin 64) = d :=
    fun n d e => ⟨Fin.ext (by show j.val / 64 = n.val; omega), Fin.ext (by show j.val % 64 = d.val; omega)⟩
  by_cases h0 : j.val < 64
  · obtain ⟨e1, e2⟩ := key 0 ⟨j.val, h0⟩ (by show j.val = 64 * 0 + j.val; omega)
    rw [dif_pos h0, e1, e2]
    generalize (⟨j.val, h0⟩ : Fin 64) = d
    rfl
  rw [dif_neg h0]
  by_cases h1 : j.val - 64 < 64
  · obtain ⟨e1, e2⟩ := key 1 ⟨j.val - 64, h1⟩ (by show j.val = 64 * 1 + (j.val - 64); omega)
    rw [dif_pos h1, e1, e2]
    generalize (⟨j.val - 64, h1⟩ : Fin 64) = d
    rfl
  rw [dif_neg h1]
  by_cases h2 : j.val - 64 - 64 < 64
  · obtain ⟨e1, e2⟩ := key 2 ⟨j.val - 64 - 64, h2⟩ (by show j.val = 64 * 2 + (j.val - 64 - 64); omega)
    rw [dif_pos h2, e1, e2]
    generalize (⟨j.val - 64 - 64, h2⟩ : Fin 64) = d
    rfl
  rw [dif_neg h2]
  obtain ⟨e1, e2⟩ := key 3 ⟨j.val - 64 - 64 - 64, by omega⟩ (by show j.val = 64 * 3 + (j.val - 64 - 64 - 64); omega)
  rw [e1, e2]
  generalize (⟨j.val - 64 - 64 - 64, _⟩ : Fin 64) = d
  rfl

/-- The output block, read. -/
theorem oP_apply (g : FVec Ideal S256x1 .f32) (q : Fin 512) (j : Fin 256) :
    (oP a0 l0 a1 l1 a2 l2 a3 l3 g (ix2 q j) : EReal)
      = (k0_pay88 (F := Ideal) a0 l0 a1 l1 a2 l2 a3 l3 (ix2 j q) * Ideal.rsqrt (Ideal.div (∑ x : Fin 256, (k0_pay88 (F := Ideal) a0 l0 a1 l1 a2 l2 a3 l3 (ix2 x q) * k0_pay88 (F := Ideal) a0 l0 a1 l1 a2 l2 a3 l3 (ix2 x q) : EReal)) (Ideal.ofBits FTy.f32 0x43800000#32) + Ideal.ofBits FTy.f32 0x3727C5AC#32) * g (ix2 j 0) : EReal) := by
  pointwise [oP, k0_pay9, k0_pay89]
end

section
variable (x0 x1 : FVec Ideal S512x512 .bf16) (x2 : FVec Ideal S1x256x512 .bf16)
variable (M N : FVec Ideal S4x1x512 .f32) (A : FVec Ideal S4x64x512 .f32)

/-- A diagonal step's output block, from the contents the same step leaves in the scratch buffers. -/
theorem OU_apply (g : FVec Ideal S256x1 .f32) (L1 : List (View.Piece (Elt Ideal) S4x1x512 .f32)) (L2 : List (View.Piece (Elt Ideal) S4x64x512 .f32)) (y : Fin 256 → Fin 512 → EReal)
    (hy : ∀ (h : Fin 4) (d : Fin 64) (q : Fin 512), y (row h d) q = Ideal.div (View.canon (AU cM x0 x1 x2 M A L2) (ix3 h d q)) (View.canon (LU cM x0 x1 M N L1) (ix3 h 0 q)))
    (q : Fin 512) (j : Fin 256) :
    (OU x0 x1 x2 g M N A (ix2 q j) : EReal)
      = (y j q * Ideal.rsqrt (Ideal.div (∑ x : Fin 256, y x q * y x q) (Ideal.ofBits FTy.f32 0x43800000#32) + Ideal.ofBits FTy.f32 0x3727C5AC#32) * g (ix2 j 0) : EReal) := by
  unfold OU
  rw [oP_apply]
  have e : ∀ x : Fin 256, (k0_pay88 (F := Ideal) (aO (cM (sS (c0 x1) (c0 x0))) (m0 M) (v0 x2) (a0 A)) (lO (cM (sS (c0 x1) (c0 x0))) (m0 M) (m0 N))
    (aO (cM (sS (c1 x1) (c1 x0))) (m1 M) (v1 x2) (a1 A)) (lO (cM (sS (c1 x1) (c1 x0))) (m1 M) (m1 N))
    (aO (cM (sS (c2 x1) (c2 x0))) (m2 M) (v2 x2) (a2 A)) (lO (cM (sS (c2 x1) (c2 x0))) (m2 M) (m2 N))
    (aO (cM (sS (c3 x1) (c3 x0))) (m3 M) (v3 x2) (a3 A)) (lO (cM (sS (c3 x1) (c3 x0))) (m3 M) (m3 N)) (ix2 x q) : EReal) = y x q := by
    intro x
    have ex : x = row ⟨x.val / 64, by omega⟩ ⟨x.val % 64, by omega⟩ := Fin.ext (by show x.val = 64 * (x.val / 64) + x.val % 64; omega)
    rw [pay88_apply]
    refine Eq.trans ?_ (congrArg (fun z => y z q) ex.symm)
    show _ = y (row _ _) q
    rw [hy]
    unfold AU LU
    rw [hq_apply, hp_apply]
  simp only [e]
end
end Cert.AttnBlk
-- ==== Proof.AttnIdx.lean ====
/-
The attention's grid: which blocks each point reads and writes, and which path it takes.
-/
module

public import proofs.«01_k».proof.Proof.Gen.AttnIdeal.Flash
public import Idealize.ShloMosaic.Lib.Pipeline.ValueKit

@[expose] public section

set_option maxRecDepth 16384

noncomputable section

open Idealize.ShloMosaic Idealize.ShloMosaic.TcCoe Idealize.SL.Sem
open Cert.AttnIdeal Cert.AttnIdeal.Gen

namespace Cert.AttnIdx

/-- The query block of each point of a sequence's schedule. -/
def qiL : List ℕ := [0, 1,1, 2,2,2, 3,3,3,3, 4,4,4,4,4, 5,5,5,5,5,5, 6,6,6,6,6,6,6, 7,7,7,7,7,7,7,7]
/-- The key block of each point of a sequence's schedule. -/
def kiL : List ℕ := [0, 0,1, 0,1,2, 0,1,2,3, 0,1,2,3,4, 0,1,2,3,4,5, 0,1,2,3,4,5,6, 0,1,2,3,4,5,6,7]
/-- The query block of a point. -/
def qi (n : ℕ) : ℕ := qiL.getD (n % 36) 0
/-- The key block of a point. -/
def ki (n : ℕ) : ℕ := kiL.getD (n % 36) 0

/-- A point's blocks lie inside the sequences, and the points of a query block follow one another. -/
theorem sched : ∀ t : Fin 144, qi t.val < 8 ∧ ki t.val ≤ qi t.val ∧ t.val / 36 < 4
    ∧ (ki t.val ≠ 0 → t.val ≠ 0 ∧ (t.val - 1) / 36 = t.val / 36 ∧ qi (t.val - 1) = qi t.val ∧ ki (t.val - 1) + 1 = ki t.val) := by
  decide +kernel

/-- The first test: the first key block. -/
theorem path0 : ∀ t : Fin (cfgA 0).N, P0_0 0 t ↔ ki t.val = 0 :=
  (by decide +kernel : ∀ t : Fin 144, P0_0 0 t ↔ ki t.val = 0)

/-- The second test: a key block before the query's. -/
theorem path1 : ∀ t : Fin (cfgA 0).N, P0_1 0 t ↔ ki t.val < qi t.val :=
  (by decide +kernel : ∀ t : Fin 144, P0_1 0 t ↔ ki t.val < qi t.val)

/-- Window 0's block index at a point, axis by axis. -/
theorem idx0_ : ∀ t : Fin (cfgA 0).N, ((cfgA 0).win (0 : Fin 5)).index t (0 : Fin 2) = t.val / 36 * 8 + qi t.val ∧ ((cfgA 0).win (0 : Fin 5)).index t (1 : Fin 2) = 0 :=
  (by decide +kernel : ∀ t : Fin 144, ((cfgA 0).win (0 : Fin 5)).index t (0 : Fin 2) = t.val / 36 * 8 + qi t.val ∧ ((cfgA 0).win (0 : Fin 5)).index t (1 : Fin 2) = 0)
/-- Window 0's block index at a point. -/
theorem idx0 (t : Fin (cfgA 0).N) : @Eq (Fin 2 → ℕ) (((cfgA 0).win (0 : Fin 5)).index t) ![t.val / 36 * 8 + qi t.val, 0] := by
  have h := idx0_ t
  funext a
  match a with
  | ⟨0, _⟩ => exact h.1
  | ⟨1, _⟩ => exact h.2

/-- Window 1's block index at a point, axis by axis. -/
theorem idx1_ : ∀ t : Fin (cfgA 0).N, ((cfgA 0).win (1 : Fin 5)).index t (0 : Fin 2) = t.val / 36 * 8 + ki t.val ∧ ((cfgA 0).win (1 : Fin 5)).index t (1 : Fin 2) = 0 :=
  (by decide +kernel : ∀ t : Fin 144, ((cfgA 0).win (1 : Fin 5)).index t (0 : Fin 2) = t.val / 36 * 8 + ki t.val ∧ ((cfgA 0).win (1 : Fin 5)).index t (1 : Fin 2) = 0)
/-- Window 1's block index at a point. -/
theorem idx1 (t : Fin (cfgA 0).N) : @Eq (Fin 2 → ℕ) (((cfgA 0).win (1 : Fin 5)).index t) ![t.val / 36 * 8 + ki t.val, 0] := by
  have h := idx1_ t
  funext a
  match a with
  | ⟨0, _⟩ => exact h.1
  | ⟨1, _⟩ => exact h.2

/-- Window 2's block index at a point, axis by axis. -/
theorem idx2_ : ∀ t : Fin (cfgA 0).N, ((cfgA 0).win (2 : Fin 5)).index t (0 : Fin 3) = t.val / 36 ∧ ((cfgA 0).win (2 : Fin 5)).index t (1 : Fin 3) = 0 ∧ ((cfgA 0).win (2 : Fin 5)).index t (2 : Fin 3) = ki t.val :=
  (by decide +kernel : ∀ t : Fin 144, ((cfgA 0).win (2 : Fin 5)).index t (0 : Fin 3) = t.val / 36 ∧ ((cfgA 0).win (2 : Fin 5)).index t (1 : Fin 3) = 0 ∧ ((cfgA 0).win (2 : Fin 5)).index t (2 : Fin 3) = ki t.val)
/-- Window 2's block index at a point. -/
theorem idx2 (t : Fin (cfgA 0).N) : @Eq (Fin 3 → ℕ) (((cfgA 0).win (2 : Fin 5)).index t) ![t.val / 36, 0, ki t.val] := by
  have h := idx2_ t
  funext a
  match a with
  | ⟨0, _⟩ => exact h.1
  | ⟨1, _⟩ => exact h.2.1
  | ⟨2, _⟩ => exact h.2.2

/-- Window 3's block index at a point, axis by axis. -/
theorem idx3_ : ∀ t : Fin (cfgA 0).N, ((cfgA 0).win (3 : Fin 5)).index t (0 : Fin 2) = 0 ∧ ((cfgA 0).win (3 : Fin 5)).index t (1 : Fin 2) = 0 :=
  (by decide +kernel : ∀ t : Fin 144, ((cfgA 0).win (3 : Fin 5)).index t (0 : Fin 2) = 0 ∧ ((cfgA 0).win (3 : Fin 5)).index t (1 : Fin 2) = 0)
/-- Window 3's block index at a point. -/
theorem idx3 (t : Fin (cfgA 0).N) : @Eq (Fin 2 → ℕ) (((cfgA 0).win (3 : Fin 5)).index t) ![0, 0] := by
  have h := idx3_ t
  funext a
  match a with
  | ⟨0, _⟩ => exact h.1
  | ⟨1, _⟩ => exact h.2

/-- Window 4's block index at a point, axis by axis. -/
theorem idx4_ : ∀ t : Fin (cfgA 0).N, ((cfgA 0).win (4 : Fin 5)).index t (0 : Fin 2) = t.val / 36 * 8 + qi t.val ∧ ((cfgA 0).win (4 : Fin 5)).index t (1 : Fin 2) = 0 :=
  (by decide +kernel : ∀ t : Fin 144, ((cfgA 0).win (4 : Fin 5)).index t (0 : Fin 2) = t.val / 36 * 8 + qi t.val ∧ ((cfgA 0).win (4 : Fin 5)).index t (1 : Fin 2) = 0)
/-- Window 4's block index at a point. -/
theorem idx4 (t : Fin (cfgA 0).N) : @Eq (Fin 2 → ℕ) (((cfgA 0).win (4 : Fin 5)).index t) ![t.val / 36 * 8 + qi t.val, 0] := by
  have h := idx4_ t
  funext a
  match a with
  | ⟨0, _⟩ => exact h.1
  | ⟨1, _⟩ => exact h.2

variable (m : (ℓ : Loc nD τ sig) → Buf (Elt Ideal) ℓ) (ρ : Dev nD → PrngReg) (c : Dev nD)

/-- The queries of a point. -/
theorem q_read (t : Fin (cfgA 0).N) (a k : Fin 512) (r : Fin 16384) (hr : r.val = (t.val / 36 * 8 + qi t.val) * 512 + a.val) :
    (iblk 0 m ρ c (0 : Fin 5) t (ix2 a k : S512x512.Idx) : EReal) = (m ((c : Thread nD τ).loc main_arg2) : FVec Ideal S16384x512 .bf16) (ix2 r k) := by
  blk_ext [iblk, idx0 t, hr]

/-- The keys of a point. -/
theorem k_read (t : Fin (cfgA 0).N) (a k : Fin 512) (r : Fin 16384) (hr : r.val = (t.val / 36 * 8 + ki t.val) * 512 + a.val) :
    (iblk 0 m ρ c (1 : Fin 5) t (ix2 a k : S512x512.Idx) : EReal) = (m ((c : Thread nD τ).loc main_arg3) : FVec Ideal S16384x512 .bf16) (ix2 r k) := by
  blk_ext [iblk, idx1 t, hr]

/-- The values of a point. -/
theorem v_read (t : Fin (cfgA 0).N) (e : Fin 256) (a : Fin 512) (b : Fin 4) (r : Fin 4096) (hb : b.val = t.val / 36) (hr : r.val = ki t.val * 512 + a.val) :
    (iblk 0 m ρ c (2 : Fin 5) t (ix3 0 e a : S1x256x512.Idx) : EReal) = (m ((c : Thread nD τ).loc main_arg4) : FVec Ideal S4x256x4096 .bf16) (ix3 b e r) := by
  blk_ext [iblk, idx2 t, hb, hr]

/-- The gains. -/
theorem g_read (t : Fin (cfgA 0).N) (j : Fin 256) :
    (iblk 0 m ρ c (3 : Fin 5) t (ix2 j 0 : S256x1.Idx) : EReal) = (m ((c : Thread nD τ).loc main_arg5) : FVec Ideal S256x1 .f32) (ix2 j 0) := by
  blk_ext [iblk, idx3 t]

/-- Where a point's output block sits. -/
theorem out_emb (t : Fin (cfgA 0).N) (a : Fin 512) (j : Fin 256) (r : Fin 16384) (hr : r.val = (t.val / 36 * 8 + qi t.val) * 512 + a.val) :
    (((cfgA 0).win (4 : Fin 5)).blk t).view.emb (ix2 a j : S512x256.Idx) = (ix2 r j : S16384x256.Idx) := by
  blk_ext [idx4 t, hr]

end Cert.AttnIdx
-- ==== Proof.AttnVal.lean ====
/-
The attention's value: the running maxima, sums and weighted sums are those of the key blocks
read so far, and a diagonal step's output block is the reference's.
-/
module

public import proofs.«01_k».proof.Proof.AttnRef
public import proofs.«01_k».proof.Proof.AttnBlk
public import proofs.«01_k».proof.Proof.AttnIdx

@[expose] public section

set_option maxRecDepth 16384

noncomputable section

open Idealize.ShloMosaic Idealize.ShloMosaic.TcCoe Idealize.SL.Sem
open Cert.AttnIdeal Cert.AttnIdeal.Gen Cert.AttnCore Cert.AttnStep Cert.AttnOut Cert.AttnTraj Cert.AttnBlk Cert.AttnIdx
open Cert.AttnRefIdeal.Value (sN vN sB vB REF)

namespace Cert.AttnVal

/-! ## One step, from the blocks read before it -/

section
variable (f : FVec Ideal S1x512x512 .f32 → FVec Ideal S512x512 .f32) (x0 x1 : FVec Ideal S512x512 .bf16) (x2 : FVec Ideal S1x256x512 .bf16)
variable (M N : FVec Ideal S4x1x512 .f32) (A : FVec Ideal S4x64x512 .f32)
variable (s : Fin 4 → Fin 512 → ℕ → Fin 512 → EReal) (v : Fin 4 → Fin 64 → ℕ → Fin 512 → EReal) (n : ℕ)

/-- The three scratch buffers hold the first `n` blocks' maxima, sums and weighted sums. -/
def Holds : Prop :=
  ∀ (h : Fin 4) (q : Fin 512), (M (ix3 h 0 q) : EReal) = AttnMath.Mx (s h q) n ∧ (N (ix3 h 0 q) : EReal) = AttnMath.Lx (s h q) n
    ∧ ∀ d : Fin 64, (A (ix3 h d q) : EReal) = AttnMath.Ax (s h q) (v h d) n

/-- A step carries the buffers from `n` blocks to `n + 1`. -/
theorem holds_step (hs : ∀ h q i r, s h q i r ≠ ⊤) (h0 : ∀ h q, s h q 0 0 ≠ ⊥)
    (hS : ∀ h r q, (Sh f x0 x1 h (ix2 r q) : EReal) = s h q n r) (hv : ∀ h d r, (x2 (ix3 0 (row h d) r) : EReal) = v h d n r)
    (H : Holds M N A s v n) (L1 L2 : List (View.Piece (Elt Ideal) S4x1x512 .f32)) (L3 : List (View.Piece (Elt Ideal) S4x64x512 .f32)) :
    Holds (View.canon (MU f x0 x1 M L1)) (View.canon (LU f x0 x1 M N L2)) (View.canon (AU f x0 x1 x2 M A L3)) s v (n + 1) := by
  intro h q
  obtain ⟨eM, eL, eA⟩ := H h q
  have e' : M' f x0 x1 M h q = AttnMath.Mx (s h q) (n + 1) := by
    unfold M'
    rw [eM, AttnMath.Mx_succ]
    simp only [hS]
  refine ⟨?_, ?_, fun d => ?_⟩
  · rw [MU_apply, e']
  · rw [LU_apply, e', eM, eL, ← AttnMath.Lx_succ (s h q) (hs h q) (h0 h q) n]
    simp only [hS]
  · rw [AU_apply, e', eM, eA, ← AttnMath.Ax_succ (s h q) (v h d) (hs h q) (h0 h q) n]
    simp only [hS, hv]

/-- Before the first block the buffers hold nothing. -/
theorem holds_init : Holds iM iL iA s v 0 := by
  intro h q
  exact ⟨iM_apply _, iL_apply _, fun d => iA_apply _⟩
end

/-! ## The points -/

section
variable (m : (ℓ : Loc nD τ sig) → Buf (Elt Ideal) ℓ) (ρ : Dev nD → PrngReg) (c : Dev nD)

/-- The queries. -/
abbrev aQ : FVec Ideal S16384x512 .bf16 := m ((c : Thread nD τ).loc main_arg2)
/-- The keys. -/
abbrev aK : FVec Ideal S16384x512 .bf16 := m ((c : Thread nD τ).loc main_arg3)
/-- The values. -/
abbrev aV : FVec Ideal S4x256x4096 .bf16 := m ((c : Thread nD τ).loc main_arg4)
/-- The gains. -/
abbrev aG : FVec Ideal S256x1 .f32 := m ((c : Thread nD τ).loc main_arg5)

/-- The sequence of a point. -/
def sq (n : ℕ) : Fin 4 := Fin.ofNat 4 (n / 36)

/-- A point's sequence. -/
theorem sq_val (t : Fin (cfgA 0).N) : (sq t.val).val = t.val / 36 := Nat.mod_eq_of_lt (sched t).2.2.1

/-- The scores of a point's queries with the keys of their sequence, block by block. -/
def sP (n : ℕ) (h : Fin 4) (q : Fin 512) : ℕ → Fin 512 → EReal := sB (aQ m c) (aK m c) (sq n) h (qi n * 512 + q.val)
/-- The values of a point's sequence, block by block. -/
def vP (n : ℕ) (h : Fin 4) (d : Fin 64) : ℕ → Fin 512 → EReal := vB (aV m c) (sq n) h d

/-- A point's queries are the array's. -/
theorem q_at (t : Fin (cfgA 0).N) (h : Fin 4) (q : Fin 512) (d : Fin 128) :
    (bq 0 m ρ c t (ix2 q (col h d)) : EReal) = aQ m c (ix2 (Fin.ofNat 16384 ((sq t.val).val * 4096 + (qi t.val * 512 + q.val))) ⟨h.val * 128 + d.val, by omega⟩) := by
  have e : (⟨h.val * 128 + d.val, by omega⟩ : Fin 512) = col h d := Fin.ext (by show h.val * 128 + d.val = 128 * h.val + d.val; omega)
  obtain ⟨hq, hk, hb, _⟩ := sched t
  rw [e]
  refine q_read m ρ c t q (col h d) _ ?_
  rw [sq_val]
  exact (Nat.mod_eq_of_lt (by have := q.isLt; omega)).trans (by omega)

/-- A point's keys are the array's. -/
theorem k_at (t : Fin (cfgA 0).N) (h : Fin 4) (r : Fin 512) (d : Fin 128) :
    (bk 0 m ρ c t (ix2 r (col h d)) : EReal) = aK m c (ix2 (Fin.ofNat 16384 ((sq t.val).val * 4096 + (ki t.val * 512 + r.val))) ⟨h.val * 128 + d.val, by omega⟩) := by
  have e : (⟨h.val * 128 + d.val, by omega⟩ : Fin 512) = col h d := Fin.ext (by show h.val * 128 + d.val = 128 * h.val + d.val; omega)
  obtain ⟨hq, hk, hb, _⟩ := sched t
  rw [e]
  refine k_read m ρ c t r (col h d) _ ?_
  rw [sq_val]
  exact (Nat.mod_eq_of_lt (by have := r.isLt; omega)).trans (by omega)

/-- A point's values are the sequence's. -/
theorem v_at (t : Fin (cfgA 0).N) (h : Fin 4) (d : Fin 64) (r : Fin 512) :
    (bv 0 m ρ c t (ix3 0 (row h d) r) : EReal) = vP m c t.val h d (ki t.val) r := by
  have e : (⟨h.val * 64 + d.val, by omega⟩ : Fin 256) = row h d := Fin.ext (by show h.val * 64 + d.val = 64 * h.val + d.val; omega)
  obtain ⟨hq, hk, hb, _⟩ := sched t
  unfold vP vB vN
  rw [e]
  exact v_read m ρ c t (row h d) r (sq t.val) _ (sq_val t) (Nat.mod_eq_of_lt (by have := r.isLt; omega))

/-- A point's scores are sums of products of the arrays' entries. -/
theorem dot_at (t : Fin (cfgA 0).N) (h : Fin 4) (r q : Fin 512) :
    (Sh cS (bq 0 m ρ c t) (bk 0 m ρ c t) h (ix2 r q) : EReal)
      = ∑ d : Fin 128, (aQ m c (ix2 (Fin.ofNat 16384 ((sq t.val).val * 4096 + (qi t.val * 512 + q.val))) ⟨h.val * 128 + d.val, by omega⟩)
          * aK m c (ix2 (Fin.ofNat 16384 ((sq t.val).val * 4096 + (ki t.val * 512 + r.val))) ⟨h.val * 128 + d.val, by omega⟩) : EReal) := by
  rw [ShS_apply]
  refine Finset.sum_congr rfl fun d _ => ?_
  rw [q_at, k_at]
  exact mul_comm _ _

/-- Before the diagonal no key is hidden. -/
theorem score_S (t : Fin (cfgA 0).N) (hlt : ki t.val < qi t.val) (h : Fin 4) (r q : Fin 512) :
    (Sh cS (bq 0 m ρ c t) (bk 0 m ρ c t) h (ix2 r q) : EReal) = sP m c t.val h q (ki t.val) r := by
  rw [dot_at]
  unfold sP sB sN
  rw [if_pos (by have := r.isLt; omega)]

/-- On the diagonal the keys behind the query are hidden. -/
theorem score_M (t : Fin (cfgA 0).N) (he : ki t.val = qi t.val) (h : Fin 4) (r q : Fin 512) :
    (Sh cM (bq 0 m ρ c t) (bk 0 m ρ c t) h (ix2 r q) : EReal) = sP m c t.val h q (ki t.val) r := by
  rw [ShM_apply, dot_at]
  unfold sP sB sN
  by_cases hr : r.val ≤ q.val
  · rw [if_pos hr, if_pos (by omega)]
  · rw [if_neg hr, if_neg (by omega)]

/-- The contents after a point. -/
def After (t : Fin (cfgA 0).N) : Prop :=
  Holds (rM c (traj0 0 m ρ c t.val t.isLt).2.1) (rL c (traj0 0 m ρ c t.val t.isLt).2.2.1) (rA c (traj0 0 m ρ c t.val t.isLt).2.2.2.1) (sP m c t.val) (vP m c t.val) (ki t.val + 1)

variable (hs : ∀ n h q i r, sP m c n h q i r ≠ ⊤) (h0 : ∀ n h q, sP m c n h q 0 0 ≠ ⊥)

include hs h0 in
/-- The contents before a later point of a query block are those of the blocks before it; every point adds its block. -/
theorem after (n : ℕ) (hn : n < (cfgA 0).N) : After m ρ c ⟨n, hn⟩ := by
  induction n with
  | zero =>
    have hki : ki 0 = 0 := rfl
    have hqi : qi 0 = 0 := rfl
    have q0 := (path0 ⟨0, hn⟩).mpr hki
    have q1 : ¬P0_1 0 ⟨0, hn⟩ := fun h => by have := (path1 ⟨0, hn⟩).mp h; simp only [hki, hqi] at this; omega
    have H := holds_step cM (bq 0 m ρ c ⟨0, hn⟩) (bk 0 m ρ c ⟨0, hn⟩) (bv 0 m ρ c ⟨0, hn⟩) iM iL iA (sP m c 0) (vP m c 0) 0 (hs 0) (h0 0)
      (score_M m ρ c ⟨0, hn⟩ rfl) (v_at m ρ c ⟨0, hn⟩) (holds_init _ _) kernelRun0_A.sl.HS0_1 kernelRun0_A.sl.HS1_1 kernelRun0_A.sl.HS2_1
    unfold After
    rw [traj0_eq 0 m ρ c ⟨0, hn⟩, step_A_m 0 m ρ c _ _ q0 q1, step_A_l 0 m ρ c _ _ q0 q1, step_A_a 0 m ρ c _ _ q0 q1]
    exact H
  | succ n ih =>
    obtain ⟨t, et⟩ : ∃ t : Fin (cfgA 0).N, t = ⟨n + 1, hn⟩ := ⟨_, rfl⟩
    have ev : t.val = n + 1 := by rw [et]
    rw [← et]
    have hv := v_at m ρ c t
    obtain ⟨hq, hk, hb, hp⟩ := sched t
    unfold After
    rw [traj0_eq 0 m ρ c t]
    by_cases k0 : ki t.val = 0
    · have q0 := (path0 t).mpr k0
      have hI : Holds iM iL iA (sP m c t.val) (vP m c t.val) (ki t.val) := by rw [k0]; exact holds_init _ _
      by_cases kl : ki t.val < qi t.val
      · have q1 := (path1 t).mpr kl
        rw [step_B_m 0 m ρ c t _ q0 q1, step_B_l 0 m ρ c t _ q0 q1, step_B_a 0 m ρ c t _ q0 q1]
        exact holds_step cS _ _ _ _ _ _ _ _ _ (hs _) (h0 _) (score_S m ρ c t kl) hv hI _ _ _
      · have q1 : ¬P0_1 0 t := fun h => kl ((path1 t).mp h)
        rw [step_A_m 0 m ρ c t _ q0 q1, step_A_l 0 m ρ c t _ q0 q1, step_A_a 0 m ρ c t _ q0 q1]
        exact holds_step cM _ _ _ _ _ _ _ _ _ (hs _) (h0 _) (score_M m ρ c t (by omega)) hv hI _ _ _
    · have q0 : ¬P0_0 0 t := fun h => k0 ((path0 t).mp h)
      obtain ⟨hne, eb, eq, ek⟩ := hp k0
      have ep : t.val - 1 = n := by omega
      rw [ep] at eb eq ek
      have eprev : prev0 0 m ρ c t = traj0 0 m ρ c n (Nat.lt_of_succ_lt hn) := by
        unfold prev0
        rw [dif_neg hne]
        simp only [ep]
      have es : sq n = sq t.val := by unfold sq; rw [eb]
      have eS : sP m c n = sP m c t.val := by unfold sP; rw [es, eq]
      have eV : vP m c n = vP m c t.val := by unfold vP; rw [es]
      have hI := ih (Nat.lt_of_succ_lt hn)
      unfold After at hI
      simp only [eS, eV, ek] at hI
      rw [← eprev] at hI
      generalize prev0 0 m ρ c t = pv at *
      by_cases kl : ki t.val < qi t.val
      · have q1 := (path1 t).mpr kl
        rw [step_D_m 0 m ρ c t _ q0 q1, step_D_l 0 m ρ c t _ q0 q1, step_D_a 0 m ρ c t _ q0 q1]
        exact holds_step cS _ _ _ _ _ _ _ _ _ (hs _) (h0 _) (score_S m ρ c t kl) hv hI _ _ _
      · have q1 : ¬P0_1 0 t := fun h => kl ((path1 t).mp h)
        rw [step_C_m 0 m ρ c t _ q0 q1, step_C_l 0 m ρ c t _ q0 q1, step_C_a 0 m ρ c t _ q0 q1]
        exact holds_step cM _ _ _ _ _ _ _ _ _ (hs _) (h0 _) (score_M m ρ c t (by omega)) hv hI _ _ _

/-! ## The output -/

section
variable (hQ : ∀ i, ∃ r : ℝ, (aQ m c i : EReal) = ((r : ℝ) : EReal)) (hK : ∀ i, ∃ r : ℝ, (aK m c i : EReal) = ((r : ℝ) : EReal))

include hQ hK in
/-- A visible key's score is a real. -/
theorem score_real (b h : Fin 4) (q k : ℕ) (hk : k ≤ q) : ∃ r : ℝ, sN (aQ m c) (aK m c) b h q k = (r : EReal) := by
  choose fQ eQ using hQ
  choose fK eK using hK
  unfold sN
  rw [if_pos hk]
  simp only [eQ, eK, ← EReal.coe_mul]
  exact ⟨_, (AttnMath.coe_sum _ _).symm⟩

include hQ hK in
/-- No score is plus infinity. -/
theorem score_ne_top (b h : Fin 4) (q k : ℕ) : sN (aQ m c) (aK m c) b h q k ≠ ⊤ := by
  by_cases hk : k ≤ q
  · obtain ⟨r, e⟩ := score_real m c hQ hK b h q k hk
    rw [e]
    exact EReal.coe_ne_top r
  · unfold sN
    rw [if_neg hk]
    exact bot_ne_top

include hQ hK in
/-- The first key's score is not minus infinity. -/
theorem score_ne_bot (b h : Fin 4) (q : ℕ) : sN (aQ m c) (aK m c) b h q 0 ≠ ⊥ := by
  obtain ⟨r, e⟩ := score_real m c hQ hK b h q 0 (Nat.zero_le _)
  rw [e]
  exact EReal.coe_ne_bot r

/-- The reference's heads side by side. -/
abbrev RO' : FVec Ideal S16384x256 .f32 :=
  Cert.AttnRefIdeal.Value.RO (Cert.AttnRefIdeal.Value.WV (aV m c) (Cert.AttnRefIdeal.Value.SHR (Cert.AttnRefIdeal.Value.PW (Cert.AttnRefIdeal.Value.SM (Cert.AttnRefIdeal.Value.SC (aQ m c) (aK m c))))))

include hQ hK in
/-- The reference's head entry of a point's query is the quotient of the blocks' weighted sum and sum. -/
theorem ref_head (t : Fin (cfgA 0).N) (h : Fin 4) (d : Fin 64) (q : Fin 512) (r : Fin 16384) (hr : r.val = (t.val / 36 * 8 + qi t.val) * 512 + q.val) :
    (RO' m c (ix2 r (row h d)) : EReal)
      = Ideal.div (AttnMath.Ax (sP m c t.val h q) (vP m c t.val h d) (qi t.val + 1)) (AttnMath.Lx (sP m c t.val h q) (qi t.val + 1)) := by
  obtain ⟨hq, hk, hb, _⟩ := sched t
  have hq' := q.isLt
  unfold RO'
  rw [Cert.AttnRefIdeal.Value.RO_apply]
  have e1 : (⟨r.val / 4096, by omega⟩ : Fin 4) = sq t.val := Fin.ext (by rw [sq_val]; show r.val / 4096 = _; omega)
  have e2 : (⟨(row h d).val / 64, by have := (row h d).isLt; omega⟩ : Fin 4) = h := Fin.ext (by show (64 * h.val + d.val) / 64 = h.val; omega)
  have e3 : (⟨(row h d).val % 64, by omega⟩ : Fin 64) = d := Fin.ext (by show (64 * h.val + d.val) % 64 = d.val; omega)
  have e4 : (⟨r.val % 4096, by omega⟩ : Fin 4096) = ⟨qi t.val * 512 + q.val, by omega⟩ := Fin.ext (by show r.val % 4096 = qi t.val * 512 + q.val; omega)
  rw [e1, e2, e3, e4]
  exact Cert.AttnRefIdeal.Value.WV_blocks (aQ m c) (aK m c) (aV m c) (sq t.val) h d ⟨qi t.val * 512 + q.val, by omega⟩ (qi t.val + 1)
    (fun k => score_ne_top m c hQ hK _ _ _ _) (score_ne_bot m c hQ hK _ _ _) (Nat.succ_pos _) hq (by show qi t.val * 512 + q.val < _; omega)

/-- The reference's entry from the heads side by side. -/
theorem ref_row (r : Fin 16384) (j : Fin 256) :
    (REF (aQ m c) (aK m c) (aV m c) (aG m c) (ix2 r j) : EReal)
      = (RO' m c (ix2 r j) * Ideal.rsqrt (Ideal.div (∑ x : Fin 256, RO' m c (ix2 r x) * RO' m c (ix2 r x)) (Ideal.ofBits FTy.f32 0x43800000#32) + Ideal.ofBits FTy.f32 0x3727C5AC#32) * aG m c (ix2 j 0) : EReal) :=
  Cert.AttnRefIdeal.Value.NRM_apply _ _ r j

include hQ hK in
/-- A diagonal point leaves the reference's rows in the output block. -/
theorem point (t : Fin (cfgA 0).N) (he : ki t.val = qi t.val) (q : Fin 512) (j : Fin 256) (r : Fin 16384) (hr : r.val = (t.val / 36 * 8 + qi t.val) * 512 + q.val) :
    ((traj0 0 m ρ c t.val t.isLt).1 (ix2 q j) : EReal) = REF (aQ m c) (aK m c) (aV m c) (aG m c) (ix2 r j) := by
  have hs : ∀ n h q i r, sP m c n h q i r ≠ ⊤ := fun n h q i r => score_ne_top m c hQ hK _ _ _ _
  have h0 : ∀ n h q, sP m c n h q 0 0 ≠ ⊥ := fun n h q => score_ne_bot m c hQ hK _ _ _
  have q1 : ¬P0_1 0 t := fun h => absurd ((path1 t).mp h) (by omega)
  obtain ⟨hq, hk, hb, _⟩ := sched t
  have key : ∀ (M N : FVec Ideal S4x1x512 .f32) (A : FVec Ideal S4x64x512 .f32) (L1 L2 : List (View.Piece (Elt Ideal) S4x1x512 .f32)) (L3 : List (View.Piece (Elt Ideal) S4x64x512 .f32)),
      Holds (View.canon (MU cM (bq 0 m ρ c t) (bk 0 m ρ c t) M L1)) (View.canon (LU cM (bq 0 m ρ c t) (bk 0 m ρ c t) M N L2)) (View.canon (AU cM (bq 0 m ρ c t) (bk 0 m ρ c t) (bv 0 m ρ c t) M A L3)) (sP m c t.val) (vP m c t.val) (ki t.val + 1) →
      (OU (bq 0 m ρ c t) (bk 0 m ρ c t) (bv 0 m ρ c t) (bg 0 m ρ c t) M N A (ix2 q j) : EReal) = REF (aQ m c) (aK m c) (aV m c) (aG m c) (ix2 r j) := by
    intro M N A L1 L2 L3 H
    have eg : (bg 0 m ρ c t (ix2 j 0) : EReal) = aG m c (ix2 j 0) := g_read m ρ c t j
    have hrow : ∀ p : Fin 512, (t.val / 36 * 8 + qi t.val) * 512 + p.val < 16384 := fun p => by have := p.isLt; omega
    have er : r = ⟨(t.val / 36 * 8 + qi t.val) * 512 + q.val, hrow q⟩ := Fin.ext hr
    rw [OU_apply (bq 0 m ρ c t) (bk 0 m ρ c t) (bv 0 m ρ c t) M N A (bg 0 m ρ c t) L2 L3 (fun x p => RO' m c (ix2 (⟨(t.val / 36 * 8 + qi t.val) * 512 + p.val, hrow p⟩ : Fin 16384) x)) (fun h d p => by
      show (RO' m c (ix2 _ (row h d)) : EReal) = _
      rw [ref_head m c hQ hK t h d p _ rfl, (H h p).2.1, (H h p).2.2 d, he]) q j, ref_row, eg, er]
  have HA := after m ρ c hs h0 t.val t.isLt
  unfold After at HA
  rw [traj0_eq 0 m ρ c t] at HA ⊢
  by_cases k0 : ki t.val = 0
  · have q0 := (path0 t).mpr k0
    rw [step_A_m 0 m ρ c t _ q0 q1, step_A_l 0 m ρ c t _ q0 q1, step_A_a 0 m ρ c t _ q0 q1] at HA
    rw [step_A_o 0 m ρ c t _ q0 q1]
    exact key _ _ _ _ _ _ HA
  · have q0 : ¬P0_0 0 t := fun h => k0 ((path0 t).mp h)
    rw [step_C_m 0 m ρ c t _ q0 q1, step_C_l 0 m ρ c t _ q0 q1, step_C_a 0 m ρ c t _ q0 q1] at HA
    rw [step_C_o 0 m ρ c t _ q0 q1]
    exact key _ _ _ _ _ _ HA

/-- Only diagonal points write their block back. -/
theorem flush_diag (t : Fin (cfgA 0).N) (hf : ((cfgA 0).win (4 : Fin 5)).flush t = true) : ki t.val = qi t.val := by
  obtain ⟨hq, hk, hb, _⟩ := sched t
  by_contra hne
  have q1 : P0_1 0 t := (path1 t).mpr (by omega)
  by_cases q0 : P0_0 0 t
  · have := (sched0_B 0 t q0 q1).2.1
    rw [hf] at this
    exact absurd this (by decide)
  · have := (sched0_D 0 t q0 q1).2.1
    rw [hf] at this
    exact absurd this (by decide)

include hQ hK in
/-- The result array after the run is the reference's. -/
theorem final : ((dats 0 m ρ 0 c).arrAt (4 : Fin 5) (cfgA 0).N : FVec Ideal S16384x256 .f32) = REF (aQ m c) (aK m c) (aV m c) (aG m c) := by
  refine (dats 0 m ρ 0 c).arrAt_eq_of_covers (4 : Fin 5) _ (by decide +kernel) fun t hf y => ?_
  blk_simp
  rw [after0_4]
  obtain ⟨q, j, rfl⟩ : ∃ (q : Fin 512) (j : Fin 256), y = ix2 q j := ⟨y 0, y 1, eq_ix2 y⟩
  obtain ⟨hq, hk, hb, _⟩ := sched t
  have hlt : (t.val / 36 * 8 + qi t.val) * 512 + q.val < 16384 := by have := q.isLt; omega
  refine Eq.trans (point m ρ c hQ hK t (flush_diag t hf) q j ⟨_, hlt⟩ rfl) ?_
  exact (congrArg (REF (aQ m c) (aK m c) (aV m c) (aG m c)) (out_emb t q j ⟨_, hlt⟩ rfl)).symm

end
end

end Cert.AttnVal
-- ==== Proof.OutFfn.lean ====
/-
The value of the output projection and the feed-forward block: both of the kernel's result
arrays are the reference's, row by row.
-/
module

public import proofs.«01_k».proof.Proof.Gen.OutFfnIdeal.Value
public import proofs.«01_k».proof.Proof.Gen.OutFfnRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutFfnRow

/-- A row divided by its root mean square and scaled. -/
def nrm (x g : Fin 1024 → EReal) (j : Fin 1024) : EReal :=
  x j * Ideal.rsqrt (Ideal.div (∑ k, x k * x k) (Ideal.ofBits FTy.f32 0x44800000#32) + Ideal.ofBits FTy.f32 0x3727C5AC#32) * g j

/-- The row plus the four groups' products with their rows of the output projection. -/
def x1 (x : Fin 1024 → EReal) (ya yb yc yd : Fin 256 → EReal) (wo : Fin 1024 → Fin 1024 → EReal) (j : Fin 1024) : EReal :=
  x j + (∑ k : Fin 256, ya k * wo ⟨k.val, by omega⟩ j) + (∑ k : Fin 256, yb k * wo ⟨256 + k.val, by omega⟩ j)
    + (∑ k : Fin 256, yc k * wo ⟨512 + k.val, by omega⟩ j) + (∑ k : Fin 256, yd k * wo ⟨768 + k.val, by omega⟩ j)

/-- One hidden unit: the squared positive part of a column's product. -/
def unit (h : Fin 1024 → EReal) (u : Fin 1024 → EReal) : EReal :=
  max (∑ k, h k * u k) 0 * max (∑ k, h k * u k) 0

/-- The feed-forward block of a normalised row, over all 4096 hidden units. -/
def ff (h : Fin 1024 → EReal) (wu : Fin 1024 → Fin 4096 → EReal) (wd : Fin 4096 → Fin 1024 → EReal) (j : Fin 1024) : EReal :=
  ∑ f : Fin 4096, unit h (fun k => wu k f) * wd f j

/-- The feed-forward block over the 1024 hidden units from `o` on. -/
def part (o : ℕ) (ho : o + 1024 ≤ 4096) (h : Fin 1024 → EReal) (wu : Fin 1024 → Fin 4096 → EReal) (wd : Fin 4096 → Fin 1024 → EReal) (j : Fin 1024) : EReal :=
  ∑ f : Fin 1024, unit h (fun k => wu k ⟨o + f.val, by omega⟩) * wd ⟨o + f.val, by omega⟩ j

/-- A sum over 4096 is the sum of the sums over its four quarters. -/
theorem sum_quarters (F : Fin 4096 → EReal) : ∑ f, F f
    = (∑ f : Fin 1024, F ⟨0 + f.val, by omega⟩ + ∑ f : Fin 1024, F ⟨1024 + f.val, by omega⟩)
      + (∑ f : Fin 1024, F ⟨2048 + f.val, by omega⟩ + ∑ f : Fin 1024, F ⟨3072 + f.val, by omega⟩) := by
  have e := Fin.sum_univ_add (a := 2048) (b := 2048) F
  have e1 := Fin.sum_univ_add (a := 1024) (b := 1024) (fun i : Fin (1024 + 1024) => F (Fin.castAdd 2048 i))
  have e2 := Fin.sum_univ_add (a := 1024) (b := 1024) (fun i : Fin (1024 + 1024) => F (Fin.natAdd 2048 i))
  refine e.trans (congrArg₂ (· + ·) (e1.trans (congrArg₂ (· + ·) ?_ ?_)) (e2.trans (congrArg₂ (· + ·) ?_ ?_))) <;>
    refine Finset.sum_congr rfl fun k _ => congrArg F (Fin.ext ?_) <;> simp [Fin.natAdd, Fin.castAdd] <;> omega

/-- A sum over 1024 is the sum of the sums over its four quarters of 256. -/
theorem sum_pieces (F : Fin 1024 → EReal) : ∑ f, F f
    = (∑ f : Fin 256, F ⟨f.val, by omega⟩ + ∑ f : Fin 256, F ⟨256 + f.val, by omega⟩)
      + (∑ f : Fin 256, F ⟨512 + f.val, by omega⟩ + ∑ f : Fin 256, F ⟨768 + f.val, by omega⟩) := by
  have e := Fin.sum_univ_add (a := 512) (b := 512) F
  have e1 := Fin.sum_univ_add (a := 256) (b := 256) (fun i : Fin (256 + 256) => F (Fin.castAdd 512 i))
  have e2 := Fin.sum_univ_add (a := 256) (b := 256) (fun i : Fin (256 + 256) => F (Fin.natAdd 512 i))
  refine e.trans (congrArg₂ (· + ·) (e1.trans (congrArg₂ (· + ·) ?_ ?_)) (e2.trans (congrArg₂ (· + ·) ?_ ?_))) <;>
    refine Finset.sum_congr rfl fun k _ => congrArg F (Fin.ext ?_) <;> simp [Fin.natAdd, Fin.castAdd] <;> omega

/-- So the block is the sum of its four quarters. -/
theorem ff_eq (h : Fin 1024 → EReal) (wu : Fin 1024 → Fin 4096 → EReal) (wd : Fin 4096 → Fin 1024 → EReal) (j : Fin 1024) :
    ff h wu wd j = (part 0 (by omega) h wu wd j + part 1024 (by omega) h wu wd j)
      + (part 2048 (by omega) h wu wd j + part 3072 (by omega) h wu wd j) :=
  sum_quarters _

/-- The first result's row: the residual row plus the feed-forward block of its normalised row. -/
def out (x : Fin 1024 → EReal) (ya yb yc yd : Fin 256 → EReal) (wo : Fin 1024 → Fin 1024 → EReal) (g : Fin 1024 → EReal)
    (wu : Fin 1024 → Fin 4096 → EReal) (wd : Fin 4096 → Fin 1024 → EReal) (j : Fin 1024) : EReal :=
  x1 x ya yb yc yd wo j + ff (nrm (x1 x ya yb yc yd wo) g) wu wd j

end Cert.OutFfnRow

namespace Cert.OutFfnRefIdeal.Value

open Cert.OutFfnRefIdeal Cert.OutFfnRefIdeal.Gen

/-- The reference's residual rows after the output projection. -/
def X1R (X : FVec Ideal S16384x1024 .f32) (ya yb yc yd : FVec Ideal S16384x256 .f32) (wo : FVec Ideal S1024x1024 .f32) : FVec Ideal S16384x1024 .f32 :=
  addf X (Host.dotGeneral dot_S16384x1024_S1024x1024_S16384x1024_1_0_0_1_n_n none ((concatenate S16384x1024 1 [⟨S16384x256, (ya : FVec Ideal S16384x256 .f32)⟩, ⟨S16384x256, (yb : FVec Ideal S16384x256 .f32)⟩, ⟨S16384x256, (yc : FVec Ideal S16384x256 .f32)⟩, ⟨S16384x256, (yd : FVec Ideal S16384x256 .f32)⟩] concatenates_S16384x256_S16384x256_S16384x256_S16384x256_S16384x1024_d1 : FVec Ideal S16384x1024 .f32)) wo)

/-- Their normalised rows. -/
def HNR (X : FVec Ideal S16384x1024 .f32) (ya yb yc yd : FVec Ideal S16384x256 .f32) (wo : FVec Ideal S1024x1024 .f32) (g : FVec Ideal S1024 .f32) : FVec Ideal S16384x1024 .f32 :=
  mulf (mulf (X1R X ya yb yc yd wo) (broadcastInDim S16384x1024 ![0, 1] bcast_S16384x1_S16384x1024_0_1 (Host.rsqrt (addf (Host.divf (broadcastInDim S16384x1 ![0] bcast_S16384_S16384x1_0 (Host.reduceAdd (mulf (X1R X ya yb yc yd wo) (X1R X ya yb yc yd wo)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))

/-- The reference's first result. -/
def ACCR (X : FVec Ideal S16384x1024 .f32) (ya yb yc yd : FVec Ideal S16384x256 .f32) (wo : FVec Ideal S1024x1024 .f32) (g : FVec Ideal S1024 .f32) (wu : FVec Ideal S1024x4096 .f32) (wd : FVec Ideal S4096x1024 .f32) : FVec Ideal S16384x1024 .f32 :=
  addf (X1R X ya yb yc yd wo) (Host.dotGeneral dot_S16384x4096_S4096x1024_S16384x1024_1_0_0_1_n_n none (mulf (maximumf (Host.dotGeneral dot_S16384x1024_S1024x4096_S16384x4096_1_0_0_1_n_n none (HNR X ya yb yc yd wo g) wu) (broadcastInDim S16384x4096 ![] bcast_S_S16384x4096 (constant S_ .f32 0x00000000#32))) (maximumf (Host.dotGeneral dot_S16384x1024_S1024x4096_S16384x4096_1_0_0_1_n_n none (HNR X ya yb yc yd wo g) wu) (broadcastInDim S16384x4096 ![] bcast_S_S16384x4096 (constant S_ .f32 0x00000000#32)))) wd)

/-- The reference's second result. -/
def FINR (X : FVec Ideal S16384x1024 .f32) (ya yb yc yd : FVec Ideal S16384x256 .f32) (wo : FVec Ideal S1024x1024 .f32) (g : FVec Ideal S1024 .f32) (wu : FVec Ideal S1024x4096 .f32) (wd : FVec Ideal S4096x1024 .f32) (gf : FVec Ideal S1024 .f32) : FVec Ideal S16384x1024 .f32 :=
  mulf (mulf (ACCR X ya yb yc yd wo g wu wd) (broadcastInDim S16384x1024 ![0, 1] bcast_S16384x1_S16384x1024_0_1 (Host.rsqrt (addf (Host.divf (broadcastInDim S16384x1 ![0] bcast_S16384_S16384x1_0 (Host.reduceAdd (mulf (ACCR X ya yb yc yd wo g wu wd) (ACCR X ya yb yc yd wo g wu wd)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 gf))

/-- The first result named by the reference's run. -/
theorem res0_eq (m : (ℓ : Loc nD τ sig) → Buf (Elt Ideal) ℓ) (c : Dev nD) : res_main_v20 (F := Ideal) m c = ACCR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-- The second result named by the reference's run. -/
theorem res1_eq (m : (ℓ : Loc nD τ sig) → Buf (Elt Ideal) ℓ) (c : Dev nD) : res_main_v33 (F := Ideal) m c = FINR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- `X1R` read at an index. -/
theorem X1R_at (X : FVec Ideal S16384x1024 .f32) (ya yb yc yd : FVec Ideal S16384x256 .f32) (wo : FVec Ideal S1024x1024 .f32) (r : Fin 16384) (j : Fin 1024) : X1R X ya yb yc yd wo (ix2 r j) = OutFfnRow.x1 (fun k => X (ix2 r k)) (fun k => ya (ix2 r k)) (fun k => yb (ix2 r k)) (fun k => yc (ix2 r k)) (fun k => yd (ix2 r k)) (fun k j => wo (ix2 k j)) j := by
  unfold X1R OutFfnRow.x1
  pointwise
  rw [OutFfnRow.sum_pieces]
  simp only [add_assoc]
  refine congrArg₂ (· + ·) rfl (congrArg₂ (· + ·) ?_ (congrArg₂ (· + ·) ?_ (congrArg₂ (· + ·) ?_ ?_)))
  · refine Finset.sum_congr rfl fun k _ => ?_
    rw [dif_pos (show k.val < 256 by omega)]
  · refine Finset.sum_congr rfl fun k _ => ?_
    rw [dif_neg (show ¬ (256 + k.val < 256) by omega), dif_pos (show 256 + k.val - 256 < 256 by omega)]
    exact congrArg (fun q : Fin 256 => yb (ix2 r q) * wo (ix2 (⟨256 + k.val, by omega⟩ : Fin 1024) j)) (Fin.ext (by simp))
  · refine Finset.sum_congr rfl fun k _ => ?_
    rw [dif_neg (show ¬ (512 + k.val < 256) by omega), dif_neg (show ¬ (512 + k.val - 256 < 256) by omega), dif_pos (show 512 + k.val - 256 - 256 < 256 by omega)]
    exact congrArg (fun q : Fin 256 => yc (ix2 r q) * wo (ix2 (⟨512 + k.val, by omega⟩ : Fin 1024) j)) (Fin.ext (by simp; omega))
  · refine Finset.sum_congr rfl fun k _ => ?_
    rw [dif_neg (show ¬ (768 + k.val < 256) by omega), dif_neg (show ¬ (768 + k.val - 256 < 256) by omega), dif_neg (show ¬ (768 + k.val - 256 - 256 < 256) by omega)]
    exact congrArg (fun q : Fin 256 => yd (ix2 r q) * wo (ix2 (⟨768 + k.val, by omega⟩ : Fin 1024) j)) (Fin.ext (by simp; omega))

/-- `HNR` read at an index. -/
theorem HNR_at (X : FVec Ideal S16384x1024 .f32) (ya yb yc yd : FVec Ideal S16384x256 .f32) (wo : FVec Ideal S1024x1024 .f32) (g : FVec Ideal S1024 .f32) (r : Fin 16384) (j : Fin 1024) : HNR X ya yb yc yd wo g (ix2 r j)
    = OutFfnRow.nrm (OutFfnRow.x1 (fun k => X (ix2 r k)) (fun k => ya (ix2 r k)) (fun k => yb (ix2 r k)) (fun k => yc (ix2 r k)) (fun k => yd (ix2 r k)) (fun k j => wo (ix2 k j))) (fun k => g (ix1 k)) j := by
  unfold HNR OutFfnRow.nrm
  pointwise
  simp only [X1R_at]

/-- `ACCR` read at an index. -/
theorem ACCR_at (X : FVec Ideal S16384x1024 .f32) (ya yb yc yd : FVec Ideal S16384x256 .f32) (wo : FVec Ideal S1024x1024 .f32) (g : FVec Ideal S1024 .f32) (wu : FVec Ideal S1024x4096 .f32) (wd : FVec Ideal S4096x1024 .f32) (r : Fin 16384) (j : Fin 1024) : ACCR X ya yb yc yd wo g wu wd (ix2 r j)
    = OutFfnRow.out (fun k => X (ix2 r k)) (fun k => ya (ix2 r k)) (fun k => yb (ix2 r k)) (fun k => yc (ix2 r k)) (fun k => yd (ix2 r k)) (fun k j => wo (ix2 k j)) (fun k => g (ix1 k)) (fun k f => wu (ix2 k f)) (fun f j => wd (ix2 f j)) j := by
  unfold ACCR OutFfnRow.out OutFfnRow.ff OutFfnRow.unit
  pointwise
  simp only [X1R_at, HNR_at]

/-- `FINR` read at an index. -/
theorem FINR_at (X : FVec Ideal S16384x1024 .f32) (ya yb yc yd : FVec Ideal S16384x256 .f32) (wo : FVec Ideal S1024x1024 .f32) (g : FVec Ideal S1024 .f32) (wu : FVec Ideal S1024x4096 .f32) (wd : FVec Ideal S4096x1024 .f32) (gf : FVec Ideal S1024 .f32) (r : Fin 16384) (j : Fin 1024) : FINR X ya yb yc yd wo g wu wd gf (ix2 r j)
    = OutFfnRow.nrm (OutFfnRow.out (fun k => X (ix2 r k)) (fun k => ya (ix2 r k)) (fun k => yb (ix2 r k)) (fun k => yc (ix2 r k)) (fun k => yd (ix2 r k)) (fun k j => wo (ix2 k j)) (fun k => g (ix1 k)) (fun k f => wu (ix2 k f)) (fun f j => wd (ix2 f j))) (fun k => gf (ix1 k)) j := by
  unfold FINR OutFfnRow.nrm
  pointwise
  simp only [ACCR_at]

end Cert.OutFfnRefIdeal.Value

namespace Cert.OutFfnIdeal.Value

open Cert.OutFfnIdeal Cert.OutFfnIdeal.Gen
open Idealize.ShloMosaic.Pipeline (Dat)
open Cert.OutFfnRefIdeal.Value (ACCR FINR ACCR_at FINR_at)

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

/-- The residual row the body computes. -/
theorem pay10_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : k0_pay10 x0 x1 x2 x3 x4 x5 x6 x7 x8 x9 (ix2 p j) = OutFfnRow.x1 (fun k => x0 (ix2 p k)) (fun k => x1 (ix2 p k)) (fun k => x2 (ix2 p k)) (fun k => x3 (ix2 p k)) (fun k => x4 (ix2 p k)) (fun k j => x5 (ix2 k j)) j := by
  unfold OutFfnRow.x1
  pointwise [k0_pay10, k0_pay3]

/-- Its normalised row. -/
theorem pay13_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : k0_pay13 x0 x1 x2 x3 x4 x5 x6 x7 x8 x9 (ix2 p j)
    = OutFfnRow.nrm (OutFfnRow.x1 (fun k => x0 (ix2 p k)) (fun k => x1 (ix2 p k)) (fun k => x2 (ix2 p k)) (fun k => x3 (ix2 p k)) (fun k => x4 (ix2 p k)) (fun k j => x5 (ix2 k j))) (fun k => x6 (ix2 0 k)) j := by
  have e : ∀ k, k0_pay3 (View.ld x0 r0_0) (View.ld x1 r0_1) (View.ld x5 r0_2) (View.ld x2 r0_1) (View.ld x5 r0_3) (View.ld x3 r0_1) (View.ld x5 r0_4) (View.ld x4 r0_1) (View.ld x5 r0_5) (ix2 p k) = OutFfnRow.x1 (fun k => x0 (ix2 p k)) (fun k => x1 (ix2 p k)) (fun k => x2 (ix2 p k)) (fun k => x3 (ix2 p k)) (fun k => x4 (ix2 p k)) (fun k j => x5 (ix2 k j)) k := pay10_at x0 x1 x2 x3 x4 x5 x6 x7 x8 x9 p
  unfold OutFfnRow.nrm
  pointwise [k0_pay13, k0_pay6, k0_pay10, k0_pay11, k0_pay4, k0_pay12, k0_pay5]
  simp only [e]

/-- The first quarter of the hidden units. -/
theorem pay14_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : k0_pay14 x0 x1 x2 x3 x4 x5 x6 x7 x8 x9 (ix2 p j)
    = OutFfnRow.part 0 (by omega) (fun k => k0_pay13 x0 x1 x2 x3 x4 x5 x6 x7 x8 x9 (ix2 p k)) (fun k f => x7 (ix2 k f)) (fun f j => x8 (ix2 f j)) j := by
  unfold OutFfnRow.part OutFfnRow.unit k0_pay14 k0_pay13
  generalize k0_pay10 x0 x1 x2 x3 x4 x5 x6 x7 x8 x9 = v24
  generalize k0_pay11 x0 x1 x2 x3 x4 x5 x6 x7 x8 x9 = v26
  generalize k0_pay12 x0 x1 x2 x3 x4 x5 x6 x7 x8 x9 = v31
  pointwise [k0_pay7]

/-- The second quarter of the hidden units. -/
theorem pay15_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : k0_pay15 x0 x1 x2 x3 x4 x5 x6 x7 x8 x9 (ix2 p j)
    = OutFfnRow.part 1024 (by omega) (fun k => k0_pay13 x0 x1 x2 x3 x4 x5 x6 x7 x8 x9 (ix2 p k)) (fun k f => x7 (ix2 k f)) (fun f j => x8 (ix2 f j)) j := by
  unfold OutFfnRow.part OutFfnRow.unit k0_pay15 k0_pay13
  generalize k0_pay10 x0 x1 x2 x3 x4 x5 x6 x7 x8 x9 = v24
  generalize k0_pay11 x0 x1 x2 x3 x4 x5 x6 x7 x8 x9 = v26
  generalize k0_pay12 x0 x1 x2 x3 x4 x5 x6 x7 x8 x9 = v31
  pointwise [k0_pay8]

/-- The third quarter of the hidden units. -/
theorem pay16_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : k0_pay16 x0 x1 x2 x3 x4 x5 x6 x7 x8 x9 (ix2 p j)
    = OutFfnRow.part 2048 (by omega) (fun k => k0_pay13 x0 x1 x2 x3 x4 x5 x6 x7 x8 x9 (ix2 p k)) (fun k f => x7 (ix2 k f)) (fun f j => x8 (ix2 f j)) j := by
  unfold OutFfnRow.part OutFfnRow.unit k0_pay16 k0_pay13
  generalize k0_pay10 x0 x1 x2 x3 x4 x5 x6 x7 x8 x9 = v24
  generalize k0_pay11 x0 x1 x2 x3 x4 x5 x6 x7 x8 x9 = v26
  generalize k0_pay12 x0 x1 x2 x3 x4 x5 x6 x7 x8 x9 = v31
  pointwise [k0_pay9]

/-- The payload of the first result's store, over the values it reads. -/
abbrev body10 (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) : FVec Ideal S512x1024 .f32 :=
  k0_pay1 (k0_pay10 x0 x1 x2 x3 x4 x5 x6 x7 x8 x9) (k0_pay13 x0 x1 x2 x3 x4 x5 x6 x7 x8 x9) (k0_pay14 x0 x1 x2 x3 x4 x5 x6 x7 x8 x9) (k0_pay15 x0 x1 x2 x3 x4 x5 x6 x7 x8 x9) (k0_pay16 x0 x1 x2 x3 x4 x5 x6 x7 x8 x9) (View.ld x7 r0_13) (View.ld x8 r0_14)

/-- The first result's row as the body computes it. -/
theorem body10_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : body10 x0 x1 x2 x3 x4 x5 x6 x7 x8 x9 (ix2 p j)
    = OutFfnRow.out (fun k => x0 (ix2 p k)) (fun k => x1 (ix2 p k)) (fun k => x2 (ix2 p k)) (fun k => x3 (ix2 p k)) (fun k => x4 (ix2 p k)) (fun k j => x5 (ix2 k j)) (fun k => x6 (ix2 0 k)) (fun k f => x7 (ix2 k f)) (fun f j => x8 (ix2 f j)) j := by
  have e : body10 x0 x1 x2 x3 x4 x5 x6 x7 x8 x9 (ix2 p j) = k0_pay10 x0 x1 x2 x3 x4 x5 x6 x7 x8 x9 (ix2 p j) + ((k0_pay14 x0 x1 x2 x3 x4 x5 x6 x7 x8 x9 (ix2 p j) + k0_pay15 x0 x1 x2 x3 x4 x5 x6 x7 x8 x9 (ix2 p j)) + (k0_pay16 x0 x1 x2 x3 x4 x5 x6 x7 x8 x9 (ix2 p j)
      + OutFfnRow.part 3072 (by omega) (fun k => k0_pay13 x0 x1 x2 x3 x4 x5 x6 x7 x8 x9 (ix2 p k)) (fun k f => x7 (ix2 k f)) (fun f j => x8 (ix2 f j)) j)) := by
    unfold OutFfnRow.part OutFfnRow.unit body10
    generalize k0_pay10 x0 x1 x2 x3 x4 x5 x6 x7 x8 x9 = v24
    generalize k0_pay13 x0 x1 x2 x3 x4 x5 x6 x7 x8 x9 = v39
    generalize k0_pay14 x0 x1 x2 x3 x4 x5 x6 x7 x8 x9 = v49
    generalize k0_pay15 x0 x1 x2 x3 x4 x5 x6 x7 x8 x9 = v59
    generalize k0_pay16 x0 x1 x2 x3 x4 x5 x6 x7 x8 x9 = v69
    pointwise [k0_pay1]
  rw [e, pay14_at, pay15_at, pay16_at]
  unfold OutFfnRow.out
  rw [OutFfnRow.ff_eq]
  simp only [pay13_at, pay10_at]

/-- The payload of the second result's store, over the values it reads. -/
abbrev body11 (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) : FVec Ideal S512x1024 .f32 :=
  k0_pay2 (k0_pay10 x0 x1 x2 x3 x4 x5 x6 x7 x8 x9) (k0_pay13 x0 x1 x2 x3 x4 x5 x6 x7 x8 x9) (k0_pay14 x0 x1 x2 x3 x4 x5 x6 x7 x8 x9) (k0_pay15 x0 x1 x2 x3 x4 x5 x6 x7 x8 x9) (k0_pay16 x0 x1 x2 x3 x4 x5 x6 x7 x8 x9) (View.ld x7 r0_13) (View.ld x8 r0_14) x9

/-- The second result's row as the body computes it. -/
theorem body11_at (x0 : Vec Ideal S512x1024 .f32) (x1 x2 x3 x4 : Vec Ideal S512x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 512) (j : Fin 1024) : body11 x0 x1 x2 x3 x4 x5 x6 x7 x8 x9 (ix2 p j)
    = OutFfnRow.nrm (OutFfnRow.out (fun k => x0 (ix2 p k)) (fun k => x1 (ix2 p k)) (fun k => x2 (ix2 p k)) (fun k => x3 (ix2 p k)) (fun k => x4 (ix2 p k)) (fun k j => x5 (ix2 k j)) (fun k => x6 (ix2 0 k)) (fun k f => x7 (ix2 k f)) (fun f j => x8 (ix2 f j))) (fun k => x9 (ix2 0 k)) j := by
  have e : ∀ k, k0_pay1 (k0_pay10 x0 x1 x2 x3 x4 x5 x6 x7 x8 x9) (k0_pay13 x0 x1 x2 x3 x4 x5 x6 x7 x8 x9) (k0_pay14 x0 x1 x2 x3 x4 x5 x6 x7 x8 x9) (k0_pay15 x0 x1 x2 x3 x4 x5 x6 x7 x8 x9) (k0_pay16 x0 x1 x2 x3 x4 x5 x6 x7 x8 x9) (View.ld x7 r0_13) (View.ld x8 r0_14) (ix2 p k) = OutFfnRow.out (fun k => x0 (ix2 p k)) (fun k => x1 (ix2 p k)) (fun k => x2 (ix2 p k)) (fun k => x3 (ix2 p k)) (fun k => x4 (ix2 p k)) (fun k j => x5 (ix2 k j)) (fun k => x6 (ix2 0 k)) (fun k f => x7 (ix2 k f)) (fun f j => x8 (ix2 f j)) k := body10_at x0 x1 x2 x3 x4 x5 x6 x7 x8 x9 p
  unfold OutFfnRow.nrm body11
  pointwise [k0_pay2]
  simp only [e]

/-- Input window 0's block is a band of the argument's rows. -/
theorem row0 (c : Dev nD) (t : Fin cfg0.N) (p : Fin 512) (k : Fin 1024) : iblk m c 0 t (ix2 p k : S512x1024.Idx) = (m ((c : Thread nD τ).loc main_arg0) : FVec Ideal S16384x1024 .f32) (ix2 (⟨t.val * 512 + p.val, by have : t.val < 32 := t.isLt; omega⟩ : Fin 16384) k) := by
  blk_ext [iblk, V, idx t]

/-- Input window 1's block is a band of the argument's rows. -/
theorem row1 (c : Dev nD) (t : Fin cfg0.N) (p : Fin 512) (k : Fin 256) : iblk m c 1 t (ix2 p k : S512x256.Idx) = (m ((c : Thread nD τ).loc main_arg1) : FVec Ideal S16384x256 .f32) (ix2 (⟨t.val * 512 + p.val, by have : t.val < 32 := t.isLt; omega⟩ : Fin 16384) k) := by
  blk_ext [iblk, V, idx t]

/-- Input window 2's block is a band of the argument's rows. -/
theorem row2 (c : Dev nD) (t : Fin cfg0.N) (p : Fin 512) (k : Fin 256) : iblk m c 2 t (ix2 p k : S512x256.Idx) = (m ((c : Thread nD τ).loc main_arg2) : FVec Ideal S16384x256 .f32) (ix2 (⟨t.val * 512 + p.val, by have : t.val < 32 := t.isLt; omega⟩ : Fin 16384) k) := by
  blk_ext [iblk, V, idx t]

/-- Input window 3's block is a band of the argument's rows. -/
theorem row3 (c : Dev nD) (t : Fin cfg0.N) (p : Fin 512) (k : Fin 256) : iblk m c 3 t (ix2 p k : S512x256.Idx) = (m ((c : Thread nD τ).loc main_arg3) : FVec Ideal S16384x256 .f32) (ix2 (⟨t.val * 512 + p.val, by have : t.val < 32 := t.isLt; omega⟩ : Fin 16384) k) := by
  blk_ext [iblk, V, idx t]

/-- Input window 4's block is a band of the argument's rows. -/
theorem row4 (c : Dev nD) (t : Fin cfg0.N) (p : Fin 512) (k : Fin 256) : iblk m c 4 t (ix2 p k : S512x256.Idx) = (m ((c : Thread nD τ).loc main_arg4) : FVec Ideal S16384x256 .f32) (ix2 (⟨t.val * 512 + p.val, by have : t.val < 32 := t.isLt; omega⟩ : Fin 16384) k) := by
  blk_ext [iblk, V, idx t]

/-- The weights of input window 5 at the region's entry. -/
theorem ent5 (c : Dev nD) : (V m c main_v0 : FVec Ideal S1024x1024 .bf16) = (m ((c : Thread nD τ).loc main_arg5) : FVec Ideal S1024x1024 .f32) := by
  unfold V
  after_results <;> rfl

/-- Input window 5's block is the whole of the argument. -/
theorem row5 (c : Dev nD) (t : Fin cfg0.N) (k : Fin 1024) (j : Fin 1024) : iblk m c 5 t (ix2 k j : S1024x1024.Idx) = (m ((c : Thread nD τ).loc main_arg5) : FVec Ideal S1024x1024 .f32) (ix2 k j) := by
  rw [← ent5 m c]; blk_ext [iblk, idx t]

/-- The weights of input window 7 at the region's entry. -/
theorem ent7 (c : Dev nD) : (V m c main_v2 : FVec Ideal S1024x4096 .bf16) = (m ((c : Thread nD τ).loc main_arg7) : FVec Ideal S1024x4096 .f32) := by
  unfold V
  after_results <;> rfl

/-- Input window 7's block is the whole of the argument. -/
theorem row7 (c : Dev nD) (t : Fin cfg0.N) (k : Fin 1024) (j : Fin 4096) : iblk m c 7 t (ix2 k j : S1024x4096.Idx) = (m ((c : Thread nD τ).loc main_arg7) : FVec Ideal S1024x4096 .f32) (ix2 k j) := by
  rw [← ent7 m c]; blk_ext [iblk, idx t]

/-- The weights of input window 8 at the region's entry. -/
theorem ent8 (c : Dev nD) : (V m c main_v3 : FVec Ideal S4096x1024 .bf16) = (m ((c : Thread nD τ).loc main_arg8) : FVec Ideal S4096x1024 .f32) := by
  unfold V
  after_results <;> rfl

/-- Input window 8's block is the whole of the argument. -/
theorem row8 (c : Dev nD) (t : Fin cfg0.N) (k : Fin 4096) (j : Fin 1024) : iblk m c 8 t (ix2 k j : S4096x1024.Idx) = (m ((c : Thread nD τ).loc main_arg8) : FVec Ideal S4096x1024 .f32) (ix2 k j) := by
  rw [← ent8 m c]; blk_ext [iblk, idx t]

/-- The scale row of input window 6 at the region's entry. -/
theorem ent6 (c : Dev nD) (a : Fin 1) (k : Fin 1024) : (V m c main_v1 : FVec Ideal S1x1024 .f32) (ix2 a k) = (m ((c : Thread nD τ).loc main_arg6) : FVec Ideal S1024 .f32) (ix1 k) := by
  entry_read
  pointwise

/-- Input window 6's block is the argument as one row. -/
theorem row6 (c : Dev nD) (t : Fin cfg0.N) (k : Fin 1024) : iblk m c 6 t (ix2 (0 : Fin 1) k : S1x1024.Idx) = (m ((c : Thread nD τ).loc main_arg6) : FVec Ideal S1024 .f32) (ix1 k) := by
  rw [← ent6 m c 0 k]; blk_ext [iblk, idx t]

/-- The scale row of input window 9 at the region's entry. -/
theorem ent9 (c : Dev nD) (a : Fin 1) (k : Fin 1024) : (V m c main_v4 : FVec Ideal S1x1024 .f32) (ix2 a k) = (m ((c : Thread nD τ).loc main_arg9) : FVec Ideal S1024 .f32) (ix1 k) := by
  entry_read
  pointwise

/-- Input window 9's block is the argument as one row. -/
theorem row9 (c : Dev nD) (t : Fin cfg0.N) (k : Fin 1024) : iblk m c 9 t (ix2 (0 : Fin 1) k : S1x1024.Idx) = (m ((c : Thread nD τ).loc main_arg9) : FVec Ideal S1024 .f32) (ix1 k) := by
  rw [← ent9 m c 0 k]; blk_ext [iblk, idx t]

/-- What grid point `t` leaves for output window 10 at block index `y` is the reference's entry where `y` sits. -/
theorem point10 (c : Dev nD) (t : Fin cfg0.N) (y) : body10 (iblk m c 0 t) (iblk m c 1 t) (iblk m c 2 t) (iblk m c 3 t) (iblk m c 4 t) (iblk m c 5 t) (iblk m c 6 t) (iblk m c 7 t) (iblk m c 8 t) (iblk m c 9 t) y
    = ACCR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  obtain ⟨p, j, rfl⟩ : ∃ (p : Fin 512) (j : Fin 1024), y = ix2 p j := ⟨y 0, y 1, eq_ix2 y⟩
  have hN : t.val < 32 := t.isLt
  have hr : ((cfg0.win 10).blk t).view.emb (ix2 p j : S512x1024.Idx) = (ix2 (⟨t.val * 512 + p.val, by omega⟩ : Fin 16384) j : S16384x1024.Idx) := by
    blk_ext [idx t]
  refine Eq.trans ?_ (congrArg (ACCR _ _ _ _ _ _ _ _ _) hr.symm)
  refine Eq.trans ?_ (ACCR_at _ _ _ _ _ _ _ _ _ _ _).symm
  refine Eq.trans (body10_at (iblk m c 0 t) (iblk m c 1 t) (iblk m c 2 t) (iblk m c 3 t) (iblk m c 4 t) (iblk m c 5 t) (iblk m c 6 t) (iblk m c 7 t) (iblk m c 8 t) (iblk m c 9 t) p j) ?_
  simp only [row0 m c t p, row1 m c t p, row2 m c t p, row3 m c t p, row4 m c t p, row5 m c t, row6 m c t, row7 m c t, row8 m c t, row9 m c t]

/-- What grid point `t` leaves for output window 11 at block index `y` is the reference's entry where `y` sits. -/
theorem point11 (c : Dev nD) (t : Fin cfg0.N) (y) : body11 (iblk m c 0 t) (iblk m c 1 t) (iblk m c 2 t) (iblk m c 3 t) (iblk m c 4 t) (iblk m c 5 t) (iblk m c 6 t) (iblk m c 7 t) (iblk m c 8 t) (iblk m c 9 t) y
    = FINR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb y) := by
  obtain ⟨p, j, rfl⟩ : ∃ (p : Fin 512) (j : Fin 1024), y = ix2 p j := ⟨y 0, y 1, eq_ix2 y⟩
  have hN : t.val < 32 := t.isLt
  have hr : ((cfg0.win 11).blk t).view.emb (ix2 p j : S512x1024.Idx) = (ix2 (⟨t.val * 512 + p.val, by omega⟩ : Fin 16384) j : S16384x1024.Idx) := by
    blk_ext [idx t]
  refine Eq.trans ?_ (congrArg (FINR _ _ _ _ _ _ _ _ _ _) hr.symm)
  refine Eq.trans ?_ (FINR_at _ _ _ _ _ _ _ _ _ _ _ _).symm
  refine Eq.trans (body11_at (iblk m c 0 t) (iblk m c 1 t) (iblk m c 2 t) (iblk m c 3 t) (iblk m c 4 t) (iblk m c 5 t) (iblk m c 6 t) (iblk m c 7 t) (iblk m c 8 t) (iblk m c 9 t) p j) ?_
  simp only [row0 m c t p, row1 m c t p, row2 m c t p, row3 m c t p, row4 m c t p, row5 m c t, row6 m c t, row7 m c t, row8 m c t, row9 m c t]

/-- Output window 10's array after the run is the reference's. -/
theorem final10 (c : Dev nD) : (dats m 0 c).arrAt 10 (cfgs 0).N = ACCR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  refine Eq.trans ?_ (point10 m c t y)
  unfold out0_10
  frame_out

/-- Output window 11's array after the run is the reference's. -/
theorem final11 (c : Dev nD) : (dats m 0 c).arrAt 11 (cfgs 0).N = FINR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  refine Eq.trans ?_ (point11 m c t y)
  unfold out0_11
  frame_out

end Cert.OutFfnIdeal.Value

end
-- ==== Proof.InProj.lean ====
/-
The value of the input projection: every entry of the kernel's result array is the
reference's normalised row times the matching column of the weights.
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InProjRefIdeal.Value

open Cert.InProjRefIdeal Cert.InProjRefIdeal.Gen

/-- The reference's normalised rows times the whole weight matrix. -/
def DOT (X : FVec Ideal S16384x1024 .f32) (g : FVec Ideal S1024 .f32) (W : FVec Ideal S1024x2824 .f32) : FVec Ideal S16384x2824 .f32 :=
  (Host.dotGeneral dot_S16384x1024_S1024x2824_S16384x2824_1_0_0_1_n_n none (mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) W)

/-- The reference's result: the columns of `DOT` in the kernel's order, then 120 columns of zeros. -/
def REF (X : FVec Ideal S16384x1024 .f32) (g : FVec Ideal S1024 .f32) (W : FVec Ideal S1024x2824 .f32) : FVec Ideal S16384x2944 .f32 :=
    (concatenate S16384x2944 1 [⟨S16384x1024, ((extractStridedSlice S16384x1024 ![0, 0] (DOT X g W) slices_S16384x2824_S16384x1024_0_0) : FVec Ideal S16384x1024 .f32)⟩, ⟨S16384x1024, ((extractStridedSlice S16384x1024 ![0, 1028] (DOT X g W) slices_S16384x2824_S16384x1024_0_1028) : FVec Ideal S16384x1024 .f32)⟩, ⟨S16384x768, ((extractStridedSlice S16384x768 ![0, 2056] (DOT X g W) slices_S16384x2824_S16384x768_0_2056) : FVec Ideal S16384x768 .f32)⟩, ⟨S16384x4, ((extractStridedSlice S16384x4 ![0, 1024] (DOT X g W) slices_S16384x2824_S16384x4_0_1024) : FVec Ideal S16384x4 .f32)⟩, ⟨S16384x4, ((extractStridedSlice S16384x4 ![0, 2052] (DOT X g W) slices_S16384x2824_S16384x4_0_2052) : FVec Ideal S16384x4 .f32)⟩, ⟨S16384x120, ((broadcastInDim S16384x120 ![] bcast_S_S16384x120 (constant S_ .f32 0x00000000#32)) : FVec Ideal S16384x120 .f32)⟩] concatenates_S16384x1024_S16384x1024_S16384x768_S16384x4_S16384x4_S16384x120_S16384x2944_d1 : FVec Ideal S16384x2944 .f32)

/-- The result named by the reference's run is `REF` of the arguments. -/
theorem res_eq (m : (ℓ : Loc nD τ sig) → Buf (Elt Ideal) ℓ) (c : Dev nD) :
    res_main_v20 (F := Ideal) m c = REF (m ((c.tc : Thread nD τ).loc main_arg0)) (m ((c.tc : Thread nD τ).loc main_arg1)) (m ((c.tc : Thread nD τ).loc main_arg2)) := rfl

end Cert.InProjRefIdeal.Value

namespace Cert.InProjIdeal.Value

open Cert.InProjIdeal Cert.InProjIdeal.Gen
open Idealize.ShloMosaic.Pipeline (Dat)
open Cert.InProjRefIdeal.Value (DOT REF)

variable (m : (ℓ : Loc nD τ sig) → Buf (Elt Ideal) ℓ)

/-- Every window's block index at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The kernel's order of the columns: three whole groups, the two four-column pieces, zeros behind. -/
def sel (f : Fin 2824 → EReal) (j : Fin 2944) : EReal :=
  if h : j.val < 1024 then f ⟨j.val, by omega⟩ else
  if h : j.val - 1024 < 1024 then f ⟨1028 + (j.val - 1024), by omega⟩ else
  if h : j.val - 1024 - 1024 < 768 then f ⟨2056 + (j.val - 1024 - 1024), by omega⟩ else
  if h : j.val - 1024 - 1024 - 768 < 4 then f ⟨1024 + (j.val - 1024 - 1024 - 768), by omega⟩ else
  if h : j.val - 1024 - 1024 - 768 - 4 < 4 then f ⟨2052 + (j.val - 1024 - 1024 - 768 - 4), by omega⟩ else 0

/-- A sum of products against the reordered columns is the reordered sum of products. -/
theorem sum_sel (a : Fin 1024 → EReal) (w : Fin 1024 → Fin 2824 → EReal) (j : Fin 2944) :
    ∑ k, a k * sel (w k) j = sel (fun col => ∑ k, a k * w k col) j := by
  unfold sel
  split_ifs <;> simp

/-- The weights in the kernel's order of the columns, as the host composes them. -/
def WT (W : FVec Ideal S1024x2824 .f32) : FVec Ideal S1024x2944 .bf16 :=
  truncf .bf16 (concatenate S1024x2944 1 [⟨S1024x1024, (extractStridedSlice S1024x1024 ![0, 0] W slices_S1024x2824_S1024x1024_0_0 : FVec Ideal S1024x1024 .f32)⟩, ⟨S1024x1024, (extractStridedSlice S1024x1024 ![0, 1028] W slices_S1024x2824_S1024x1024_0_1028 : FVec Ideal S1024x1024 .f32)⟩, ⟨S1024x768, (extractStridedSlice S1024x768 ![0, 2056] W slices_S1024x2824_S1024x768_0_2056 : FVec Ideal S1024x768 .f32)⟩, ⟨S1024x4, (extractStridedSlice S1024x4 ![0, 1024] W slices_S1024x2824_S1024x4_0_1024 : FVec Ideal S1024x4 .f32)⟩, ⟨S1024x4, (extractStridedSlice S1024x4 ![0, 2052] W slices_S1024x2824_S1024x4_0_2052 : FVec Ideal S1024x4 .f32)⟩, ⟨S1024x120, (broadcastInDim S1024x120 ![] bcast_S_S1024x120 (constant S_ .f32 0x00000000#32 : FVec Ideal S_ .f32) : FVec Ideal S1024x120 .f32)⟩] concatenates_S1024x1024_S1024x1024_S1024x768_S1024x4_S1024x4_S1024x120_S1024x2944_d1 : FVec Ideal S1024x2944 .f32) bitsLt_bf16_f32

/-- `WT` read at an index. -/
theorem WT_at (W : FVec Ideal S1024x2824 .f32) (k : Fin 1024) (j : Fin 2944) : WT W (ix2 k j) = sel (fun col => W (ix2 k col)) j := by
  unfold WT sel
  pointwise

set_option maxHeartbeats 2000000 in
/-- The weights at the region's entry are the host's composition. -/
theorem entryW (c : Dev nD) :
    (V m c main_v8 : FVec Ideal S1024x2944 .bf16) = WT (m ((c : Thread nD τ).loc main_arg2)) := by
  unfold V
  after_results <;> rfl

/-- The scale row at the region's entry is the argument as one row. -/
theorem entryG (c : Dev nD) (a : Fin 1) (k : Fin 1024) :
    (V m c main_v0 : FVec Ideal S1x1024 .f32) (ix2 a k) = (m ((c : Thread nD τ).loc main_arg1) : FVec Ideal S1024 .f32) (ix1 k) := by
  entry_read
  pointwise

/-- The reference's result read at an index. -/
theorem ref_at (X : FVec Ideal S16384x1024 .f32) (g : FVec Ideal S1024 .f32) (W : FVec Ideal S1024x2824 .f32) (r : Fin 16384) (j : Fin 2944) :
    REF X g W (ix2 r j) = sel (fun col => DOT X g W (ix2 r col)) j := by
  unfold REF sel
  pointwise

/-- What grid point `t` stores at block index `y` is the reference's entry where `y` sits. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  obtain ⟨p, j, rfl⟩ : ∃ (p : Fin 512) (j : Fin 2944), y = ix2 p j := ⟨y 0, y 1, eq_ix2 y⟩
  have hN : t.val < 32 := t.isLt
  have hr : ((cfg0.win 3).blk t).view.emb (ix2 p j : S512x2944.Idx) = (ix2 (⟨t.val * 512 + p.val, by omega⟩ : Fin 16384) j : S16384x2944.Idx) := by
    blk_ext [idx t]
  have e0 : ∀ k, iblk m c 0 t (ix2 p k : S512x1024.Idx) = (m ((c : Thread nD τ).loc main_arg0) : FVec Ideal S16384x1024 .f32) (ix2 (⟨t.val * 512 + p.val, by omega⟩ : Fin 16384) k) := by
    intro k; blk_ext [iblk, V, idx t]
  have e1 : ∀ k, iblk m c 1 t (ix2 (0 : Fin 1) k : S1x1024.Idx) = (m ((c : Thread nD τ).loc main_arg1) : FVec Ideal S1024 .f32) (ix1 k) := by
    intro k; rw [← entryG m c 0 k]; blk_ext [iblk, idx t]
  have e2 : ∀ k, iblk m c 2 t (ix2 k j : S1024x2944.Idx) = sel (fun col => (m ((c : Thread nD τ).loc main_arg2) : FVec Ideal S1024x2824 .f32) (ix2 k col)) j := by
    intro k; rw [← WT_at, ← entryW m c]; blk_ext [iblk, idx t]
  refine Eq.trans ?_ (congrArg (REF _ _ _) hr.symm)
  refine Eq.trans ?_ (ref_at _ _ _ _ _).symm
  generalize iblk m c 0 t = b0 at *
  generalize iblk m c 1 t = b1 at *
  generalize iblk m c 2 t = b2 at *
  pointwise [k0_pay1, DOT]
  refine Eq.trans ?_ (sum_sel _ _ _)
  simp only [e0, e1, e2]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.InProjIdeal.Value

end
-- ==== Proof.FoxRef.lean ====
/-
The reference of the attention's operands, read entry by entry.
-/
module

public import proofs.«01_k».proof.Proof.Gen.FoxPrepRefIdeal.Run
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FoxPrepRefIdeal.Value

open Cert.FoxPrepRefIdeal Cert.FoxPrepRefIdeal.Gen

/-- The gate columns plus the bias row. -/
def XX (P : FVec Ideal S16384x2944 .f32) (b : FVec Ideal S1x128 .f32) : FVec Ideal S16384x128 .f32 :=
  addf (extractStridedSlice S16384x128 ![0, 2816] P slices_S16384x2944_S16384x128_0_2816) (broadcastInDim S16384x128 ![0, 1] bcast_S1x128_S16384x128_0_1 b)

/-- The logarithm of the logistic function of `XX`, as the reference composes it. -/
def LF (P : FVec Ideal S16384x2944 .f32) (b : FVec Ideal S1x128 .f32) : FVec Ideal S16384x128 .f32 :=
  Host.negf (select (cmpf .une (subf (Host.negf (XX P b)) (broadcastInDim S16384x128 ![] bcast_S_S16384x128 (constant S_ .f32 0x00000000#32 : FVec Ideal S_ .f32))) (subf (Host.negf (XX P b)) (broadcastInDim S16384x128 ![] bcast_S_S16384x128 (constant S_ .f32 0x00000000#32 : FVec Ideal S_ .f32)))) (addf (Host.negf (XX P b)) (broadcastInDim S16384x128 ![] bcast_S_S16384x128 (constant S_ .f32 0x00000000#32 : FVec Ideal S_ .f32))) (addf (maximumf (Host.negf (XX P b)) (broadcastInDim S16384x128 ![] bcast_S_S16384x128 (constant S_ .f32 0x00000000#32 : FVec Ideal S_ .f32))) (Host.log1p (Host.exp (Host.negf (Host.absf (subf (Host.negf (XX P b)) (broadcastInDim S16384x128 ![] bcast_S_S16384x128 (constant S_ .f32 0x00000000#32 : FVec Ideal S_ .f32)))))))))

/-- The running sums of the first four columns of `LF` inside a sequence, times the base change. -/
def CB (P : FVec Ideal S16384x2944 .f32) (b : FVec Ideal S1x128 .f32) : FVec Ideal S4x4096x4 .f32 :=
  mulf (transpose S4x4096x4 [0, 2, 1] (Host.dotGeneral dot_S4x4096x4_S4096x4096_S4x4x4096_1_1_02_0_n_n none (shapeCast _ (extractStridedSlice S16384x4 ![0, 0] (LF P b) slices_S16384x128_S16384x4_0_0) shapeCasts_S16384x4_S4x4096x4) (select (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (broadcastInDim S4096x4096 ![] bcast_S_S4096x4096 (constant S_ .f32 0x3F800000#32 : FVec Ideal S_ .f32)) (broadcastInDim S4096x4096 ![] bcast_S_S4096x4096 (constant S_ .f32 0x00000000#32 : FVec Ideal S_ .f32)))) transposes_S4x4x4096_S4x4096x4_0_2_1) (broadcastInDim S4x4096x4 ![] bcast_S_S4x4096x4 (constant S_ .f32 0x3FB8AA3B#32))

/-- The queries' rows: scaled features, running sum, zeros, ones. -/
def QA (P : FVec Ideal S16384x2944 .f32) (b : FVec Ideal S1x128 .f32) : FVec Ideal S16384x512 .bf16 :=
  truncf .bf16 (shapeCast S16384x512 ((concatenate S16384x4x128 2 [⟨S16384x4x64, ((shapeCast S16384x4x64 (mulf (extractStridedSlice S16384x256 ![0, 256] P slices_S16384x2944_S16384x256_0_256) (broadcastInDim S16384x256 ![] bcast_S_S16384x256 (constant S_ .f32 0x3E38AA3B#32))) shapeCasts_S16384x256_S16384x4x64) : FVec Ideal S16384x4x64 .f32)⟩, ⟨S16384x4x1, ((shapeCast S16384x4x1 (CB P b) shapeCasts_S4x4096x4_S16384x4x1) : FVec Ideal S16384x4x1 .f32)⟩, ⟨S16384x4x1, ((broadcastInDim S16384x4x1 ![] bcast_S_S16384x4x1 (constant S_ .f32 0x00000000#32 : FVec Ideal S_ .f32)) : FVec Ideal S16384x4x1 .f32)⟩, ⟨S16384x4x1, ((broadcastInDim S16384x4x1 ![] bcast_S_S16384x4x1 (constant S_ .f32 0x00000000#32 : FVec Ideal S_ .f32)) : FVec Ideal S16384x4x1 .f32)⟩, ⟨S16384x4x1, ((broadcastInDim S16384x4x1 ![] bcast_S_S16384x4x1 (constant S_ .f32 0x3F800000#32 : FVec Ideal S_ .f32)) : FVec Ideal S16384x4x1 .f32)⟩, ⟨S16384x4x1, ((broadcastInDim S16384x4x1 ![] bcast_S_S16384x4x1 (constant S_ .f32 0x3F800000#32 : FVec Ideal S_ .f32)) : FVec Ideal S16384x4x1 .f32)⟩, ⟨S16384x4x1, ((broadcastInDim S16384x4x1 ![] bcast_S_S16384x4x1 (constant S_ .f32 0x3F800000#32 : FVec Ideal S_ .f32)) : FVec Ideal S16384x4x1 .f32)⟩, ⟨S16384x4x58, ((broadcastInDim S16384x4x58 ![] bcast_S_S16384x4x58 (constant S_ .f32 0x00000000#32 : FVec Ideal S_ .f32)) : FVec Ideal S16384x4x58 .f32)⟩] concatenates_S16384x4x64_S16384x4x1_S16384x4x1_S16384x4x1_S16384x4x1_S16384x4x1_S16384x4x1_S16384x4x58_S16384x4x128_d2 : FVec Ideal S16384x4x128 .f32)) shapeCasts_S16384x4x128_S16384x512) bitsLt_bf16_f32

/-- The keys' rows: features, ones, minus the running sum, zeros. -/
def KA (P : FVec Ideal S16384x2944 .f32) (b : FVec Ideal S1x128 .f32) : FVec Ideal S16384x512 .bf16 :=
  truncf .bf16 (shapeCast S16384x512 ((concatenate S16384x4x128 2 [⟨S16384x4x64, ((shapeCast S16384x4x64 (extractStridedSlice S16384x256 ![0, 512] P slices_S16384x2944_S16384x256_0_512) shapeCasts_S16384x256_S16384x4x64) : FVec Ideal S16384x4x64 .f32)⟩, ⟨S16384x4x1, ((broadcastInDim S16384x4x1 ![] bcast_S_S16384x4x1 (constant S_ .f32 0x3F800000#32 : FVec Ideal S_ .f32)) : FVec Ideal S16384x4x1 .f32)⟩, ⟨S16384x4x1, ((broadcastInDim S16384x4x1 ![] bcast_S_S16384x4x1 (constant S_ .f32 0x3F800000#32 : FVec Ideal S_ .f32)) : FVec Ideal S16384x4x1 .f32)⟩, ⟨S16384x4x1, ((broadcastInDim S16384x4x1 ![] bcast_S_S16384x4x1 (constant S_ .f32 0x3F800000#32 : FVec Ideal S_ .f32)) : FVec Ideal S16384x4x1 .f32)⟩, ⟨S16384x4x1, ((Host.negf (shapeCast S16384x4x1 (CB P b) shapeCasts_S4x4096x4_S16384x4x1)) : FVec Ideal S16384x4x1 .f32)⟩, ⟨S16384x4x1, ((broadcastInDim S16384x4x1 ![] bcast_S_S16384x4x1 (constant S_ .f32 0x00000000#32 : FVec Ideal S_ .f32)) : FVec Ideal S16384x4x1 .f32)⟩, ⟨S16384x4x1, ((broadcastInDim S16384x4x1 ![] bcast_S_S16384x4x1 (constant S_ .f32 0x00000000#32 : FVec Ideal S_ .f32)) : FVec Ideal S16384x4x1 .f32)⟩, ⟨S16384x4x58, ((broadcastInDim S16384x4x58 ![] bcast_S_S16384x4x58 (constant S_ .f32 0x00000000#32 : FVec Ideal S_ .f32)) : FVec Ideal S16384x4x58 .f32)⟩] concatenates_S16384x4x64_S16384x4x1_S16384x4x1_S16384x4x1_S16384x4x1_S16384x4x1_S16384x4x1_S16384x4x58_S16384x4x128_d2 : FVec Ideal S16384x4x128 .f32)) shapeCasts_S16384x4x128_S16384x512) bitsLt_bf16_f32

/-- The keys, one sequence's features as rows. -/
def KT (P : FVec Ideal S16384x2944 .f32) : FVec Ideal S4x256x4096 .f32 :=
  transpose S4x256x4096 [0, 2, 1] (shapeCast S4x4096x256 (extractStridedSlice S16384x256 ![0, 512] P slices_S16384x2944_S16384x256_0_512) shapeCasts_S16384x256_S4x4096x256) transposes_S4x4096x256_S4x256x4096_0_2_1

/-- The values, one sequence's features as rows. -/
def VT (P : FVec Ideal S16384x2944 .f32) : FVec Ideal S4x256x4096 .f32 :=
  transpose S4x256x4096 [0, 2, 1] (shapeCast S4x4096x256 (extractStridedSlice S16384x256 ![0, 768] P slices_S16384x2944_S16384x256_0_768) shapeCasts_S16384x256_S4x4096x256) transposes_S4x4096x256_S4x256x4096_0_2_1

variable (m : (ℓ : Loc nD τ sig) → Buf (Elt Ideal) ℓ) (c : Dev nD)

/-- The queries' array named by the reference's run is `QA` of the arguments. -/
theorem qa_eq : res_main_v38 (F := Ideal) m c = QA (m ((c.tc : Thread nD τ).loc main_arg0)) (m ((c.tc : Thread nD τ).loc main_arg1)) := rfl

/-- The keys' array named by the reference's run is `KA` of the arguments. -/
theorem ka_eq : res_main_v39 (F := Ideal) m c = KA (m ((c.tc : Thread nD τ).loc main_arg0)) (m ((c.tc : Thread nD τ).loc main_arg1)) := rfl

/-- The keys' transpose read at an index. -/
theorem KT_at (P : FVec Ideal S16384x2944 .f32) (s : Fin 4) (d : Fin 256) (t : Fin 4096) :
    KT P (ix3 s d t) = P (ix2 (⟨s.val * 4096 + t.val, by omega⟩ : Fin 16384) (⟨512 + d.val, by omega⟩ : Fin 2944)) := by
  unfold KT
  pointwise

/-- The values' transpose read at an index. -/
theorem VT_at (P : FVec Ideal S16384x2944 .f32) (s : Fin 4) (d : Fin 256) (t : Fin 4096) :
    VT P (ix3 s d t) = P (ix2 (⟨s.val * 4096 + t.val, by omega⟩ : Fin 16384) (⟨768 + d.val, by omega⟩ : Fin 2944)) := by
  unfold VT
  pointwise

/-- The logarithm of the logistic function of one number. -/
def lf (x : EReal) : EReal := min x 0 - Ideal.log1p (Ideal.exp (0 - max x (-x)))

/-- One gate plus its bias. -/
def gate (P : FVec Ideal S16384x2944 .f32) (b : FVec Ideal S1x128 .f32) (r : Fin 16384) (h : Fin 128) : EReal :=
  P (ix2 r (⟨2816 + h.val, by omega⟩ : Fin 2944)) + b (ix2 (0 : Fin 1) h)

/-- The logarithm of one plus the exponential of a number not above zero is real. -/
theorem log1p_exp_real (y : EReal) (hy : y ≤ 0) : ∃ r : ℝ, Ideal.log1p (Ideal.exp y) = ((r : ℝ) : EReal) := by
  induction y with
  | bot => exact ⟨Real.log 1, by
      show Ideal.log ((1 : EReal) + 0) = _
      rw [add_zero, ← EReal.coe_one]
      show (if (1 : ℝ) ≤ 0 then (⊥ : EReal) else ((Real.log 1 : ℝ) : EReal)) = _
      rw [if_neg (by norm_num)]⟩
  | top => simp at hy
  | coe r => exact ⟨Real.log (1 + Real.exp r), by
      show Ideal.log ((1 : EReal) + ((Real.exp r : ℝ) : EReal)) = _
      rw [← EReal.coe_one, ← EReal.coe_add]
      show (if (1 + Real.exp r : ℝ) ≤ 0 then (⊥ : EReal) else ((Real.log (1 + Real.exp r) : ℝ) : EReal)) = _
      rw [if_neg (by have := Real.exp_pos r; linarith)]⟩

/-- The negative of a number at least zero is at most zero. -/
theorem neg_np {y : EReal} (h : 0 ≤ y) : -y ≤ 0 := by
  have := EReal.neg_le_neg_iff.mpr h
  rwa [neg_zero] at this

/-- Minus a magnitude is not above zero. -/
theorem neg_mag (x : EReal) : 0 - max x (-x) ≤ 0 := by
  have h : (0 : EReal) ≤ max x (-x) := by
    rcases le_total 0 x with h | h
    · exact h.trans (le_max_left _ _)
    · exact (EReal.neg_nonneg.mpr h).trans (le_max_right _ _)
  rw [zero_sub]
  exact neg_np h

/-- The two ways of writing the logarithm of the logistic function agree. -/
theorem lf_eq (x : EReal) : -(max (-x) 0 + Ideal.log1p (Ideal.exp (-max (-x) (- -x)))) = lf x := by
  unfold lf
  have hz : -max (-x) (- -x) = (0 : EReal) - max x (-x) := by rw [zero_sub, neg_neg, max_comm]
  rw [hz]
  obtain ⟨r, hr⟩ := log1p_exp_real _ (neg_mag x)
  rw [hr]
  have hmin : -max (-x) 0 = min x 0 := by
    rcases le_total x 0 with h | h
    · rw [max_eq_left (EReal.neg_nonneg.mpr h), neg_neg, min_eq_left h]
    · rw [max_eq_right (neg_np h), neg_zero, min_eq_right h]
  rw [EReal.neg_add (Or.inr (EReal.coe_ne_top r)) (Or.inr (EReal.coe_ne_bot r)), hmin]

/-- The logarithm of the logistic function of a real number is real. -/
theorem lf_real (x : ℝ) : ∃ r : ℝ, lf (x : EReal) = ((r : ℝ) : EReal) := by
  obtain ⟨r, hr⟩ := log1p_exp_real _ (neg_mag (x : EReal))
  exact ⟨min x 0 - r, by unfold lf; rw [hr, EReal.coe_sub, EReal.coe_strictMono.monotone.map_min, EReal.coe_zero]⟩

/-- The logarithm of the logistic function read at an index. -/
theorem LF_at (P : FVec Ideal S16384x2944 .f32) (b : FVec Ideal S1x128 .f32) (r : Fin 16384) (h : Fin 128) : LF P b (ix2 r h) = lf (gate P b r h) := by
  unfold LF
  pointwise [XX]
  rw [if_neg (by simp)]
  exact lf_eq _

/-- The running sums read at an index. -/
theorem CB_at (P : FVec Ideal S16384x2944 .f32) (b : FVec Ideal S1x128 .f32) (s : Fin 4) (t : Fin 4096) (h : Fin 4) : CB P b (ix3 s t h)
    = (∑ x : Fin 4096, if x.val ≤ t.val then lf (gate P b (⟨s.val * 4096 + x.val, by omega⟩ : Fin 16384) (⟨h.val, by omega⟩ : Fin 128)) else 0) * Ideal.ofBits .f32 0x3FB8AA3B#32 := by
  unfold CB
  pointwise
  congr 1
  refine Finset.sum_congr rfl fun x _ => ?_
  rw [WordCmp.cmpi_sle_ofNat (by have := x.isLt; omega) (by have := t.isLt; omega), LF_at]
  by_cases hx : x.val ≤ t.val <;> simp [hx, Scalar.select]

/-- One entry of a query's row, by its place inside its head: feature, running sum, zeros, ones. -/
def qrow (f cs : EReal) (d : ℕ) : EReal :=
  if d < 64 then f else if d = 64 then cs else if d < 67 then 0 else if d < 70 then 1 else 0

/-- One entry of a key's row, by its place inside its head: feature, ones, minus the running sum, zeros. -/
def krow (f cs : EReal) (d : ℕ) : EReal :=
  if d < 64 then f else if d < 67 then 1 else if d = 67 then -cs else 0

/-- The queries' array read at an index. -/
theorem QA_at (P : FVec Ideal S16384x2944 .f32) (b : FVec Ideal S1x128 .f32) (r : Fin 16384) (h : Fin 4) (d : Fin 128) : QA P b (ix2 r (⟨h.val * 128 + d.val, by omega⟩ : Fin 512))
    = qrow (P (ix2 r (⟨256 + (h.val * 64 + d.val % 64), by omega⟩ : Fin 2944)) * Ideal.ofBits .f32 0x3E38AA3B#32)
      (CB P b (ix3 (⟨r.val / 4096, by omega⟩ : Fin 4) (⟨r.val % 4096, by omega⟩ : Fin 4096) h)) d.val := by
  unfold QA qrow
  pointwise
  by_cases h0 : d.val < 64
  · rw [dif_pos h0, if_pos h0]; simp only [Nat.mod_eq_of_lt h0]
  rw [dif_neg h0, if_neg h0]
  simp only [dite_eq_ite]
  split_ifs <;> first | rfl | (exfalso; omega)

/-- The keys' array read at an index. -/
theorem KA_at (P : FVec Ideal S16384x2944 .f32) (b : FVec Ideal S1x128 .f32) (r : Fin 16384) (h : Fin 4) (d : Fin 128) : KA P b (ix2 r (⟨h.val * 128 + d.val, by omega⟩ : Fin 512))
    = krow (P (ix2 r (⟨512 + (h.val * 64 + d.val % 64), by omega⟩ : Fin 2944)))
      (CB P b (ix3 (⟨r.val / 4096, by omega⟩ : Fin 4) (⟨r.val % 4096, by omega⟩ : Fin 4096) h)) d.val := by
  unfold KA krow
  pointwise
  by_cases h0 : d.val < 64
  · rw [dif_pos h0, if_pos h0]; simp only [Nat.mod_eq_of_lt h0]
  rw [dif_neg h0, if_neg h0]
  simp only [dite_eq_ite]
  split_ifs <;> first | rfl | (exfalso; omega)

end Cert.FoxPrepRefIdeal.Value

end
-- ==== Proof.FoxOut.lean ====
/-
The six arrays the operand preparation writes, point by point: what one grid point leaves in
each output block, and the pieces read at an index.
-/
module

public import proofs.«01_k».proof.Proof.Gen.FoxPrepIdeal.Value
public import proofs.«01_k».proof.Proof.FoxRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FoxPrepIdeal.Value

open Cert.FoxPrepIdeal Cert.FoxPrepIdeal.Gen
open Idealize.ShloMosaic.Pipeline (Dat)
open Cert.FoxPrepRefIdeal.Value (LF QA KA KT VT CB lf gate)

variable (m : (ℓ : Loc nD τ sig) → Buf (Elt Ideal) ℓ)

/-- The projected rows, the kernel's first argument. -/
abbrev P (c : Dev nD) : FVec Ideal S16384x2944 .f32 := m ((c : Thread nD τ).loc main_arg0)

/-- The bias row, the kernel's second argument. -/
abbrev Bi (c : Dev nD) : FVec Ideal S1x128 .f32 := m ((c : Thread nD τ).loc main_arg1)

/-- Every input window's block index at a grid point. -/
theorem idxI : ∀ t : Fin cfg0.N, (win0_0.index t 0 = t.val ∧ win0_0.index t 1 = 22) ∧ (win0_1.index t 0 = t.val ∧ win0_1.index t 1 = 1)
    ∧ (win0_2.index t 0 = t.val ∧ win0_2.index t 1 = 2) ∧ (win0_3.index t 0 = t.val ∧ win0_3.index t 1 = 3) ∧ (win0_4.index t 0 = 0 ∧ win0_4.index t 1 = 0) :=
  (by decide +kernel : ∀ t : Fin grid0.N, _)

/-- Every output window's block index at a grid point. -/
theorem idxO : ∀ t : Fin cfg0.N, (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val / 8 ∧ win0_8.index t 1 = 0 ∧ win0_8.index t 2 = t.val % 8)
    ∧ (win0_9.index t 0 = t.val / 8 ∧ win0_9.index t 1 = 0 ∧ win0_9.index t 2 = t.val % 8) ∧ (win0_10.index t 0 = t.val / 8 ∧ win0_10.index t 1 = 0 ∧ win0_10.index t 2 = t.val % 8) :=
  (by decide +kernel : ∀ t : Fin grid0.N, _)

/-- The gate block's entry in the projected rows. -/
theorem in0 (c : Dev nD) (t : Fin cfg0.N) (p : Fin 512) (h : Fin 128) :
    iblk m c 0 t (ix2 p h : S512x128.Idx) = P m c (ix2 (⟨t.val * 512 + p.val, by have : t.val < 32 := t.isLt; omega⟩ : Fin 16384) (⟨2816 + h.val, by omega⟩ : Fin 2944)) := by
  have hi := idxI t
  blk_ext [iblk, V, hi]

/-- The bias block's entry. -/
theorem in4 (c : Dev nD) (t : Fin cfg0.N) (h : Fin 128) :
    iblk m c 4 t (ix2 (0 : Fin 1) h : S1x128.Idx) = Bi m c (ix2 (0 : Fin 1) h) := by
  have hi := idxI t
  blk_ext [iblk, V, hi]

/-- The query block's entry in the projected rows. -/
theorem in1 (c : Dev nD) (t : Fin cfg0.N) (p : Fin 512) (h : Fin 256) :
    X0_1 m c t (ix2 p h : S512x256.Idx) = P m c (ix2 (⟨t.val * 512 + p.val, by have : t.val < 32 := t.isLt; omega⟩ : Fin 16384) (⟨256 + h.val, by omega⟩ : Fin 2944)) := by
  have hi := idxI t
  unfold X0_1 Pipeline.Window.fill
  rw [dif_pos (moved0_1 t _)]
  blk_ext [iblk, V, hi]

/-- The key block's entry in the projected rows. -/
theorem in2 (c : Dev nD) (t : Fin cfg0.N) (p : Fin 512) (h : Fin 256) :
    X0_2 m c t (ix2 p h : S512x256.Idx) = P m c (ix2 (⟨t.val * 512 + p.val, by have : t.val < 32 := t.isLt; omega⟩ : Fin 16384) (⟨512 + h.val, by omega⟩ : Fin 2944)) := by
  have hi := idxI t
  unfold X0_2 Pipeline.Window.fill
  rw [dif_pos (moved0_2 t _)]
  blk_ext [iblk, V, hi]

/-- The value block's entry in the projected rows. -/
theorem in3 (c : Dev nD) (t : Fin cfg0.N) (p : Fin 512) (h : Fin 256) :
    X0_3 m c t (ix2 p h : S512x256.Idx) = P m c (ix2 (⟨t.val * 512 + p.val, by have : t.val < 32 := t.isLt; omega⟩ : Fin 16384) (⟨768 + h.val, by omega⟩ : Fin 2944)) := by
  have hi := idxI t
  unfold X0_3 Pipeline.Window.fill
  rw [dif_pos (moved0_3 t _)]
  blk_ext [iblk, V, hi]

/-- What a point leaves in the block of the logarithms. -/
theorem out5 (c : Dev nD) (t : Fin cfg0.N) : (outsAt0 m c t.val t.isLt).1 = k0_pay6 (iblk m c 0 t) (iblk m c 4 t) := by
  by_cases h : t.val % 8 = 0
  · rw [outsAt0_A m c t h]; frame_out
  · rw [outsAt0_B m c t h]; frame_out

/-- What a point leaves in the block of the transposed keys. -/
theorem out8 (c : Dev nD) (t : Fin cfg0.N) : (outsAt0 m c t.val t.isLt).2.2.2.1 = k0_pay1 (k0_pay61 (X0_2 m c t)) := by
  by_cases h : t.val % 8 = 0
  · rw [outsAt0_A m c t h]; frame_out
  · rw [outsAt0_B m c t h]; frame_out

/-- What a point leaves in the block of the transposed values. -/
theorem out9 (c : Dev nD) (t : Fin cfg0.N) : (outsAt0 m c t.val t.isLt).2.2.2.2.1 = k0_pay3 (X0_3 m c t) := by
  by_cases h : t.val % 8 = 0
  · rw [outsAt0_A m c t h]; frame_out
  · rw [outsAt0_B m c t h]; frame_out

/-- What a point leaves in the block of the rounded transposed values. -/
theorem out10 (c : Dev nD) (t : Fin cfg0.N) : (outsAt0 m c t.val t.isLt).2.2.2.2.2.1 = k0_pay4 (X0_3 m c t) := by
  by_cases h : t.val % 8 = 0
  · rw [outsAt0_A m c t h]; frame_out
  · rw [outsAt0_B m c t h]; frame_out

/-- The logarithms' payload read at an index. -/
theorem pay6_at (c : Dev nD) (t : Fin cfg0.N) (p : Fin 512) (h : Fin 128) :
    k0_pay6 (iblk m c 0 t) (iblk m c 4 t) (ix2 p h) = lf (gate (P m c) (Bi m c) (⟨t.val * 512 + p.val, by have : t.val < 32 := t.isLt; omega⟩ : Fin 16384) h) := by
  have e0 := in0 m c t p h
  have e4 := in4 m c t h
  unfold gate
  rw [← e0, ← e4]
  generalize iblk m c 0 t = b0
  generalize iblk m c 4 t = b4
  pointwise [k0_pay6]
  rfl

/-- The logarithms' array after the run is the reference's. -/
theorem arr5 (c : Dev nD) : (dats m 0 c).arrAt 5 (cfgs 0).N = LF (P m c) (Bi m c) := by
  refine (dats m 0 c).arrAt_eq_of_covers 5 _ (by decide +kernel) fun t _ y => ?_
  blk_simp
  rw [after0_5]
  obtain ⟨p, j, rfl⟩ : ∃ (p : Fin 512) (j : Fin 128), y = ix2 p j := ⟨y 0, y 1, eq_ix2 y⟩
  have hN : t.val < 32 := t.isLt
  have ho := idxO t
  have hr : ((cfg0.win 5).blk t).view.emb (ix2 p j : S512x128.Idx) = (ix2 (⟨t.val * 512 + p.val, by omega⟩ : Fin 16384) j : S16384x128.Idx) := by
    blk_ext [ho]
  refine Eq.trans ?_ (congrArg (LF _ _) hr.symm)
  rw [Cert.FoxPrepRefIdeal.Value.LF_at, out5]
  exact pay6_at m c t p j

/-- The transposed keys' array after the run is the reference's. -/
theorem arr8 (c : Dev nD) : (dats m 0 c).arrAt 8 (cfgs 0).N = KT (P m c) := by
  refine (dats m 0 c).arrAt_eq_of_covers 8 _ (by decide +kernel) fun t _ y => ?_
  blk_simp
  rw [after0_8]
  obtain ⟨a, d, p, rfl⟩ : ∃ (a : Fin 1) (d : Fin 256) (p : Fin 512), y = ix3 a d p := ⟨y 0, y 1, y 2, eq_ix3 y⟩
  have hN : t.val < 32 := t.isLt
  have ho := idxO t
  have hr : ((cfg0.win 8).blk t).view.emb (ix3 a d p : S1x256x512.Idx) = (ix3 (⟨t.val / 8, by omega⟩ : Fin 4) d (⟨t.val % 8 * 512 + p.val, by omega⟩ : Fin 4096) : S4x256x4096.Idx) := by
    blk_ext [ho]
  refine Eq.trans ?_ (congrArg (KT _) hr.symm)
  rw [Cert.FoxPrepRefIdeal.Value.KT_at, out8]
  have e := in2 m c t p d
  generalize X0_2 m c t = b at *
  pointwise [k0_pay1, k0_pay61]
  rw [e]
  congr 2
  ext; show t.val * 512 + p.val = t.val / 8 * 4096 + (t.val % 8 * 512 + p.val); omega

/-- The transposed values' array after the run is the reference's. -/
theorem arr9 (c : Dev nD) : (dats m 0 c).arrAt 9 (cfgs 0).N = VT (P m c) := by
  refine (dats m 0 c).arrAt_eq_of_covers 9 _ (by decide +kernel) fun t _ y => ?_
  blk_simp
  rw [after0_9]
  obtain ⟨a, d, p, rfl⟩ : ∃ (a : Fin 1) (d : Fin 256) (p : Fin 512), y = ix3 a d p := ⟨y 0, y 1, y 2, eq_ix3 y⟩
  have hN : t.val < 32 := t.isLt
  have ho := idxO t
  have hr : ((cfg0.win 9).blk t).view.emb (ix3 a d p : S1x256x512.Idx) = (ix3 (⟨t.val / 8, by omega⟩ : Fin 4) d (⟨t.val % 8 * 512 + p.val, by omega⟩ : Fin 4096) : S4x256x4096.Idx) := by
    blk_ext [ho]
  refine Eq.trans ?_ (congrArg (VT _) hr.symm)
  rw [Cert.FoxPrepRefIdeal.Value.VT_at, out9]
  have e := in3 m c t p d
  generalize X0_3 m c t = b at *
  pointwise [k0_pay3, k0_pay2]
  rw [e]
  congr 2
  ext; show t.val * 512 + p.val = t.val / 8 * 4096 + (t.val % 8 * 512 + p.val); omega

/-- The rounded transposed values' array after the run is the reference's. -/
theorem arr10 (c : Dev nD) : (dats m 0 c).arrAt 10 (cfgs 0).N = truncf (F := Ideal) .bf16 (VT (P m c)) Cert.FoxPrepRefIdeal.Gen.bitsLt_bf16_f32 := by
  refine (dats m 0 c).arrAt_eq_of_covers 10 _ (by decide +kernel) fun t _ y => ?_
  blk_simp
  rw [after0_10]
  obtain ⟨a, d, p, rfl⟩ : ∃ (a : Fin 1) (d : Fin 256) (p : Fin 512), y = ix3 a d p := ⟨y 0, y 1, y 2, eq_ix3 y⟩
  have hN : t.val < 32 := t.isLt
  have ho := idxO t
  have hr : ((cfg0.win 10).blk t).view.emb (ix3 a d p : S1x256x512.Idx) = (ix3 (⟨t.val / 8, by omega⟩ : Fin 4) d (⟨t.val % 8 * 512 + p.val, by omega⟩ : Fin 4096) : S4x256x4096.Idx) := by
    blk_ext [ho]
  refine Eq.trans ?_ (congrArg (VT _) hr.symm)
  rw [Cert.FoxPrepRefIdeal.Value.VT_at, out10]
  have e := in3 m c t p d
  generalize X0_3 m c t = b at *
  pointwise [k0_pay4, k0_pay2]
  rw [e]
  congr 2
  ext; show t.val * 512 + p.val = t.val / 8 * 4096 + (t.val % 8 * 512 + p.val); omega

end Cert.FoxPrepIdeal.Value

end
-- ==== Proof.FoxInt.lean ====
/-
The index arithmetic of the operand preparation: which head and which place inside a head a
column of the written rows has.
-/
module

public import proofs.«01_k».proof.Proof.Gen.FoxPrepIdeal.Skeleton
public import Idealize.ShloMosaic.Lib.Pointwise

@[expose] public section

set_option maxRecDepth 16384

noncomputable section

open Idealize.ShloMosaic Idealize.ShloMosaic.TcCoe Idealize.SL.Sem

namespace Cert.FoxPrepIdeal.Value

open Cert.FoxPrepIdeal Cert.FoxPrepIdeal.Gen

/-- The head of a column, as the first half of the kernel computes it. -/
theorem blk_q : ∀ j : Fin 512, k0_pay18 (ix2 (0 : Fin 1) j) = BitVec.ofNat 32 (j.val / 128) := by decide +kernel

/-- The place of a column inside its head past the features, as the first half computes it. -/
theorem off_q : ∀ j : Fin 512, k0_pay22 (128#32) k0_pay19 k0_pay20 k0_pay21 (ix2 (0 : Fin 1) j) = BitVec.ofNat 32 (j.val % 128) - 64#32 := by decide +kernel

/-- The head of a column, as the second half of the kernel computes it. -/
theorem blk_k : ∀ j : Fin 512, k0_pay45 (iota Kind.tc S1x512 32 [1] iota_S1x512_d1_w32) (128#32) k0_pay42 k0_pay43 k0_pay44 (ix2 (0 : Fin 1) j) = BitVec.ofNat 32 (j.val / 128) := by decide +kernel

/-- The place of a column inside its head past the features, as the second half computes it. -/
theorem off_k : ∀ j : Fin 512, k0_pay46 (iota Kind.tc S1x512 32 [1] iota_S1x512_d1_w32) (ix2 (0 : Fin 1) j) = BitVec.ofNat 32 (j.val % 128) - 64#32 := by decide +kernel

/-- The head of a column of the placement. -/
theorem pay10_at : ∀ j : Fin 512, k0_pay10 (ix2 (0 : Fin 256) j) = BitVec.ofNat 32 (j.val / 128) := by decide +kernel

/-- The head of a feature. -/
theorem headr : ∀ r : Fin 256, Scalar.select
          (IntOp.andi (k0_pay12 (ix2 r (0 : Fin 512)))
            (IntOp.cmpi CmpIPredicate.ne (IntOp.remsi ArithUnit.vector (BitVec.ofNat 32 r.val) 64#32) 0#32))
          (IntOp.subi (k0_pay11 (ix2 r (0 : Fin 512))) 1#32) (k0_pay11 (ix2 r (0 : Fin 512))) = BitVec.ofNat 32 (r.val / 64) := by decide +kernel

/-- The floored remainder by 128 of a small number. -/
theorem rem128 : ∀ c : Fin 512, Scalar.select
          (IntOp.andi
            (IntOp.xori (IntOp.cmpi CmpIPredicate.slt (IntOp.remsi ArithUnit.vector (BitVec.ofNat 32 c.val) (Scalar.select (Scalar.cmpi CmpIPredicate.eq 128#32 0#32) 1#32 128#32)) 0#32)
              (Scalar.cmpi CmpIPredicate.slt (Scalar.select (Scalar.cmpi CmpIPredicate.eq 128#32 0#32) 1#32 128#32) 0#32))
            (IntOp.cmpi CmpIPredicate.ne (IntOp.remsi ArithUnit.vector (BitVec.ofNat 32 c.val) (Scalar.select (Scalar.cmpi CmpIPredicate.eq 128#32 0#32) 1#32 128#32)) 0#32))
          (IntOp.addi (IntOp.remsi ArithUnit.vector (BitVec.ofNat 32 c.val) (Scalar.select (Scalar.cmpi CmpIPredicate.eq 128#32 0#32) 1#32 128#32)) (Scalar.select (Scalar.cmpi CmpIPredicate.eq 128#32 0#32) 1#32 128#32))
          (IntOp.remsi ArithUnit.vector (BitVec.ofNat 32 c.val) (Scalar.select (Scalar.cmpi CmpIPredicate.eq 128#32 0#32) 1#32 128#32)) = BitVec.ofNat 32 (c.val % 128) := by decide +kernel

/-- The floored remainder by 64 of a small number. -/
theorem rem64 : ∀ r : Fin 256, Scalar.select
          (IntOp.andi
            (IntOp.xori (IntOp.cmpi CmpIPredicate.slt (IntOp.remsi ArithUnit.vector (BitVec.ofNat 32 r.val) (Scalar.select (Scalar.cmpi CmpIPredicate.eq 64#32 0#32) 1#32 64#32)) 0#32)
              (Scalar.cmpi CmpIPredicate.slt (Scalar.select (Scalar.cmpi CmpIPredicate.eq 64#32 0#32) 1#32 64#32) 0#32))
            (IntOp.cmpi CmpIPredicate.ne (IntOp.remsi ArithUnit.vector (BitVec.ofNat 32 r.val) (Scalar.select (Scalar.cmpi CmpIPredicate.eq 64#32 0#32) 1#32 64#32)) 0#32))
          (IntOp.addi (IntOp.remsi ArithUnit.vector (BitVec.ofNat 32 r.val) (Scalar.select (Scalar.cmpi CmpIPredicate.eq 64#32 0#32) 1#32 64#32)) (Scalar.select (Scalar.cmpi CmpIPredicate.eq 64#32 0#32) 1#32 64#32))
          (IntOp.remsi ArithUnit.vector (BitVec.ofNat 32 r.val) (Scalar.select (Scalar.cmpi CmpIPredicate.eq 64#32 0#32) 1#32 64#32)) = BitVec.ofNat 32 (r.val % 64) := by decide +kernel

/-- The mask of the placement, as the kernel composes it. -/
abbrev PL : IVec S256x512 1 := k0_pay13 (iota Kind.tc S256x512 32 [0] iota_S256x512_d0_w32) (iota Kind.tc S256x512 32 [1] iota_S256x512_d1_w32) k0_pay10 (64#32) k0_pay11 k0_pay12

/-- Two small numbers are equal words exactly when they are equal. -/
theorem eq_small {a b : ℕ} (ha : a < 512) (hb : b < 512) : IntOp.cmpi CmpIPredicate.eq (BitVec.ofNat 32 a) (BitVec.ofNat 32 b) = BitVec.ofBool (decide (a = b)) := by
  have h : (BitVec.ofNat 32 a = BitVec.ofNat 32 b) ↔ a = b := by
    constructor
    · intro h
      have := congrArg BitVec.toNat h
      simp only [BitVec.toNat_ofNat] at this
      omega
    · rintro rfl; rfl
  by_cases hab : a = b
  · subst hab; simp [IntOp.cmpi]
  · have h' : ¬ (BitVec.ofNat 32 a = BitVec.ofNat 32 b) := fun e => hab (h.mp e)
    simp [IntOp.cmpi, hab, beq_eq_false_iff_ne.mpr h']

/-- The placement sends feature `r` of a head to the same place of that head's 128 columns. -/
theorem PL_at (r : Fin 256) (h : Fin 4) (d : Fin 128) : PL (ix2 r (⟨h.val * 128 + d.val, by omega⟩ : Fin 512)) = BitVec.ofBool (decide (d.val < 64 ∧ r.val = h.val * 64 + d.val)) := by
  unfold PL
  pointwise [k0_pay13]
  have e10 : k0_pay10 (ix2 r (⟨h.val * 128 + d.val, by omega⟩ : Fin 512)) = _ := pay10_at (⟨h.val * 128 + d.val, by omega⟩ : Fin 512)
  have er := headr r
  have ec := rem128 (⟨h.val * 128 + d.val, by omega⟩ : Fin 512)
  have e4 := rem64 r
  have e12 : k0_pay12 (ix2 r (⟨h.val * 128 + d.val, by omega⟩ : Fin 512)) = k0_pay12 (ix2 r (0 : Fin 512)) := rfl
  have e11 : k0_pay11 (ix2 r (⟨h.val * 128 + d.val, by omega⟩ : Fin 512)) = k0_pay11 (ix2 r (0 : Fin 512)) := rfl
  rw [e10, e12, e11, er, e4]
  refine (congrArg (fun z => IntOp.andi _ (IntOp.cmpi _ z _)) ec).trans ?_
  rw [eq_small (by have := h.isLt; have := d.isLt; simp only []; omega) (by have := r.isLt; omega), eq_small (by have := h.isLt; have := d.isLt; simp only []; omega) (by have := r.isLt; omega)]
  have e : ∀ x y : Bool, IntOp.andi (BitVec.ofBool x) (BitVec.ofBool y) = BitVec.ofBool (x && y) := by decide
  rw [e]
  congr 1
  have := h.isLt; have := d.isLt; have := r.isLt
  rw [← Bool.decide_and]
  apply decide_eq_decide.mpr
  show ((h.val * 128 + d.val) / 128 = r.val / 64 ∧ (h.val * 128 + d.val) % 128 = r.val % 64) ↔ _
  omega

/-- The place inside a head past the features, by head and place (first half). -/
theorem off_q' (h : Fin 4) (d : Fin 128) : k0_pay22 (128#32) k0_pay19 k0_pay20 k0_pay21 (ix2 (0 : Fin 1) (⟨h.val * 128 + d.val, by omega⟩ : Fin 512)) = BitVec.ofNat 32 d.val - 64#32 := by
  rw [off_q]; congr 2; show (h.val * 128 + d.val) % 128 = d.val; omega

/-- The head of a column, by head and place (first half). -/
theorem blk_q' (h : Fin 4) (d : Fin 128) : k0_pay18 (ix2 (0 : Fin 1) (⟨h.val * 128 + d.val, by omega⟩ : Fin 512)) = BitVec.ofNat 32 h.val := by
  rw [blk_q]; congr 1; show (h.val * 128 + d.val) / 128 = h.val; omega

/-- The place inside a head past the features, by head and place (second half). -/
theorem off_k' (h : Fin 4) (d : Fin 128) : k0_pay46 (iota Kind.tc S1x512 32 [1] iota_S1x512_d1_w32) (ix2 (0 : Fin 1) (⟨h.val * 128 + d.val, by omega⟩ : Fin 512)) = BitVec.ofNat 32 d.val - 64#32 := by
  rw [off_k]; congr 2; show (h.val * 128 + d.val) % 128 = d.val; omega

/-- The head of a column, by head and place (second half). -/
theorem blk_k' (h : Fin 4) (d : Fin 128) : k0_pay45 (iota Kind.tc S1x512 32 [1] iota_S1x512_d1_w32) (128#32) k0_pay42 k0_pay43 k0_pay44 (ix2 (0 : Fin 1) (⟨h.val * 128 + d.val, by omega⟩ : Fin 512)) = BitVec.ofNat 32 h.val := by
  rw [blk_k]; congr 1; show (h.val * 128 + d.val) / 128 = h.val; omega

/-- The tests of the place inside a head. -/
theorem off_is : ∀ d : Fin 128, IntOp.cmpi CmpIPredicate.eq (BitVec.ofNat 32 d.val - 64#32) 0#32 = BitVec.ofBool (decide (d.val = 64))
    ∧ IntOp.cmpi CmpIPredicate.eq (BitVec.ofNat 32 d.val - 64#32) 1#32 = BitVec.ofBool (decide (d.val = 65))
    ∧ IntOp.cmpi CmpIPredicate.eq (BitVec.ofNat 32 d.val - 64#32) 2#32 = BitVec.ofBool (decide (d.val = 66))
    ∧ IntOp.cmpi CmpIPredicate.eq (BitVec.ofNat 32 d.val - 64#32) 3#32 = BitVec.ofBool (decide (d.val = 67))
    ∧ IntOp.cmpi CmpIPredicate.eq (BitVec.ofNat 32 d.val - 64#32) 4#32 = BitVec.ofBool (decide (d.val = 68))
    ∧ IntOp.cmpi CmpIPredicate.eq (BitVec.ofNat 32 d.val - 64#32) 5#32 = BitVec.ofBool (decide (d.val = 69))
    ∧ IntOp.andi (IntOp.cmpi CmpIPredicate.sge (BitVec.ofNat 32 d.val - 64#32) 3#32) (IntOp.cmpi CmpIPredicate.slt (BitVec.ofNat 32 d.val - 64#32) 6#32) = BitVec.ofBool (decide (67 ≤ d.val ∧ d.val < 70))
    ∧ IntOp.andi (IntOp.cmpi CmpIPredicate.sge (BitVec.ofNat 32 d.val - 64#32) 0#32) (IntOp.cmpi CmpIPredicate.slt (BitVec.ofNat 32 d.val - 64#32) 3#32) = BitVec.ofBool (decide (64 ≤ d.val ∧ d.val < 67)) := by decide +kernel

/-- Choosing by head among the four lanes is reading the head's lane. -/
theorem by_head (f : Fin 4 → EReal) (h : Fin 4) :
    Scalar.select (IntOp.cmpi CmpIPredicate.eq (BitVec.ofNat 32 h.val) 0#32) (f 0)
      (Scalar.select (IntOp.cmpi CmpIPredicate.eq (BitVec.ofNat 32 h.val) 1#32) (f 1)
        (Scalar.select (IntOp.cmpi CmpIPredicate.eq (BitVec.ofNat 32 h.val) 2#32) (f 2) (f 3))) = f h := by
  fin_cases h <;> rfl

/-- A choice by a decided bit. -/
theorem sel_dec {α : Type} (q : Prop) [Decidable q] (x y : α) : Scalar.select (BitVec.ofBool (decide q)) x y = if q then x else y := by
  by_cases h : q <;> simp [h, Scalar.select]

end Cert.FoxPrepIdeal.Value

end
-- ==== Proof.FoxRows.lean ====
/-
The rows of the queries and of the keys as one grid point writes them: features at their place,
the running sum and the ones in the columns behind.
-/
module

public import proofs.«01_k».proof.Proof.FoxOut
public import proofs.«01_k».proof.Proof.FoxInt

@[expose] public section

set_option maxRecDepth 16384

noncomputable section

open Idealize.ShloMosaic Idealize.ShloMosaic.TcCoe Idealize.SL.Sem

namespace Cert.FoxPrepIdeal.Value

open Cert.FoxPrepIdeal Cert.FoxPrepIdeal.Gen
open Cert.FoxPrepRefIdeal.Value (qrow krow)

/-- The queries' block as a function of the running sums and the features. -/
def ROWQ (C : FVec Ideal S512x128 .f32) (X : FVec Ideal S512x256 .f32) : FVec Ideal S512x512 .bf16 :=
  k0_pay39 (k0_pay17 PL (FloatOps.ofBits FTy.f32 0#32) k0_pay14 X) k0_pay18 (k0_pay22 (128#32) k0_pay19 k0_pay20 k0_pay21)
    (k0_pay33 k0_pay18 (k0_pay22 (128#32) k0_pay19 k0_pay20 k0_pay21) (k0_pay27 (k0_pay16 C)) (k0_pay29 (128#32) k0_pay19 k0_pay20 k0_pay21) (k0_pay30 (k0_pay16 C)) (k0_pay31 (k0_pay16 C) k0_pay18) (k0_pay32 k0_pay18))
    (k0_pay34 (k0_pay28 (k0_pay16 C))) (k0_pay35 (k0_pay28 (k0_pay16 C))) (k0_pay36 k0_pay18) (k0_pay37 (k0_pay28 (k0_pay16 C))) (k0_pay38 (k0_pay28 (k0_pay16 C)))

/-- The keys' block as a function of the running sums and the features. -/
def ROWK (C : FVec Ideal S512x128 .f32) (X : FVec Ideal S512x256 .f32) : FVec Ideal S512x512 .bf16 :=
  k0_pay60 (k0_pay40 (k0_pay15 PL (FloatOps.ofBits FTy.f32 0#32) k0_pay14) X) (k0_pay45 (iota Kind.tc S1x512 32 [1] iota_S1x512_d1_w32) (128#32) k0_pay42 k0_pay43 k0_pay44) (k0_pay46 (iota Kind.tc S1x512 32 [1] iota_S1x512_d1_w32)) (k0_pay52 (k0_pay41 (k0_pay16 C)))
    (k0_pay56 (k0_pay45 (iota Kind.tc S1x512 32 [1] iota_S1x512_d1_w32) (128#32) k0_pay42 k0_pay43 k0_pay44) (k0_pay46 (iota Kind.tc S1x512 32 [1] iota_S1x512_d1_w32)) (k0_pay50 (k0_pay41 (k0_pay16 C))) (k0_pay53 (iota Kind.tc S1x512 32 [1] iota_S1x512_d1_w32)) (k0_pay54 (k0_pay41 (k0_pay16 C))) (k0_pay55 (k0_pay41 (k0_pay16 C))))
    (k0_pay57 (k0_pay51 (k0_pay41 (k0_pay16 C)))) (k0_pay58 (k0_pay45 (iota Kind.tc S1x512 32 [1] iota_S1x512_d1_w32) (128#32) k0_pay42 k0_pay43 k0_pay44) (k0_pay51 (k0_pay41 (k0_pay16 C)))) k0_pay59

/-- A row of features times the placement is the feature of the column's head and place, zero behind the features. -/
theorem place_sum (f : Fin 256 → EReal) (h : Fin 4) (d : Fin 128) :
    ∑ x, Scalar.select (PL (ix2 x (⟨h.val * 128 + d.val, by omega⟩ : Fin 512))) (f x) 0 = if d.val < 64 then f (⟨h.val * 64 + d.val % 64, by omega⟩ : Fin 256) else 0 := by
  simp only [PL_at, sel_dec]
  by_cases hd : d.val < 64
  · rw [if_pos hd, Finset.sum_eq_single (⟨h.val * 64 + d.val % 64, by omega⟩ : Fin 256)]
    · rw [if_pos ⟨hd, by show h.val * 64 + d.val % 64 = _; omega⟩]
    · intro x _ hx
      rw [if_neg]
      rintro ⟨_, e⟩
      exact hx (Fin.ext (by show x.val = h.val * 64 + d.val % 64; omega))
    · intro hn; exact absurd (Finset.mem_univ _) hn
  · rw [if_neg hd]
    exact Finset.sum_eq_zero fun x _ => if_neg fun e => hd e.1

/-- The base change is a real number. -/
theorem log2e_real : ∃ k : ℝ, Ideal.ofBits .f32 0x3FB8AA3B#32 = ((k : ℝ) : EReal) := by
  simp only [Ideal.ofBits, Ideal.ieee]
  simp
  exact ⟨_, (EReal.coe_mul _ _).symm⟩

/-- Choosing by head among four values. -/
theorem by_head4 (a b c e : EReal) (h : Fin 4) :
    Scalar.select (IntOp.cmpi CmpIPredicate.eq (BitVec.ofNat 32 h.val) 0#32) a
      (Scalar.select (IntOp.cmpi CmpIPredicate.eq (BitVec.ofNat 32 h.val) 1#32) b
        (Scalar.select (IntOp.cmpi CmpIPredicate.eq (BitVec.ofNat 32 h.val) 2#32) c e)) = ![a, b, c, e] h := by
  fin_cases h <;> rfl

/-- The head's entry of four lanes. -/
theorem lanes (C : FVec Ideal S512x128 .f32) (p : Fin 512) (h : Fin 4) (g : EReal → EReal) :
    ![g (C (ix2 p 0)), g (C (ix2 p 1)), g (C (ix2 p 2)), g (C (ix2 p 3))] h = g (C (ix2 p (⟨h.val, by omega⟩ : Fin 128))) := by
  fin_cases h <;> rfl

/-- A real number minus itself is zero. -/
theorem self_sub (x : EReal) (r : ℝ) (h : x = ((r : ℝ) : EReal)) : x - x = 0 := by
  rw [h, ← EReal.coe_sub, sub_self, EReal.coe_zero]

/-- One entry of the queries' block. -/
theorem rowq_at (C : FVec Ideal S512x128 .f32) (X : FVec Ideal S512x256 .f32) (p : Fin 512) (h : Fin 4) (d : Fin 128) (c : ℝ)
    (hc : C (ix2 p (⟨h.val, by omega⟩ : Fin 128)) = ((c : ℝ) : EReal)) :
    ROWQ C X (ix2 p (⟨h.val * 128 + d.val, by omega⟩ : Fin 512))
      = qrow (X (ix2 p (⟨h.val * 64 + d.val % 64, by omega⟩ : Fin 256)) * Ideal.ofBits .f32 0x3E38AA3B#32) (C (ix2 p (⟨h.val, by omega⟩ : Fin 128)) * Ideal.ofBits .f32 0x3FB8AA3B#32) d.val := by
  unfold ROWQ
  pointwise [k0_pay39, k0_pay17, k0_pay15, k0_pay14, k0_pay16, k0_pay23, k0_pay24, k0_pay25, k0_pay26, k0_pay27, k0_pay28, k0_pay29, k0_pay30, k0_pay31, k0_pay32, k0_pay33, k0_pay34, k0_pay35, k0_pay36, k0_pay37, k0_pay38]

  rw [off_q' h d, blk_q' h d]
  obtain ⟨o0, o1, o2, o3, o4, o5, oq, ok⟩ := off_is d
  rw [o0, o1, o2, oq]
  obtain ⟨k, hk⟩ := log2e_real
  have hz : C (ix2 p (⟨h.val, by omega⟩ : Fin 128)) * Ideal.ofBits .f32 0x3FB8AA3B#32 = ((c * k : ℝ) : EReal) := by rw [hc, hk, EReal.coe_mul]
  have s1 := self_sub _ _ hz
  rw [place_sum (fun x => X (ix2 p x) * Ideal.ofBits .f32 0x3E38AA3B#32)]
  simp only [by_head4, sel_dec]
  rw [lanes C p h (fun z => z * Ideal.ofBits .f32 0x3FB8AA3B#32), lanes C p h (fun z => z * Ideal.ofBits .f32 0x3FB8AA3B#32 - z * Ideal.ofBits .f32 0x3FB8AA3B#32),
    lanes C p h (fun z => z * Ideal.ofBits .f32 0x3FB8AA3B#32 - z * Ideal.ofBits .f32 0x3FB8AA3B#32 - (z * Ideal.ofBits .f32 0x3FB8AA3B#32 - z * Ideal.ofBits .f32 0x3FB8AA3B#32))]
  simp only [s1, sub_self]
  unfold qrow
  split_ifs <;> first | (exfalso; omega) | simp

/-- One entry of the keys' block. -/
theorem rowk_at (C : FVec Ideal S512x128 .f32) (X : FVec Ideal S512x256 .f32) (p : Fin 512) (h : Fin 4) (d : Fin 128) (c : ℝ)
    (hc : C (ix2 p (⟨h.val, by omega⟩ : Fin 128)) = ((c : ℝ) : EReal)) :
    ROWK C X (ix2 p (⟨h.val * 128 + d.val, by omega⟩ : Fin 512))
      = krow (X (ix2 p (⟨h.val * 64 + d.val % 64, by omega⟩ : Fin 256))) (C (ix2 p (⟨h.val, by omega⟩ : Fin 128)) * Ideal.ofBits .f32 0x3FB8AA3B#32) d.val := by
  unfold ROWK
  pointwise [k0_pay60, k0_pay40, k0_pay15, k0_pay14, k0_pay16, k0_pay41, k0_pay47, k0_pay48, k0_pay49, k0_pay50, k0_pay51, k0_pay52, k0_pay53, k0_pay54, k0_pay55, k0_pay56, k0_pay57, k0_pay58, k0_pay59]
  rw [off_k' h d, blk_k' h d]
  obtain ⟨o0, o1, o2, o3, o4, o5, oq, ok⟩ := off_is d
  rw [o3, o4, o5, ok]
  obtain ⟨k, hk⟩ := log2e_real
  have hz : 0 - C (ix2 p (⟨h.val, by omega⟩ : Fin 128)) * Ideal.ofBits .f32 0x3FB8AA3B#32 = ((-(c * k) : ℝ) : EReal) := by rw [hc, hk, zero_sub, ← EReal.coe_mul, EReal.coe_neg]
  have s1 := self_sub _ _ hz
  rw [place_sum (fun x => X (ix2 p x))]
  simp only [by_head4, sel_dec]
  rw [lanes C p h (fun z => 0 - z * Ideal.ofBits .f32 0x3FB8AA3B#32), lanes C p h (fun z => 0 - z * Ideal.ofBits .f32 0x3FB8AA3B#32 - (0 - z * Ideal.ofBits .f32 0x3FB8AA3B#32)),
    lanes C p h (fun z => 0 - z * Ideal.ofBits .f32 0x3FB8AA3B#32 - (0 - z * Ideal.ofBits .f32 0x3FB8AA3B#32) - (0 - z * Ideal.ofBits .f32 0x3FB8AA3B#32 - (0 - z * Ideal.ofBits .f32 0x3FB8AA3B#32)))]
  simp only [s1, sub_self]
  unfold krow
  split_ifs <;> first | (exfalso; omega) | simp

end Cert.FoxPrepIdeal.Value

end
-- ==== Proof.FoxCum.lean ====
/-
The running sums of the operand preparation: under the precondition what is carried from block
to block is the sum of the sequence's logarithms so far, a real number.
-/
module

public import proofs.«01_k».proof.Proof.Gen.FoxPrepIdeal.Value
public import proofs.«01_k».proof.Proof.FoxRef
public import proofs.«01_k».proof.Proof.FoxRows
public import proofs.«01_k».proof.Proof.AttnPre
public import proofs.«01_k».proof.Proof.Gen.Pre_finite
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FoxPrepIdeal.Value

open Cert.FoxPrepIdeal Cert.FoxPrepIdeal.Gen
open Idealize.ShloMosaic.Pipeline (Dat)
open Cert.FoxPrepRefIdeal.Value (LF QA KA KT VT CB lf gate lf_real)

variable (m : (ℓ : Loc nD τ sig) → Buf (Elt Ideal) ℓ)

/-- The precondition makes the gates' misc columns real numbers. -/
theorem proj_real (hp : Cert.Pre_FoxPrepIdeal_finite (hPre_finite := Cert.Pre_finite.Gen.facts) m) (c : Dev nD) (r : Fin 16384) (h : Fin 4) :
    ∃ x : ℝ, P m c (ix2 r (⟨2816 + h.val, by omega⟩ : Fin 2944)) = ((x : ℝ) : EReal) := by
  have e := Cert.AttnPre.real_of_lt _ (congrFun (hp c).1 (ix2 r h))
  have hi : (extractStridedSlice Cert.Pre_finite.S16384x4 ![0, 2816] (P m c) Cert.Pre_finite.Gen.facts.slices_S16384x2944_S16384x4_0_2816) (ix2 r h) = P m c (ix2 r (⟨2816 + h.val, by omega⟩ : Fin 2944)) := by
    pointwise
  obtain ⟨x, hx⟩ := e
  exact ⟨x, hi.symm.trans hx⟩

/-- The precondition makes the bias of the four heads real numbers. -/
theorem bias_real (hp : Cert.Pre_FoxPrepIdeal_finite (hPre_finite := Cert.Pre_finite.Gen.facts) m) (c : Dev nD) (h : Fin 4) :
    ∃ x : ℝ, Bi m c (ix2 (0 : Fin 1) (⟨h.val, by omega⟩ : Fin 128)) = ((x : ℝ) : EReal) := by
  have e := Cert.AttnPre.real_of_lt _ (congrFun (hp c).2 (ix2 (0 : Fin 1) h))
  have hi : (extractStridedSlice Cert.Pre_finite.S1x4 ![0, 0] (Bi m c) Cert.Pre_finite.Gen.facts.slices_S1x128_S1x4_0_0) (ix2 (0 : Fin 1) h) = Bi m c (ix2 (0 : Fin 1) (⟨h.val, by omega⟩ : Fin 128)) := by
    pointwise
  obtain ⟨x, hx⟩ := e
  exact ⟨x, hi.symm.trans hx⟩

/-- So every gate's logarithm is a real number. -/
theorem gate_real (hp : Cert.Pre_FoxPrepIdeal_finite (hPre_finite := Cert.Pre_finite.Gen.facts) m) (c : Dev nD) (r : Fin 16384) (h : Fin 4) :
    ∃ x : ℝ, lf (gate (P m c) (Bi m c) r (⟨h.val, by omega⟩ : Fin 128)) = ((x : ℝ) : EReal) := by
  obtain ⟨x, hx⟩ := proj_real m hp c r h
  obtain ⟨y, hy⟩ := bias_real m hp c h
  obtain ⟨z, hz⟩ := lf_real (x + y)
  refine ⟨z, ?_⟩
  rw [← hz, EReal.coe_add, ← hx, ← hy]
  rfl

/-- A sum over a range's head, written with a test. -/
theorem sum_le (N q : ℕ) (hq : q < N) (f : ℕ → EReal) : (∑ x : Fin N, if x.val ≤ q then f x.val else 0) = ∑ k ∈ Finset.range (q + 1), f k := by
  rw [← Finset.sum_range (fun k => if k ≤ q then f k else 0)]
  rw [← Finset.sum_subset (Finset.range_mono (show q + 1 ≤ N by omega)) (fun k _ hk => if_neg (fun hle => hk (Finset.mem_range.mpr (by omega))))]
  exact Finset.sum_congr rfl fun k hk => if_pos (by have := Finset.mem_range.mp hk; omega)

/-- The running sum of one block on top of what the block before left. -/
theorem pay7_at (v3 : Vec Ideal S512x128 .f32) (v4 v34 : Vec Ideal S1x128 .f32) (p : Fin 512) (h : Fin 128) (g : ℕ → EReal)
    (hg : ∀ k : Fin 512, k0_pay6 v3 v4 (ix2 k h) = g k.val) (hr : ∀ k : Fin 512, ∃ r : ℝ, g k.val = ((r : ℝ) : EReal)) :
    k0_pay7 v3 v4 v34 (ix2 p h) = (∑ k ∈ Finset.range (p.val + 1), g k) + v34 (ix2 (0 : Fin 1) h) := by
  unfold k0_pay7
  generalize k0_pay6 v3 v4 = G at hg ⊢
  pointwise
  have h0 : ∀ k : Fin 512, g k.val - g k.val = 0 := fun k => by
    obtain ⟨r, e⟩ := hr k
    exact self_sub _ r e
  simp only [hg, h0, sub_zero, Scalar.select, ite_self, Finset.sum_const_zero, add_zero]
  rw [← sum_le 512 p.val p.isLt g]
  refine congrArg (fun z : EReal => z + v34 (ix2 (0 : Fin 1) h)) (Finset.sum_congr (M := EReal) rfl fun x _ => ?_)
  rw [WordCmp.cmpi_sle_ofNat (by omega) (by omega)]
  by_cases hx : x.val ≤ p.val
  · rw [if_pos hx, decide_eq_true hx]; rfl
  · rw [if_neg hx, decide_eq_false hx]; rfl

/-- The gates' logarithms of one head, by row number. -/
def gN (c : Dev nD) (h : Fin 4) (n : ℕ) : EReal :=
  if hn : n < 16384 then lf (gate (P m c) (Bi m c) ⟨n, hn⟩ (⟨h.val, by omega⟩ : Fin 128)) else 0

/-- The sum of a sequence's first logarithms. -/
def cum (c : Dev nD) (h : Fin 4) (s n : ℕ) : EReal := ∑ x ∈ Finset.range n, gN m c h (s * 4096 + x)

/-- Such a sum is a real number. -/
theorem cum_real (hp : Cert.Pre_FoxPrepIdeal_finite (hPre_finite := Cert.Pre_finite.Gen.facts) m) (c : Dev nD) (h : Fin 4) (s n : ℕ) :
    ∃ r : ℝ, cum m c h s n = ((r : ℝ) : EReal) := by
  unfold cum
  induction n with
  | zero => exact ⟨0, by simp⟩
  | succ n ih =>
    obtain ⟨r, hr⟩ := ih
    have : ∃ q : ℝ, gN m c h (s * 4096 + n) = ((q : ℝ) : EReal) := by
      unfold gN
      split_ifs with hn
      · exact gate_real m hp c _ h
      · exact ⟨0, rfl⟩
    obtain ⟨q, hq⟩ := this
    exact ⟨r + q, by rw [Finset.sum_range_succ, hr, hq, EReal.coe_add]⟩

/-- One block's running sum in terms of the sequence's. -/
theorem pay7_cum (hp : Cert.Pre_FoxPrepIdeal_finite (hPre_finite := Cert.Pre_finite.Gen.facts) m) (c : Dev nD) (t : Fin cfg0.N) (v34 : Vec Ideal S1x128 .f32) (p : Fin 512) (h : Fin 4)
    (hv : v34 (ix2 (0 : Fin 1) (⟨h.val, by omega⟩ : Fin 128)) = cum m c h (t.val / 8) (t.val % 8 * 512)) :
    k0_pay7 (iblk m c 0 t) (iblk m c 4 t) v34 (ix2 p (⟨h.val, by omega⟩ : Fin 128)) = cum m c h (t.val / 8) (t.val % 8 * 512 + p.val + 1) := by
  have hN : t.val < 32 := t.isLt
  have he : ∀ k : ℕ, t.val / 8 * 4096 + (t.val % 8 * 512 + k) = t.val * 512 + k := fun k => by omega
  have hlt : ∀ k : Fin 512, gN m c h (t.val * 512 + k.val) = lf (gate (P m c) (Bi m c) (⟨t.val * 512 + k.val, by omega⟩ : Fin 16384) (⟨h.val, by omega⟩ : Fin 128)) := fun k => dif_pos (by omega)
  rw [pay7_at _ _ v34 p _ (fun k => gN m c h (t.val * 512 + k)) (fun k => by rw [hlt]; exact pay6_at m c t k _) (fun k => by rw [hlt]; exact gate_real m hp c _ h), hv]
  show _ = ∑ x ∈ Finset.range (t.val % 8 * 512 + (p.val + 1)), gN m c h (t.val / 8 * 4096 + x)
  rw [Finset.sum_range_add _ (t.val % 8 * 512) (p.val + 1), add_comm]
  exact congrArg (fun z => cum m c h (t.val / 8) (t.val % 8 * 512) + z) (Finset.sum_congr rfl fun k _ => by rw [he])

/-- The running sums a point starts from. -/
def pv (c : Dev nD) (t : Fin cfg0.N) : Vec Ideal S1x128 .f32 :=
  if t.val % 8 = 0 then (k0_pay5 : FVec Ideal S1x128 .f32) else (outsAt0 m c (t.val - 1) (lt_of_le_of_lt (Nat.sub_le _ _) t.isLt)).2.2.2.2.2.2

/-- Storing the running sums changes nothing. -/
theorem pay9_eq (v : FVec Ideal S1x128 .f32) : k0_pay9 v = v := by
  funext i
  obtain ⟨a, j, rfl⟩ : ∃ (a : Fin 1) (j : Fin 128), i = ix2 a j := ⟨i 0, i 1, eq_ix2 i⟩
  pointwise [k0_pay9]

/-- What a point leaves in the running sums. -/
theorem carry (c : Dev nD) (t : Fin cfg0.N) : (outsAt0 m c t.val t.isLt).2.2.2.2.2.2 = k0_pay8 (iblk m c 0 t) (iblk m c 4 t) (pv m c t) := by
  unfold pv
  by_cases h : t.val % 8 = 0
  · rw [if_pos h, outsAt0_A m c t h]; frame_out; exact pay9_eq _
  · rw [if_neg h, outsAt0_B m c t h]; frame_out; rw [(Memref.isWhole_whole _).read_unread _]; exact pay9_eq _

/-- What a point leaves in the queries' block. -/
theorem out6 (c : Dev nD) (t : Fin cfg0.N) : (outsAt0 m c t.val t.isLt).2.1 = ROWQ (k0_pay7 (iblk m c 0 t) (iblk m c 4 t) (pv m c t)) (X0_1 m c t) := by
  unfold pv
  by_cases h : t.val % 8 = 0
  · rw [if_pos h, outsAt0_A m c t h]; frame_out; rfl
  · rw [if_neg h, outsAt0_B m c t h]; frame_out; rw [(Memref.isWhole_whole _).read_unread _]; rfl

/-- What a point leaves in the keys' block. -/
theorem out7 (c : Dev nD) (t : Fin cfg0.N) : (outsAt0 m c t.val t.isLt).2.2.1 = ROWK (k0_pay7 (iblk m c 0 t) (iblk m c 4 t) (pv m c t)) (X0_2 m c t) := by
  unfold pv
  by_cases h : t.val % 8 = 0
  · rw [if_pos h, outsAt0_A m c t h]; frame_out; rfl
  · rw [if_neg h, outsAt0_B m c t h]; frame_out; rw [(Memref.isWhole_whole _).read_unread _]; rfl

/-- A point starts from the sum of its sequence's rows before it. -/
theorem pv_cum (hp : Cert.Pre_FoxPrepIdeal_finite (hPre_finite := Cert.Pre_finite.Gen.facts) m) (c : Dev nD) (h : Fin 4) :
    ∀ (n : ℕ) (hn : n < cfg0.N), pv m c ⟨n, hn⟩ (ix2 (0 : Fin 1) (⟨h.val, by omega⟩ : Fin 128)) = cum m c h (n / 8) (n % 8 * 512) := by
  intro n
  induction n with
  | zero =>
    intro hn
    unfold pv
    rw [if_pos (by rfl)]
    pointwise [k0_pay5]
    rfl
  | succ n ih =>
    intro hn
    have hN : n + 1 < 32 := hn
    unfold pv
    by_cases h8 : (n + 1) % 8 = 0
    · rw [if_pos h8, h8]
      pointwise [k0_pay5]
      simp [cum]
    · rw [if_neg h8]
      have e := congrFun (carry m c ⟨n, by omega⟩) (ix2 (0 : Fin 1) (⟨h.val, by omega⟩ : Fin 128))
      refine Eq.trans e ?_
      have e7 := pay7_cum m hp c ⟨n, by omega⟩ _ (511 : Fin 512) h (ih (by omega))
      have e8 : k0_pay8 (iblk m c 0 ⟨n, by omega⟩) (iblk m c 4 ⟨n, by omega⟩) (pv m c ⟨n, by omega⟩) (ix2 (0 : Fin 1) (⟨h.val, by omega⟩ : Fin 128))
          = k0_pay7 (iblk m c 0 ⟨n, by omega⟩) (iblk m c 4 ⟨n, by omega⟩) (pv m c ⟨n, by omega⟩) (ix2 (511 : Fin 512) (⟨h.val, by omega⟩ : Fin 128)) := by
        unfold k0_pay8
        generalize k0_pay7 (iblk m c 0 ⟨n, by omega⟩) (iblk m c 4 ⟨n, by omega⟩) (pv m c ⟨n, by omega⟩) = G
        pointwise
      refine (e8.trans e7).trans ?_
      show cum m c h (n / 8) (n % 8 * 512 + 511 + 1) = _
      congr 1 <;> omega

/-- A point's running sums are the reference's, before the change of base. -/
theorem run_cum (hp : Cert.Pre_FoxPrepIdeal_finite (hPre_finite := Cert.Pre_finite.Gen.facts) m) (c : Dev nD) (t : Fin cfg0.N) (p : Fin 512) (h : Fin 4) :
    k0_pay7 (iblk m c 0 t) (iblk m c 4 t) (pv m c t) (ix2 p (⟨h.val, by omega⟩ : Fin 128)) = cum m c h (t.val / 8) (t.val % 8 * 512 + p.val + 1) :=
  pay7_cum m hp c t _ p h (pv_cum m hp c h t.val t.isLt)

/-- The reference's running sum, as the sum of a sequence's first logarithms. -/
theorem ref_cum (c : Dev nD) (s : Fin 4) (q : Fin 4096) (h : Fin 4) :
    CB (P m c) (Bi m c) (ix3 s q h) = cum m c h s.val (q.val + 1) * Ideal.ofBits .f32 0x3FB8AA3B#32 := by
  rw [Cert.FoxPrepRefIdeal.Value.CB_at]
  unfold cum
  rw [← sum_le 4096 q.val q.isLt (fun x => gN m c h (s.val * 4096 + x))]
  refine congrArg (fun z : EReal => z * Ideal.ofBits .f32 0x3FB8AA3B#32) (Finset.sum_congr (M := EReal) rfl fun x _ => ?_)
  have hg : gN m c h (s.val * 4096 + x.val) = lf (gate (P m c) (Bi m c) (⟨s.val * 4096 + x.val, by omega⟩ : Fin 16384) (⟨h.val, by omega⟩ : Fin 128)) := dif_pos (by omega)
  rw [hg]

/-- The queries' array after the run is the reference's. -/
theorem arr6 (hp : Cert.Pre_FoxPrepIdeal_finite (hPre_finite := Cert.Pre_finite.Gen.facts) m) (c : Dev nD) : (dats m 0 c).arrAt 6 (cfgs 0).N = QA (P m c) (Bi m c) := by
  refine (dats m 0 c).arrAt_eq_of_covers 6 _ (by decide +kernel) fun t _ y => ?_
  blk_simp
  rw [after0_6]
  obtain ⟨p, j, rfl⟩ : ∃ (p : Fin 512) (j : Fin 512), y = ix2 p j := ⟨y 0, y 1, eq_ix2 y⟩
  obtain ⟨h, d, rfl⟩ : ∃ (h : Fin 4) (d : Fin 128), j = (⟨h.val * 128 + d.val, by omega⟩ : Fin 512) :=
    ⟨⟨j.val / 128, by omega⟩, ⟨j.val % 128, by omega⟩, Fin.ext (by show j.val = j.val / 128 * 128 + j.val % 128; omega)⟩
  have hN : t.val < 32 := t.isLt
  have ho := idxO t
  have hr : ((cfg0.win 6).blk t).view.emb (ix2 p (⟨h.val * 128 + d.val, by omega⟩ : Fin 512) : S512x512.Idx)
      = (ix2 (⟨t.val * 512 + p.val, by omega⟩ : Fin 16384) (⟨h.val * 128 + d.val, by omega⟩ : Fin 512) : S16384x512.Idx) := by
    blk_ext [ho]
  refine Eq.trans ?_ (congrArg (QA _ _) hr.symm)
  have hc := run_cum m hp c t p h
  obtain ⟨r, hreal⟩ := cum_real m hp c h (t.val / 8) (t.val % 8 * 512 + p.val + 1)
  rw [Cert.FoxPrepRefIdeal.Value.QA_at, out6, rowq_at _ _ p h d r (hc.trans hreal), in1, hc, ref_cum]
  have e1 : (t.val * 512 + p.val) / 4096 = t.val / 8 := by omega
  have e2 : (t.val * 512 + p.val) % 4096 = t.val % 8 * 512 + p.val := by omega
  simp only [e1, e2]

/-- The keys' array after the run is the reference's. -/
theorem arr7 (hp : Cert.Pre_FoxPrepIdeal_finite (hPre_finite := Cert.Pre_finite.Gen.facts) m) (c : Dev nD) : (dats m 0 c).arrAt 7 (cfgs 0).N = KA (P m c) (Bi m c) := by
  refine (dats m 0 c).arrAt_eq_of_covers 7 _ (by decide +kernel) fun t _ y => ?_
  blk_simp
  rw [after0_7]
  obtain ⟨p, j, rfl⟩ : ∃ (p : Fin 512) (j : Fin 512), y = ix2 p j := ⟨y 0, y 1, eq_ix2 y⟩
  obtain ⟨h, d, rfl⟩ : ∃ (h : Fin 4) (d : Fin 128), j = (⟨h.val * 128 + d.val, by omega⟩ : Fin 512) :=
    ⟨⟨j.val / 128, by omega⟩, ⟨j.val % 128, by omega⟩, Fin.ext (by show j.val = j.val / 128 * 128 + j.val % 128; omega)⟩
  have hN : t.val < 32 := t.isLt
  have ho := idxO t
  have hr : ((cfg0.win 7).blk t).view.emb (ix2 p (⟨h.val * 128 + d.val, by omega⟩ : Fin 512) : S512x512.Idx)
      = (ix2 (⟨t.val * 512 + p.val, by omega⟩ : Fin 16384) (⟨h.val * 128 + d.val, by omega⟩ : Fin 512) : S16384x512.Idx) := by
    blk_ext [ho]
  refine Eq.trans ?_ (congrArg (KA _ _) hr.symm)
  have hc := run_cum m hp c t p h
  obtain ⟨r, hreal⟩ := cum_real m hp c h (t.val / 8) (t.val % 8 * 512 + p.val + 1)
  rw [Cert.FoxPrepRefIdeal.Value.KA_at, out7, rowk_at _ _ p h d r (hc.trans hreal), in2, hc, ref_cum]
  have e1 : (t.val * 512 + p.val) / 4096 = t.val / 8 := by omega
  have e2 : (t.val * 512 + p.val) % 4096 = t.val % 8 * 512 + p.val := by omega
  simp only [e1, e2]

end Cert.FoxPrepIdeal.Value

end
-- ==== Proof.LogfCum.lean ====
/-
The value of the sample batch's gates: the logarithm of the logistic function of every gate and
its running sums down the rows.
-/
module

public import proofs.«01_k».proof.Proof.FoxRef
public import proofs.«01_k».proof.Proof.Gen.LogfCumIdeal.Value
public import proofs.«01_k».proof.Proof.Gen.LogfCumRefIdeal.Run
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.LogfCumRefIdeal.Value

open Cert.LogfCumRefIdeal Cert.LogfCumRefIdeal.Gen
open Cert.FoxPrepRefIdeal.Value (lf lf_eq log1p_exp_real neg_mag)

/-- The gate columns plus the bias row. -/
def XX (P : FVec Ideal S128x2944 .f32) (b : FVec Ideal S1x128 .f32) : FVec Ideal S128x128 .f32 :=
  addf (extractStridedSlice S128x128 ![0, 2816] P slices_S128x2944_S128x128_0_2816) (broadcastInDim S128x128 ![0, 1] bcast_S1x128_S128x128_0_1 b)

/-- The logarithm of the logistic function of `XX`, as the reference composes it. -/
def LF (P : FVec Ideal S128x2944 .f32) (b : FVec Ideal S1x128 .f32) : FVec Ideal S128x128 .f32 :=
  Host.negf (select (cmpf .une (subf (Host.negf (XX P b)) (broadcastInDim S128x128 ![] bcast_S_S128x128 (constant S_ .f32 0x00000000#32 : FVec Ideal S_ .f32))) (subf (Host.negf (XX P b)) (broadcastInDim S128x128 ![] bcast_S_S128x128 (constant S_ .f32 0x00000000#32 : FVec Ideal S_ .f32)))) (addf (Host.negf (XX P b)) (broadcastInDim S128x128 ![] bcast_S_S128x128 (constant S_ .f32 0x00000000#32 : FVec Ideal S_ .f32))) (addf (maximumf (Host.negf (XX P b)) (broadcastInDim S128x128 ![] bcast_S_S128x128 (constant S_ .f32 0x00000000#32 : FVec Ideal S_ .f32))) (Host.log1p (Host.exp (Host.negf (Host.absf (subf (Host.negf (XX P b)) (broadcastInDim S128x128 ![] bcast_S_S128x128 (constant S_ .f32 0x00000000#32 : FVec Ideal S_ .f32)))))))))

/-- The running sums of `LF`, as the reference composes them. -/
def CUM (P : FVec Ideal S128x2944 .f32) (b : FVec Ideal S1x128 .f32) : FVec Ideal S128x128 .f32 :=
  Host.dotGeneral dot_S128x128_S128x128_S128x128_1_0_0_1_n_n none (select (cmpi .sle (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0)))) (broadcastInDim S128x128 ![] bcast_S_S128x128 (constant S_ .f32 0x3F800000#32 : FVec Ideal S_ .f32)) (broadcastInDim S128x128 ![] bcast_S_S128x128 (constant S_ .f32 0x00000000#32 : FVec Ideal S_ .f32))) (LF P b)

/-- One gate plus its bias. -/
def gate (P : FVec Ideal S128x2944 .f32) (b : FVec Ideal S1x128 .f32) (r : Fin 128) (h : Fin 128) : EReal :=
  P (ix2 r (⟨2816 + h.val, by omega⟩ : Fin 2944)) + b (ix2 (0 : Fin 1) h)

/-- The logarithm of the logistic function read at an index. -/
theorem LF_at (P : FVec Ideal S128x2944 .f32) (b : FVec Ideal S1x128 .f32) (r : Fin 128) (h : Fin 128) : LF P b (ix2 r h) = lf (gate P b r h) := by
  unfold LF
  pointwise [XX]
  rw [if_neg (by simp)]
  exact lf_eq _

/-- The running sums read at an index. -/
theorem CUM_at (P : FVec Ideal S128x2944 .f32) (b : FVec Ideal S1x128 .f32) (t : Fin 128) (h : Fin 128) : CUM P b (ix2 t h)
    = ∑ x : Fin 128, if x.val ≤ t.val then lf (gate P b x h) else 0 := by
  unfold CUM
  pointwise
  refine Finset.sum_congr rfl fun x _ => ?_
  rw [WordCmp.cmpi_sle_ofNat (by have := x.isLt; omega) (by have := t.isLt; omega), LF_at]
  by_cases hx : x.val ≤ t.val <;> simp [hx, Scalar.select]

/-- The logarithm of the logistic function is real or minus infinity. -/
theorem lf_cases (x : EReal) : lf x = ⊥ ∨ ∃ r : ℝ, lf x = ((r : ℝ) : EReal) := by
  obtain ⟨r, hr⟩ := log1p_exp_real _ (neg_mag x)
  unfold lf
  rw [hr]
  have h : min x 0 ≤ 0 := min_le_right _ _
  generalize min x 0 = y at h
  induction y with
  | bot => exact Or.inl (by simp)
  | top => simp at h
  | coe q => exact Or.inr ⟨q - r, by rw [EReal.coe_sub]⟩

/-- A number that is real or minus infinity, plus what it loses to itself twice over, is itself. -/
theorem parts (g : EReal) (hg : g = ⊥ ∨ ∃ r : ℝ, g = ((r : ℝ) : EReal)) : g + (g - g) + ((g - g) - (g - g)) = g := by
  rcases hg with rfl | ⟨r, rfl⟩
  · simp
  · rw [← EReal.coe_sub, ← EReal.coe_sub, ← EReal.coe_add, ← EReal.coe_add]
    congr 1
    ring

end Cert.LogfCumRefIdeal.Value

namespace Cert.LogfCumIdeal.Value

open Cert.LogfCumIdeal Cert.LogfCumIdeal.Gen
open Idealize.ShloMosaic.Pipeline (Dat)
open Cert.LogfCumRefIdeal.Value (LF CUM gate LF_at CUM_at lf_cases parts)
open Cert.FoxPrepRefIdeal.Value (lf)

variable (m : (ℓ : Loc nD τ sig) → Buf (Elt Ideal) ℓ)

/-- The projected rows. -/
abbrev P (c : Dev nD) : FVec Ideal S128x2944 .f32 := m ((c : Thread nD τ).loc main_arg0)
/-- The bias row. -/
abbrev Bi (c : Dev nD) : FVec Ideal S1x128 .f32 := m ((c : Thread nD τ).loc main_arg1)

/-- Every window's block index at the one grid point. -/
theorem idx : ∀ t : Fin cfg0.N, (win0_0.index t 0 = 0 ∧ win0_0.index t 1 = 22) ∧ (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, _)

/-- The gates' block is the last 128 columns of the projected rows. -/
theorem in0 (c : Dev nD) (t : Fin cfg0.N) (p : Fin 128) (h : Fin 128) :
    iblk m c 0 t (ix2 p h : S128x128.Idx) = P m c (ix2 p (⟨2816 + h.val, by omega⟩ : Fin 2944)) := by
  have hi := idx t
  blk_ext [iblk, V, hi]

/-- The bias block is the bias row. -/
theorem in1 (c : Dev nD) (t : Fin cfg0.N) (h : Fin 128) :
    iblk m c 1 t (ix2 (0 : Fin 1) h : S1x128.Idx) = Bi m c (ix2 (0 : Fin 1) h) := by
  have hi := idx t
  blk_ext [iblk, V, hi]

/-- What the point leaves in the block of the logarithms. -/
theorem out2 (c : Dev nD) (t : Fin cfg0.N) : (outsAt0 m c t).1 = k0_pay3 (iblk m c 0 t) (iblk m c 1 t) := by
  unfold outsAt0
  frame_out

/-- What the point leaves in the block of the running sums. -/
theorem out3 (c : Dev nD) (t : Fin cfg0.N) : (outsAt0 m c t).2 = k0_pay4 (iblk m c 0 t) (iblk m c 1 t) (k0_pay2 : FVec Ideal S1x128 .f32) := by
  unfold outsAt0
  frame_out

/-- The logarithms' payload read at an index. -/
theorem pay3_at (c : Dev nD) (t : Fin cfg0.N) (p : Fin 128) (h : Fin 128) :
    k0_pay3 (iblk m c 0 t) (iblk m c 1 t) (ix2 p h) = lf (gate (P m c) (Bi m c) p h) := by
  have e0 := in0 m c t p h
  have e1 := in1 m c t h
  unfold gate
  rw [← e0, ← e1]
  generalize iblk m c 0 t = b0
  generalize iblk m c 1 t = b1
  pointwise [k0_pay3]
  rfl

/-- The running sums' payload over the logarithms it reads. -/
theorem pay4_at (v3 : Vec Ideal S128x128 .f32) (v4 : Vec Ideal S1x128 .f32) (p : Fin 128) (h : Fin 128) (g : Fin 128 → EReal)
    (hg : ∀ k : Fin 128, k0_pay3 v3 v4 (ix2 k h) = lf (g k)) :
    k0_pay4 v3 v4 (k0_pay2 : FVec Ideal S1x128 .f32) (ix2 p h) = ∑ x : Fin 128, if x.val ≤ p.val then lf (g x) else 0 := by
  unfold k0_pay4
  generalize k0_pay3 v3 v4 = G at hg ⊢
  pointwise [k0_pay2]
  simp only [hg]
  rw [← Finset.sum_add_distrib, ← Finset.sum_add_distrib]
  refine Finset.sum_congr (M := EReal) rfl fun x _ => ?_
  rw [WordCmp.cmpi_sle_ofNat (by omega) (by omega)]
  by_cases hx : x.val ≤ p.val
  · rw [if_pos hx, decide_eq_true hx]
    exact parts _ (lf_cases _)
  · rw [if_neg hx, decide_eq_false hx]
    simp [Scalar.select]

/-- The logarithms' array after the run is the reference's. -/
theorem arr2 (c : Dev nD) : (dats m 0 c).arrAt 2 (cfgs 0).N = LF (P m c) (Bi m c) := by
  refine (dats m 0 c).arrAt_eq_of_covers 2 _ (by decide +kernel) fun t _ y => ?_
  blk_simp
  rw [after0_2]
  obtain ⟨p, j, rfl⟩ : ∃ (p : Fin 128) (j : Fin 128), y = ix2 p j := ⟨y 0, y 1, eq_ix2 y⟩
  have hi := idx t
  have hr : ((cfg0.win 2).blk t).view.emb (ix2 p j : S128x128.Idx) = (ix2 p j : S128x128.Idx) := by
    blk_ext [hi]
  refine Eq.trans ?_ (congrArg (LF _ _) hr.symm)
  rw [LF_at, out2]
  exact pay3_at m c t p j

/-- The running sums' array after the run is the reference's. -/
theorem arr3 (c : Dev nD) : (dats m 0 c).arrAt 3 (cfgs 0).N = CUM (P m c) (Bi m c) := by
  refine (dats m 0 c).arrAt_eq_of_covers 3 _ (by decide +kernel) fun t _ y => ?_
  blk_simp
  rw [after0_3]
  obtain ⟨p, j, rfl⟩ : ∃ (p : Fin 128) (j : Fin 128), y = ix2 p j := ⟨y 0, y 1, eq_ix2 y⟩
  have hi := idx t
  have hr : ((cfg0.win 3).blk t).view.emb (ix2 p j : S128x128.Idx) = (ix2 p j : S128x128.Idx) := by
    blk_ext [hi]
  refine Eq.trans ?_ (congrArg (CUM _ _) hr.symm)
  rw [CUM_at, out3]
  exact pay4_at _ _ p j (fun k => gate (P m c) (Bi m c) k j) fun k => pay3_at m c t k j

end Cert.LogfCumIdeal.Value

end
-- ==== Proof.InProjS.lean ====
/-
The value of the input projection over the sample batch's 128 rows: every entry of the kernel's result array is the
reference's normalised row times the matching column of the weights.
-/
module

public import proofs.«01_k».proof.Proof.InProj
public import proofs.«01_k».proof.Proof.Gen.InProjSIdeal.Frame
public import proofs.«01_k».proof.Proof.Gen.InProjSIdeal.Points
public import proofs.«01_k».proof.Proof.Gen.InProjSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InProjSRefIdeal.Value

open Cert.InProjSRefIdeal Cert.InProjSRefIdeal.Gen

/-- The reference's normalised rows times the whole weight matrix. -/
def DOT (X : FVec Ideal S128x1024 .f32) (g : FVec Ideal S1024 .f32) (W : FVec Ideal S1024x2824 .f32) : FVec Ideal S128x2824 .f32 :=
  (Host.dotGeneral dot_S128x1024_S1024x2824_S128x2824_1_0_0_1_n_n none (mulf (mulf X (broadcastInDim S128x1024 ![0, 1] bcast_S128x1_S128x1024_0_1 (Host.rsqrt (addf (Host.divf (broadcastInDim S128x1 ![0] bcast_S128_S128x1_0 (Host.reduceAdd (mulf X X) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x3727C5AC#32)))))) (broadcastInDim S128x1024 ![0, 1] bcast_S1x1024_S128x1024_0_1 (broadcastInDim S1x1024 ![1] bcast_S1024_S1x1024_1 g))) W)

/-- The reference's result: the columns of `DOT` in the kernel's order, then 120 columns of zeros. -/
def REF (X : FVec Ideal S128x1024 .f32) (g : FVec Ideal S1024 .f32) (W : FVec Ideal S1024x2824 .f32) : FVec Ideal S128x2944 .f32 :=
    (concatenate S128x2944 1 [⟨S128x1024, ((extractStridedSlice S128x1024 ![0, 0] (DOT X g W) slices_S128x2824_S128x1024_0_0) : FVec Ideal S128x1024 .f32)⟩, ⟨S128x1024, ((extractStridedSlice S128x1024 ![0, 1028] (DOT X g W) slices_S128x2824_S128x1024_0_1028) : FVec Ideal S128x1024 .f32)⟩, ⟨S128x768, ((extractStridedSlice S128x768 ![0, 2056] (DOT X g W) slices_S128x2824_S128x768_0_2056) : FVec Ideal S128x768 .f32)⟩, ⟨S128x4, ((extractStridedSlice S128x4 ![0, 1024] (DOT X g W) slices_S128x2824_S128x4_0_1024) : FVec Ideal S128x4 .f32)⟩, ⟨S128x4, ((extractStridedSlice S128x4 ![0, 2052] (DOT X g W) slices_S128x2824_S128x4_0_2052) : FVec Ideal S128x4 .f32)⟩, ⟨S128x120, ((broadcastInDim S128x120 ![] bcast_S_S128x120 (constant S_ .f32 0x00000000#32)) : FVec Ideal S128x120 .f32)⟩] concatenates_S128x1024_S128x1024_S128x768_S128x4_S128x4_S128x120_S128x2944_d1 : FVec Ideal S128x2944 .f32)

/-- The second result named by the reference's run is the key columns of `REF`. -/
theorem resK_eq (m : (ℓ : Loc nD τ sig) → Buf (Elt Ideal) ℓ) (c : Dev nD) :
    res_main_v21 (F := Ideal) m c = extractStridedSlice S128x256 ![0, 512] (REF (m ((c.tc : Thread nD τ).loc main_arg0)) (m ((c.tc : Thread nD τ).loc main_arg1)) (m ((c.tc : Thread nD τ).loc main_arg2))) slices_S128x2944_S128x256_0_512 := rfl

/-- The third result named by the reference's run is the value columns of `REF`. -/
theorem resV_eq (m : (ℓ : Loc nD τ sig) → Buf (Elt Ideal) ℓ) (c : Dev nD) :
    res_main_v22 (F := Ideal) m c = extractStridedSlice S128x256 ![0, 768] (REF (m ((c.tc : Thread nD τ).loc main_arg0)) (m ((c.tc : Thread nD τ).loc main_arg1)) (m ((c.tc : Thread nD τ).loc main_arg2))) slices_S128x2944_S128x256_0_768 := rfl

/-- The result named by the reference's run is `REF` of the arguments. -/
theorem res_eq (m : (ℓ : Loc nD τ sig) → Buf (Elt Ideal) ℓ) (c : Dev nD) :
    res_main_v20 (F := Ideal) m c = REF (m ((c.tc : Thread nD τ).loc main_arg0)) (m ((c.tc : Thread nD τ).loc main_arg1)) (m ((c.tc : Thread nD τ).loc main_arg2)) := rfl

end Cert.InProjSRefIdeal.Value

namespace Cert.InProjSIdeal.Value

open Cert.InProjSIdeal Cert.InProjSIdeal.Gen
open Idealize.ShloMosaic.Pipeline (Dat)
open Cert.InProjSRefIdeal.Value (DOT REF)
open Cert.InProjIdeal.Value (sel sum_sel)

variable (m : (ℓ : Loc nD τ sig) → Buf (Elt Ideal) ℓ)

/-- Every window's block index at a grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The weights in the kernel's order of the columns, as the host composes them. -/
def WT (W : FVec Ideal S1024x2824 .f32) : FVec Ideal S1024x2944 .bf16 :=
  truncf .bf16 (concatenate S1024x2944 1 [⟨S1024x1024, (extractStridedSlice S1024x1024 ![0, 0] W slices_S1024x2824_S1024x1024_0_0 : FVec Ideal S1024x1024 .f32)⟩, ⟨S1024x1024, (extractStridedSlice S1024x1024 ![0, 1028] W slices_S1024x2824_S1024x1024_0_1028 : FVec Ideal S1024x1024 .f32)⟩, ⟨S1024x768, (extractStridedSlice S1024x768 ![0, 2056] W slices_S1024x2824_S1024x768_0_2056 : FVec Ideal S1024x768 .f32)⟩, ⟨S1024x4, (extractStridedSlice S1024x4 ![0, 1024] W slices_S1024x2824_S1024x4_0_1024 : FVec Ideal S1024x4 .f32)⟩, ⟨S1024x4, (extractStridedSlice S1024x4 ![0, 2052] W slices_S1024x2824_S1024x4_0_2052 : FVec Ideal S1024x4 .f32)⟩, ⟨S1024x120, (broadcastInDim S1024x120 ![] bcast_S_S1024x120 (constant S_ .f32 0x00000000#32 : FVec Ideal S_ .f32) : FVec Ideal S1024x120 .f32)⟩] concatenates_S1024x1024_S1024x1024_S1024x768_S1024x4_S1024x4_S1024x120_S1024x2944_d1 : FVec Ideal S1024x2944 .f32) bitsLt_bf16_f32

/-- `WT` read at an index. -/
theorem WT_at (W : FVec Ideal S1024x2824 .f32) (k : Fin 1024) (j : Fin 2944) : WT W (ix2 k j) = sel (fun col => W (ix2 k col)) j := by
  unfold WT sel
  pointwise

set_option maxHeartbeats 2000000 in
/-- The weights at the region's entry are the host's composition. -/
theorem entryW (c : Dev nD) :
    (V m c main_v8 : FVec Ideal S1024x2944 .bf16) = WT (m ((c : Thread nD τ).loc main_arg2)) := by
  unfold V V0
  simp only [List.flatten_cons, List.flatten_nil, List.append_nil]
  after_results <;> rfl

/-- The scale row at the region's entry is the argument as one row. -/
theorem entryG (c : Dev nD) (a : Fin 1) (k : Fin 1024) :
    (V m c main_v0 : FVec Ideal S1x1024 .f32) (ix2 a k) = (m ((c : Thread nD τ).loc main_arg1) : FVec Ideal S1024 .f32) (ix1 k) := by
  unfold V V0
  simp only [List.flatten_cons, List.flatten_nil, List.append_nil]
  entry_read
  pointwise

/-- The reference's result read at an index. -/
theorem ref_at (X : FVec Ideal S128x1024 .f32) (g : FVec Ideal S1024 .f32) (W : FVec Ideal S1024x2824 .f32) (r : Fin 128) (j : Fin 2944) :
    REF X g W (ix2 r j) = sel (fun col => DOT X g W (ix2 r col)) j := by
  unfold REF sel
  pointwise

/-- What grid point `t` stores at block index `y` is the reference's entry where `y` sits. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  obtain ⟨p, j, rfl⟩ : ∃ (p : Fin 128) (j : Fin 2944), y = ix2 p j := ⟨y 0, y 1, eq_ix2 y⟩
  have hN : t.val < 1 := t.isLt
  have hr : ((cfg0.win 3).blk t).view.emb (ix2 p j : S128x2944.Idx) = (ix2 (⟨t.val * 128 + p.val, by omega⟩ : Fin 128) j : S128x2944.Idx) := by
    blk_ext [idx t]
  have e0 : ∀ k, iblk m c 0 t (ix2 p k : S128x1024.Idx) = (m ((c : Thread nD τ).loc main_arg0) : FVec Ideal S128x1024 .f32) (ix2 (⟨t.val * 128 + p.val, by omega⟩ : Fin 128) k) := by
    intro k; blk_ext [iblk, V, idx t]
  have e1 : ∀ k, iblk m c 1 t (ix2 (0 : Fin 1) k : S1x1024.Idx) = (m ((c : Thread nD τ).loc main_arg1) : FVec Ideal S1024 .f32) (ix1 k) := by
    intro k; rw [← entryG m c 0 k]; blk_ext [iblk, idx t]
  have e2 : ∀ k, iblk m c 2 t (ix2 k j : S1024x2944.Idx) = sel (fun col => (m ((c : Thread nD τ).loc main_arg2) : FVec Ideal S1024x2824 .f32) (ix2 k col)) j := by
    intro k; rw [← WT_at, ← entryW m c]; blk_ext [iblk, idx t]
  refine Eq.trans ?_ (congrArg (REF _ _ _) hr.symm)
  refine Eq.trans ?_ (ref_at _ _ _ _ _).symm
  generalize iblk m c 0 t = b0 at *
  generalize iblk m c 1 t = b1 at *
  generalize iblk m c 2 t = b2 at *
  pointwise [k0_pay1, DOT]
  refine Eq.trans ?_ (sum_sel _ _ _)
  have ht : ∀ h, (⟨t.val * 128 + p.val, h⟩ : Fin 128) = p := fun h => Fin.ext (by show t.val * 128 + p.val = p.val; omega)
  simp only [e0, e1, e2, ht]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The key columns after the host operations that follow the region. -/
theorem tailK (c : Dev nD) : Pipeline.afterTail₀ cfgs (dats m) 0 (V0 m) [hostOps1] c main_v10
    = (extractStridedSlice S128x256 ![0, 512] ((dats m 0 c).arrAt 3 (cfgs 0).N : FVec Ideal S128x2944 .f32) slices_S128x2944_S128x256_0_512 : FVec Ideal S128x256 .f32) := by
  unfold Pipeline.afterTail₀
  have e := Pipeline.withArrays_arr spec0 (by decide) c (V0 m c) (fun w => (dats m 0 c).arrAt w (cfgs 0).N) 3
  rw [← e]
  after_results <;> rfl

/-- The value columns after the host operations that follow the region. -/
theorem tailV (c : Dev nD) : Pipeline.afterTail₀ cfgs (dats m) 0 (V0 m) [hostOps1] c main_v11
    = (extractStridedSlice S128x256 ![0, 768] ((dats m 0 c).arrAt 3 (cfgs 0).N : FVec Ideal S128x2944 .f32) slices_S128x2944_S128x256_0_768 : FVec Ideal S128x256 .f32) := by
  unfold Pipeline.afterTail₀
  have e := Pipeline.withArrays_arr spec0 (by decide) c (V0 m c) (fun w => (dats m 0 c).arrAt w (cfgs 0).N) 3
  rw [← e]
  after_results <;> rfl

/-- Every run of the idealized kernel ends with the reference's array, its key and value columns, and the arguments unchanged. -/
theorem run_ref (ρ : Dev nD → PrngReg) : θ_run defs (onTc (τ := τ) (main (F := Ideal))) ⟨m, fun _ => 0, ρ⟩ fun r => ∀ c : Dev nD,
      r.2.mem ((c : Thread nD τ).loc main_v9) = REF (m ((c : Thread nD τ).loc main_arg0)) (m ((c : Thread nD τ).loc main_arg1)) (m ((c : Thread nD τ).loc main_arg2))
      ∧ r.2.mem ((c : Thread nD τ).loc main_v10) = extractStridedSlice S128x256 ![0, 512] (REF (m ((c : Thread nD τ).loc main_arg0)) (m ((c : Thread nD τ).loc main_arg1)) (m ((c : Thread nD τ).loc main_arg2))) slices_S128x2944_S128x256_0_512
      ∧ r.2.mem ((c : Thread nD τ).loc main_v11) = extractStridedSlice S128x256 ![0, 768] (REF (m ((c : Thread nD τ).loc main_arg0)) (m ((c : Thread nD τ).loc main_arg1)) (m ((c : Thread nD τ).loc main_arg2))) slices_S128x2944_S128x256_0_768
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (θ_run_and (run_main m ρ) (unchanged m ρ))
  refine ⟨((h.1 c).1 3).trans (final m c), ((h.1 c).2 main_v10 (by decide)).trans ?_, ((h.1 c).2 main_v11 (by decide)).trans ?_, h.2 c⟩
  · rw [tailK, final]
  · rw [tailV, final]

end Cert.InProjSIdeal.Value

end
-- ==== Proof.OutFfnS.lean ====
/-
The value of the output projection and the feed-forward block over the sample batch's 128 rows:
both of the kernel's result arrays are the reference's, row by row.
-/
module

public import proofs.«01_k».proof.Proof.OutFfn
public import proofs.«01_k».proof.Proof.Gen.OutFfnSIdeal.Value
public import proofs.«01_k».proof.Proof.Gen.OutFfnSRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutFfnSRefIdeal.Value

open Cert.OutFfnSRefIdeal Cert.OutFfnSRefIdeal.Gen

/-- The reference's residual rows after the output projection. -/
def X1R (X : FVec Ideal S128x1024 .f32) (ya yb yc yd : FVec Ideal S128x256 .f32) (wo : FVec Ideal S1024x1024 .f32) : FVec Ideal S128x1024 .f32 :=
  addf X (Host.dotGeneral dot_S128x1024_S1024x1024_S128x1024_1_0_0_1_n_n none ((concatenate S128x1024 1 [⟨S128x256, (ya : FVec Ideal S128x256 .f32)⟩, ⟨S128x256, (yb : FVec Ideal S128x256 .f32)⟩, ⟨S128x256, (yc : FVec Ideal S128x256 .f32)⟩, ⟨S128x256, (yd : FVec Ideal S128x256 .f32)⟩] concatenates_S128x256_S128x256_S128x256_S128x256_S128x1024_d1 : FVec Ideal S128x1024 .f32)) wo)

/-- Their normalised rows. -/
def HNR (X : FVec Ideal S128x1024 .f32) (ya yb yc yd : FVec Ideal S128x256 .f32) (wo : FVec Ideal S1024x1024 .f32) (g : FVec Ideal S1024 .f32) : FVec Ideal S128x1024 .f32 :=
  mulf (mulf (X1R X ya yb yc yd wo) (broadcastInDim S128x1024 ![0, 1] bcast_S128x1_S128x1024_0_1 (Host.rsqrt (addf (Host.divf (broadcastInDim S128x1 ![0] bcast_S128_S128x1_0 (Host.reduceAdd (mulf (X1R X ya yb yc yd wo) (X1R X ya yb yc yd wo)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x3727C5AC#32)))))) (broadcastInDim S128x1024 ![0, 1] bcast_S1x1024_S128x1024_0_1 (broadcastInDim S1x1024 ![1] bcast_S1024_S1x1024_1 g))

/-- The reference's first result. -/
def ACCR (X : FVec Ideal S128x1024 .f32) (ya yb yc yd : FVec Ideal S128x256 .f32) (wo : FVec Ideal S1024x1024 .f32) (g : FVec Ideal S1024 .f32) (wu : FVec Ideal S1024x4096 .f32) (wd : FVec Ideal S4096x1024 .f32) : FVec Ideal S128x1024 .f32 :=
  addf (X1R X ya yb yc yd wo) (Host.dotGeneral dot_S128x4096_S4096x1024_S128x1024_1_0_0_1_n_n none (mulf (maximumf (Host.dotGeneral dot_S128x1024_S1024x4096_S128x4096_1_0_0_1_n_n none (HNR X ya yb yc yd wo g) wu) (broadcastInDim S128x4096 ![] bcast_S_S128x4096 (constant S_ .f32 0x00000000#32))) (maximumf (Host.dotGeneral dot_S128x1024_S1024x4096_S128x4096_1_0_0_1_n_n none (HNR X ya yb yc yd wo g) wu) (broadcastInDim S128x4096 ![] bcast_S_S128x4096 (constant S_ .f32 0x00000000#32)))) wd)

/-- The reference's second result. -/
def FINR (X : FVec Ideal S128x1024 .f32) (ya yb yc yd : FVec Ideal S128x256 .f32) (wo : FVec Ideal S1024x1024 .f32) (g : FVec Ideal S1024 .f32) (wu : FVec Ideal S1024x4096 .f32) (wd : FVec Ideal S4096x1024 .f32) (gf : FVec Ideal S1024 .f32) : FVec Ideal S128x1024 .f32 :=
  mulf (mulf (ACCR X ya yb yc yd wo g wu wd) (broadcastInDim S128x1024 ![0, 1] bcast_S128x1_S128x1024_0_1 (Host.rsqrt (addf (Host.divf (broadcastInDim S128x1 ![0] bcast_S128_S128x1_0 (Host.reduceAdd (mulf (ACCR X ya yb yc yd wo g wu wd) (ACCR X ya yb yc yd wo g wu wd)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x3727C5AC#32)))))) (broadcastInDim S128x1024 ![0, 1] bcast_S1x1024_S128x1024_0_1 (broadcastInDim S1x1024 ![1] bcast_S1024_S1x1024_1 gf))

/-- The first result named by the reference's run. -/
theorem res0_eq (m : (ℓ : Loc nD τ sig) → Buf (Elt Ideal) ℓ) (c : Dev nD) : res_main_v20 (F := Ideal) m c = ACCR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-- The second result named by the reference's run. -/
theorem res1_eq (m : (ℓ : Loc nD τ sig) → Buf (Elt Ideal) ℓ) (c : Dev nD) : res_main_v33 (F := Ideal) m c = FINR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

/-- `X1R` read at an index. -/
theorem X1R_at (X : FVec Ideal S128x1024 .f32) (ya yb yc yd : FVec Ideal S128x256 .f32) (wo : FVec Ideal S1024x1024 .f32) (r : Fin 128) (j : Fin 1024) : X1R X ya yb yc yd wo (ix2 r j) = Cert.OutFfnRow.x1 (fun k => X (ix2 r k)) (fun k => ya (ix2 r k)) (fun k => yb (ix2 r k)) (fun k => yc (ix2 r k)) (fun k => yd (ix2 r k)) (fun k j => wo (ix2 k j)) j := by
  unfold X1R Cert.OutFfnRow.x1
  pointwise
  rw [Cert.OutFfnRow.sum_pieces]
  simp only [add_assoc]
  refine congrArg₂ (· + ·) rfl (congrArg₂ (· + ·) ?_ (congrArg₂ (· + ·) ?_ (congrArg₂ (· + ·) ?_ ?_)))
  · refine Finset.sum_congr rfl fun k _ => ?_
    rw [dif_pos (show k.val < 256 by omega)]
  · refine Finset.sum_congr rfl fun k _ => ?_
    rw [dif_neg (show ¬ (256 + k.val < 256) by omega), dif_pos (show 256 + k.val - 256 < 256 by omega)]
    exact congrArg (fun q : Fin 256 => yb (ix2 r q) * wo (ix2 (⟨256 + k.val, by omega⟩ : Fin 1024) j)) (Fin.ext (by simp))
  · refine Finset.sum_congr rfl fun k _ => ?_
    rw [dif_neg (show ¬ (512 + k.val < 256) by omega), dif_neg (show ¬ (512 + k.val - 256 < 256) by omega), dif_pos (show 512 + k.val - 256 - 256 < 256 by omega)]
    exact congrArg (fun q : Fin 256 => yc (ix2 r q) * wo (ix2 (⟨512 + k.val, by omega⟩ : Fin 1024) j)) (Fin.ext (by simp; omega))
  · refine Finset.sum_congr rfl fun k _ => ?_
    rw [dif_neg (show ¬ (768 + k.val < 256) by omega), dif_neg (show ¬ (768 + k.val - 256 < 256) by omega), dif_neg (show ¬ (768 + k.val - 256 - 256 < 256) by omega)]
    exact congrArg (fun q : Fin 256 => yd (ix2 r q) * wo (ix2 (⟨768 + k.val, by omega⟩ : Fin 1024) j)) (Fin.ext (by simp; omega))

/-- `HNR` read at an index. -/
theorem HNR_at (X : FVec Ideal S128x1024 .f32) (ya yb yc yd : FVec Ideal S128x256 .f32) (wo : FVec Ideal S1024x1024 .f32) (g : FVec Ideal S1024 .f32) (r : Fin 128) (j : Fin 1024) : HNR X ya yb yc yd wo g (ix2 r j)
    = Cert.OutFfnRow.nrm (Cert.OutFfnRow.x1 (fun k => X (ix2 r k)) (fun k => ya (ix2 r k)) (fun k => yb (ix2 r k)) (fun k => yc (ix2 r k)) (fun k => yd (ix2 r k)) (fun k j => wo (ix2 k j))) (fun k => g (ix1 k)) j := by
  unfold HNR Cert.OutFfnRow.nrm
  pointwise
  simp only [X1R_at]

/-- `ACCR` read at an index. -/
theorem ACCR_at (X : FVec Ideal S128x1024 .f32) (ya yb yc yd : FVec Ideal S128x256 .f32) (wo : FVec Ideal S1024x1024 .f32) (g : FVec Ideal S1024 .f32) (wu : FVec Ideal S1024x4096 .f32) (wd : FVec Ideal S4096x1024 .f32) (r : Fin 128) (j : Fin 1024) : ACCR X ya yb yc yd wo g wu wd (ix2 r j)
    = Cert.OutFfnRow.out (fun k => X (ix2 r k)) (fun k => ya (ix2 r k)) (fun k => yb (ix2 r k)) (fun k => yc (ix2 r k)) (fun k => yd (ix2 r k)) (fun k j => wo (ix2 k j)) (fun k => g (ix1 k)) (fun k f => wu (ix2 k f)) (fun f j => wd (ix2 f j)) j := by
  unfold ACCR Cert.OutFfnRow.out Cert.OutFfnRow.ff Cert.OutFfnRow.unit
  pointwise
  simp only [X1R_at, HNR_at]

/-- `FINR` read at an index. -/
theorem FINR_at (X : FVec Ideal S128x1024 .f32) (ya yb yc yd : FVec Ideal S128x256 .f32) (wo : FVec Ideal S1024x1024 .f32) (g : FVec Ideal S1024 .f32) (wu : FVec Ideal S1024x4096 .f32) (wd : FVec Ideal S4096x1024 .f32) (gf : FVec Ideal S1024 .f32) (r : Fin 128) (j : Fin 1024) : FINR X ya yb yc yd wo g wu wd gf (ix2 r j)
    = Cert.OutFfnRow.nrm (Cert.OutFfnRow.out (fun k => X (ix2 r k)) (fun k => ya (ix2 r k)) (fun k => yb (ix2 r k)) (fun k => yc (ix2 r k)) (fun k => yd (ix2 r k)) (fun k j => wo (ix2 k j)) (fun k => g (ix1 k)) (fun k f => wu (ix2 k f)) (fun f j => wd (ix2 f j))) (fun k => gf (ix1 k)) j := by
  unfold FINR Cert.OutFfnRow.nrm
  pointwise
  simp only [ACCR_at]

end Cert.OutFfnSRefIdeal.Value

namespace Cert.OutFfnSIdeal.Value

open Cert.OutFfnSIdeal Cert.OutFfnSIdeal.Gen
open Idealize.ShloMosaic.Pipeline (Dat)
open Cert.OutFfnSRefIdeal.Value (ACCR FINR ACCR_at FINR_at)

variable (m : (ℓ : Loc nD τ sig) → Buf (Elt Ideal) ℓ)

/-- Every window's block index at a grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

/-- The residual row the body computes. -/
theorem pay10_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : k0_pay10 x0 x1 x2 x3 x4 x5 x6 x7 x8 x9 (ix2 p j) = Cert.OutFfnRow.x1 (fun k => x0 (ix2 p k)) (fun k => x1 (ix2 p k)) (fun k => x2 (ix2 p k)) (fun k => x3 (ix2 p k)) (fun k => x4 (ix2 p k)) (fun k j => x5 (ix2 k j)) j := by
  unfold Cert.OutFfnRow.x1
  pointwise [k0_pay10, k0_pay3]

/-- Its normalised row. -/
theorem pay13_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : k0_pay13 x0 x1 x2 x3 x4 x5 x6 x7 x8 x9 (ix2 p j)
    = Cert.OutFfnRow.nrm (Cert.OutFfnRow.x1 (fun k => x0 (ix2 p k)) (fun k => x1 (ix2 p k)) (fun k => x2 (ix2 p k)) (fun k => x3 (ix2 p k)) (fun k => x4 (ix2 p k)) (fun k j => x5 (ix2 k j))) (fun k => x6 (ix2 0 k)) j := by
  have e : ∀ k, k0_pay3 (View.ld x0 r0_0) (View.ld x1 r0_1) (View.ld x5 r0_2) (View.ld x2 r0_1) (View.ld x5 r0_3) (View.ld x3 r0_1) (View.ld x5 r0_4) (View.ld x4 r0_1) (View.ld x5 r0_5) (ix2 p k) = Cert.OutFfnRow.x1 (fun k => x0 (ix2 p k)) (fun k => x1 (ix2 p k)) (fun k => x2 (ix2 p k)) (fun k => x3 (ix2 p k)) (fun k => x4 (ix2 p k)) (fun k j => x5 (ix2 k j)) k := pay10_at x0 x1 x2 x3 x4 x5 x6 x7 x8 x9 p
  unfold Cert.OutFfnRow.nrm
  pointwise [k0_pay13, k0_pay6, k0_pay10, k0_pay11, k0_pay4, k0_pay12, k0_pay5]
  simp only [e]

/-- The first quarter of the hidden units. -/
theorem pay14_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : k0_pay14 x0 x1 x2 x3 x4 x5 x6 x7 x8 x9 (ix2 p j)
    = Cert.OutFfnRow.part 0 (by omega) (fun k => k0_pay13 x0 x1 x2 x3 x4 x5 x6 x7 x8 x9 (ix2 p k)) (fun k f => x7 (ix2 k f)) (fun f j => x8 (ix2 f j)) j := by
  unfold Cert.OutFfnRow.part Cert.OutFfnRow.unit k0_pay14 k0_pay13
  generalize k0_pay10 x0 x1 x2 x3 x4 x5 x6 x7 x8 x9 = v24
  generalize k0_pay11 x0 x1 x2 x3 x4 x5 x6 x7 x8 x9 = v26
  generalize k0_pay12 x0 x1 x2 x3 x4 x5 x6 x7 x8 x9 = v31
  pointwise [k0_pay7]

/-- The second quarter of the hidden units. -/
theorem pay15_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : k0_pay15 x0 x1 x2 x3 x4 x5 x6 x7 x8 x9 (ix2 p j)
    = Cert.OutFfnRow.part 1024 (by omega) (fun k => k0_pay13 x0 x1 x2 x3 x4 x5 x6 x7 x8 x9 (ix2 p k)) (fun k f => x7 (ix2 k f)) (fun f j => x8 (ix2 f j)) j := by
  unfold Cert.OutFfnRow.part Cert.OutFfnRow.unit k0_pay15 k0_pay13
  generalize k0_pay10 x0 x1 x2 x3 x4 x5 x6 x7 x8 x9 = v24
  generalize k0_pay11 x0 x1 x2 x3 x4 x5 x6 x7 x8 x9 = v26
  generalize k0_pay12 x0 x1 x2 x3 x4 x5 x6 x7 x8 x9 = v31
  pointwise [k0_pay8]

/-- The third quarter of the hidden units. -/
theorem pay16_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : k0_pay16 x0 x1 x2 x3 x4 x5 x6 x7 x8 x9 (ix2 p j)
    = Cert.OutFfnRow.part 2048 (by omega) (fun k => k0_pay13 x0 x1 x2 x3 x4 x5 x6 x7 x8 x9 (ix2 p k)) (fun k f => x7 (ix2 k f)) (fun f j => x8 (ix2 f j)) j := by
  unfold Cert.OutFfnRow.part Cert.OutFfnRow.unit k0_pay16 k0_pay13
  generalize k0_pay10 x0 x1 x2 x3 x4 x5 x6 x7 x8 x9 = v24
  generalize k0_pay11 x0 x1 x2 x3 x4 x5 x6 x7 x8 x9 = v26
  generalize k0_pay12 x0 x1 x2 x3 x4 x5 x6 x7 x8 x9 = v31
  pointwise [k0_pay9]

/-- The payload of the first result's store, over the values it reads. -/
abbrev body10 (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) : FVec Ideal S128x1024 .f32 :=
  k0_pay1 (k0_pay10 x0 x1 x2 x3 x4 x5 x6 x7 x8 x9) (k0_pay13 x0 x1 x2 x3 x4 x5 x6 x7 x8 x9) (k0_pay14 x0 x1 x2 x3 x4 x5 x6 x7 x8 x9) (k0_pay15 x0 x1 x2 x3 x4 x5 x6 x7 x8 x9) (k0_pay16 x0 x1 x2 x3 x4 x5 x6 x7 x8 x9) (View.ld x7 r0_13) (View.ld x8 r0_14)

/-- The first result's row as the body computes it. -/
theorem body10_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : body10 x0 x1 x2 x3 x4 x5 x6 x7 x8 x9 (ix2 p j)
    = Cert.OutFfnRow.out (fun k => x0 (ix2 p k)) (fun k => x1 (ix2 p k)) (fun k => x2 (ix2 p k)) (fun k => x3 (ix2 p k)) (fun k => x4 (ix2 p k)) (fun k j => x5 (ix2 k j)) (fun k => x6 (ix2 0 k)) (fun k f => x7 (ix2 k f)) (fun f j => x8 (ix2 f j)) j := by
  have e : body10 x0 x1 x2 x3 x4 x5 x6 x7 x8 x9 (ix2 p j) = k0_pay10 x0 x1 x2 x3 x4 x5 x6 x7 x8 x9 (ix2 p j) + ((k0_pay14 x0 x1 x2 x3 x4 x5 x6 x7 x8 x9 (ix2 p j) + k0_pay15 x0 x1 x2 x3 x4 x5 x6 x7 x8 x9 (ix2 p j)) + (k0_pay16 x0 x1 x2 x3 x4 x5 x6 x7 x8 x9 (ix2 p j)
      + Cert.OutFfnRow.part 3072 (by omega) (fun k => k0_pay13 x0 x1 x2 x3 x4 x5 x6 x7 x8 x9 (ix2 p k)) (fun k f => x7 (ix2 k f)) (fun f j => x8 (ix2 f j)) j)) := by
    unfold Cert.OutFfnRow.part Cert.OutFfnRow.unit body10
    generalize k0_pay10 x0 x1 x2 x3 x4 x5 x6 x7 x8 x9 = v24
    generalize k0_pay13 x0 x1 x2 x3 x4 x5 x6 x7 x8 x9 = v39
    generalize k0_pay14 x0 x1 x2 x3 x4 x5 x6 x7 x8 x9 = v49
    generalize k0_pay15 x0 x1 x2 x3 x4 x5 x6 x7 x8 x9 = v59
    generalize k0_pay16 x0 x1 x2 x3 x4 x5 x6 x7 x8 x9 = v69
    pointwise [k0_pay1]
  rw [e, pay14_at, pay15_at, pay16_at]
  unfold Cert.OutFfnRow.out
  rw [Cert.OutFfnRow.ff_eq]
  simp only [pay13_at, pay10_at]

/-- The payload of the second result's store, over the values it reads. -/
abbrev body11 (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) : FVec Ideal S128x1024 .f32 :=
  k0_pay2 (k0_pay10 x0 x1 x2 x3 x4 x5 x6 x7 x8 x9) (k0_pay13 x0 x1 x2 x3 x4 x5 x6 x7 x8 x9) (k0_pay14 x0 x1 x2 x3 x4 x5 x6 x7 x8 x9) (k0_pay15 x0 x1 x2 x3 x4 x5 x6 x7 x8 x9) (k0_pay16 x0 x1 x2 x3 x4 x5 x6 x7 x8 x9) (View.ld x7 r0_13) (View.ld x8 r0_14) x9

/-- The second result's row as the body computes it. -/
theorem body11_at (x0 : Vec Ideal S128x1024 .f32) (x1 x2 x3 x4 : Vec Ideal S128x256 .f32) (x5 : Vec Ideal S1024x1024 .bf16) (x6 : Vec Ideal S1x1024 .f32) (x7 : Vec Ideal S1024x4096 .bf16) (x8 : Vec Ideal S4096x1024 .bf16) (x9 : Vec Ideal S1x1024 .f32) (p : Fin 128) (j : Fin 1024) : body11 x0 x1 x2 x3 x4 x5 x6 x7 x8 x9 (ix2 p j)
    = Cert.OutFfnRow.nrm (Cert.OutFfnRow.out (fun k => x0 (ix2 p k)) (fun k => x1 (ix2 p k)) (fun k => x2 (ix2 p k)) (fun k => x3 (ix2 p k)) (fun k => x4 (ix2 p k)) (fun k j => x5 (ix2 k j)) (fun k => x6 (ix2 0 k)) (fun k f => x7 (ix2 k f)) (fun f j => x8 (ix2 f j))) (fun k => x9 (ix2 0 k)) j := by
  have e : ∀ k, k0_pay1 (k0_pay10 x0 x1 x2 x3 x4 x5 x6 x7 x8 x9) (k0_pay13 x0 x1 x2 x3 x4 x5 x6 x7 x8 x9) (k0_pay14 x0 x1 x2 x3 x4 x5 x6 x7 x8 x9) (k0_pay15 x0 x1 x2 x3 x4 x5 x6 x7 x8 x9) (k0_pay16 x0 x1 x2 x3 x4 x5 x6 x7 x8 x9) (View.ld x7 r0_13) (View.ld x8 r0_14) (ix2 p k) = Cert.OutFfnRow.out (fun k => x0 (ix2 p k)) (fun k => x1 (ix2 p k)) (fun k => x2 (ix2 p k)) (fun k => x3 (ix2 p k)) (fun k => x4 (ix2 p k)) (fun k j => x5 (ix2 k j)) (fun k => x6 (ix2 0 k)) (fun k f => x7 (ix2 k f)) (fun f j => x8 (ix2 f j)) k := body10_at x0 x1 x2 x3 x4 x5 x6 x7 x8 x9 p
  unfold Cert.OutFfnRow.nrm body11
  pointwise [k0_pay2]
  simp only [e]

/-- Input window 0's block is a band of the argument's rows. -/
theorem row0 (c : Dev nD) (t : Fin cfg0.N) (p : Fin 128) (k : Fin 1024) : iblk m c 0 t (ix2 p k : S128x1024.Idx) = (m ((c : Thread nD τ).loc main_arg0) : FVec Ideal S128x1024 .f32) (ix2 (⟨t.val * 128 + p.val, by have : t.val < 1 := t.isLt; omega⟩ : Fin 128) k) := by
  blk_ext [iblk, V, idx t]

/-- Input window 1's block is a band of the argument's rows. -/
theorem row1 (c : Dev nD) (t : Fin cfg0.N) (p : Fin 128) (k : Fin 256) : iblk m c 1 t (ix2 p k : S128x256.Idx) = (m ((c : Thread nD τ).loc main_arg1) : FVec Ideal S128x256 .f32) (ix2 (⟨t.val * 128 + p.val, by have : t.val < 1 := t.isLt; omega⟩ : Fin 128) k) := by
  blk_ext [iblk, V, idx t]

/-- Input window 2's block is a band of the argument's rows. -/
theorem row2 (c : Dev nD) (t : Fin cfg0.N) (p : Fin 128) (k : Fin 256) : iblk m c 2 t (ix2 p k : S128x256.Idx) = (m ((c : Thread nD τ).loc main_arg2) : FVec Ideal S128x256 .f32) (ix2 (⟨t.val * 128 + p.val, by have : t.val < 1 := t.isLt; omega⟩ : Fin 128) k) := by
  blk_ext [iblk, V, idx t]

/-- Input window 3's block is a band of the argument's rows. -/
theorem row3 (c : Dev nD) (t : Fin cfg0.N) (p : Fin 128) (k : Fin 256) : iblk m c 3 t (ix2 p k : S128x256.Idx) = (m ((c : Thread nD τ).loc main_arg3) : FVec Ideal S128x256 .f32) (ix2 (⟨t.val * 128 + p.val, by have : t.val < 1 := t.isLt; omega⟩ : Fin 128) k) := by
  blk_ext [iblk, V, idx t]

/-- Input window 4's block is a band of the argument's rows. -/
theorem row4 (c : Dev nD) (t : Fin cfg0.N) (p : Fin 128) (k : Fin 256) : iblk m c 4 t (ix2 p k : S128x256.Idx) = (m ((c : Thread nD τ).loc main_arg4) : FVec Ideal S128x256 .f32) (ix2 (⟨t.val * 128 + p.val, by have : t.val < 1 := t.isLt; omega⟩ : Fin 128) k) := by
  blk_ext [iblk, V, idx t]

/-- The weights of input window 5 at the region's entry. -/
theorem ent5 (c : Dev nD) : (V m c main_v0 : FVec Ideal S1024x1024 .bf16) = (m ((c : Thread nD τ).loc main_arg5) : FVec Ideal S1024x1024 .f32) := by
  unfold V
  after_results <;> rfl

/-- Input window 5's block is the whole of the argument. -/
theorem row5 (c : Dev nD) (t : Fin cfg0.N) (k : Fin 1024) (j : Fin 1024) : iblk m c 5 t (ix2 k j : S1024x1024.Idx) = (m ((c : Thread nD τ).loc main_arg5) : FVec Ideal S1024x1024 .f32) (ix2 k j) := by
  rw [← ent5 m c]; blk_ext [iblk, idx t]

/-- The weights of input window 7 at the region's entry. -/
theorem ent7 (c : Dev nD) : (V m c main_v2 : FVec Ideal S1024x4096 .bf16) = (m ((c : Thread nD τ).loc main_arg7) : FVec Ideal S1024x4096 .f32) := by
  unfold V
  after_results <;> rfl

/-- Input window 7's block is the whole of the argument. -/
theorem row7 (c : Dev nD) (t : Fin cfg0.N) (k : Fin 1024) (j : Fin 4096) : iblk m c 7 t (ix2 k j : S1024x4096.Idx) = (m ((c : Thread nD τ).loc main_arg7) : FVec Ideal S1024x4096 .f32) (ix2 k j) := by
  rw [← ent7 m c]; blk_ext [iblk, idx t]

/-- The weights of input window 8 at the region's entry. -/
theorem ent8 (c : Dev nD) : (V m c main_v3 : FVec Ideal S4096x1024 .bf16) = (m ((c : Thread nD τ).loc main_arg8) : FVec Ideal S4096x1024 .f32) := by
  unfold V
  after_results <;> rfl

/-- Input window 8's block is the whole of the argument. -/
theorem row8 (c : Dev nD) (t : Fin cfg0.N) (k : Fin 4096) (j : Fin 1024) : iblk m c 8 t (ix2 k j : S4096x1024.Idx) = (m ((c : Thread nD τ).loc main_arg8) : FVec Ideal S4096x1024 .f32) (ix2 k j) := by
  rw [← ent8 m c]; blk_ext [iblk, idx t]

/-- The scale row of input window 6 at the region's entry. -/
theorem ent6 (c : Dev nD) (a : Fin 1) (k : Fin 1024) : (V m c main_v1 : FVec Ideal S1x1024 .f32) (ix2 a k) = (m ((c : Thread nD τ).loc main_arg6) : FVec Ideal S1024 .f32) (ix1 k) := by
  entry_read
  pointwise

/-- Input window 6's block is the argument as one row. -/
theorem row6 (c : Dev nD) (t : Fin cfg0.N) (k : Fin 1024) : iblk m c 6 t (ix2 (0 : Fin 1) k : S1x1024.Idx) = (m ((c : Thread nD τ).loc main_arg6) : FVec Ideal S1024 .f32) (ix1 k) := by
  rw [← ent6 m c 0 k]; blk_ext [iblk, idx t]

/-- The scale row of input window 9 at the region's entry. -/
theorem ent9 (c : Dev nD) (a : Fin 1) (k : Fin 1024) : (V m c main_v4 : FVec Ideal S1x1024 .f32) (ix2 a k) = (m ((c : Thread nD τ).loc main_arg9) : FVec Ideal S1024 .f32) (ix1 k) := by
  entry_read
  pointwise

/-- Input window 9's block is the argument as one row. -/
theorem row9 (c : Dev nD) (t : Fin cfg0.N) (k : Fin 1024) : iblk m c 9 t (ix2 (0 : Fin 1) k : S1x1024.Idx) = (m ((c : Thread nD τ).loc main_arg9) : FVec Ideal S1024 .f32) (ix1 k) := by
  rw [← ent9 m c 0 k]; blk_ext [iblk, idx t]

/-- What grid point `t` leaves for output window 10 at block index `y` is the reference's entry where `y` sits. -/
theorem point10 (c : Dev nD) (t : Fin cfg0.N) (y) : body10 (iblk m c 0 t) (iblk m c 1 t) (iblk m c 2 t) (iblk m c 3 t) (iblk m c 4 t) (iblk m c 5 t) (iblk m c 6 t) (iblk m c 7 t) (iblk m c 8 t) (iblk m c 9 t) y
    = ACCR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y) := by
  obtain ⟨p, j, rfl⟩ : ∃ (p : Fin 128) (j : Fin 1024), y = ix2 p j := ⟨y 0, y 1, eq_ix2 y⟩
  have hN : t.val < 1 := t.isLt
  have hr : ((cfg0.win 10).blk t).view.emb (ix2 p j : S128x1024.Idx) = (ix2 (⟨t.val * 128 + p.val, by omega⟩ : Fin 128) j : S128x1024.Idx) := by
    blk_ext [idx t]
  refine Eq.trans ?_ (congrArg (ACCR _ _ _ _ _ _ _ _ _) hr.symm)
  refine Eq.trans ?_ (ACCR_at _ _ _ _ _ _ _ _ _ _ _).symm
  refine Eq.trans (body10_at (iblk m c 0 t) (iblk m c 1 t) (iblk m c 2 t) (iblk m c 3 t) (iblk m c 4 t) (iblk m c 5 t) (iblk m c 6 t) (iblk m c 7 t) (iblk m c 8 t) (iblk m c 9 t) p j) ?_
  simp only [row0 m c t p, row1 m c t p, row2 m c t p, row3 m c t p, row4 m c t p, row5 m c t, row6 m c t, row7 m c t, row8 m c t, row9 m c t]

/-- What grid point `t` leaves for output window 11 at block index `y` is the reference's entry where `y` sits. -/
theorem point11 (c : Dev nD) (t : Fin cfg0.N) (y) : body11 (iblk m c 0 t) (iblk m c 1 t) (iblk m c 2 t) (iblk m c 3 t) (iblk m c 4 t) (iblk m c 5 t) (iblk m c 6 t) (iblk m c 7 t) (iblk m c 8 t) (iblk m c 9 t) y
    = FINR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb y) := by
  obtain ⟨p, j, rfl⟩ : ∃ (p : Fin 128) (j : Fin 1024), y = ix2 p j := ⟨y 0, y 1, eq_ix2 y⟩
  have hN : t.val < 1 := t.isLt
  have hr : ((cfg0.win 11).blk t).view.emb (ix2 p j : S128x1024.Idx) = (ix2 (⟨t.val * 128 + p.val, by omega⟩ : Fin 128) j : S128x1024.Idx) := by
    blk_ext [idx t]
  refine Eq.trans ?_ (congrArg (FINR _ _ _ _ _ _ _ _ _ _) hr.symm)
  refine Eq.trans ?_ (FINR_at _ _ _ _ _ _ _ _ _ _ _ _).symm
  refine Eq.trans (body11_at (iblk m c 0 t) (iblk m c 1 t) (iblk m c 2 t) (iblk m c 3 t) (iblk m c 4 t) (iblk m c 5 t) (iblk m c 6 t) (iblk m c 7 t) (iblk m c 8 t) (iblk m c 9 t) p j) ?_
  simp only [row0 m c t p, row1 m c t p, row2 m c t p, row3 m c t p, row4 m c t p, row5 m c t, row6 m c t, row7 m c t, row8 m c t, row9 m c t]

/-- Output window 10's array after the run is the reference's. -/
theorem final10 (c : Dev nD) : (dats m 0 c).arrAt 10 (cfgs 0).N = ACCR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t _ y => ?_
  blk_simp
  rw [after0_10]
  refine Eq.trans ?_ (point10 m c t y)
  unfold out0_10
  frame_out

/-- Output window 11's array after the run is the reference's. -/
theorem final11 (c : Dev nD) : (dats m 0 c).arrAt 11 (cfgs 0).N = FINR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11]
  refine Eq.trans ?_ (point11 m c t y)
  unfold out0_11
  frame_out

end Cert.OutFfnSIdeal.Value

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Flash
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Flash
public import proofs.«01_k».proof.Proof.Gen.AttnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.FoxPrep
public import proofs.«01_k».proof.Proof.Gen.FoxPrep.Skeleton
public import proofs.«01_k».proof.Proof.Gen.FoxPrep.Launch
public import proofs.«01_k».proof.Proof.Gen.FoxPrep.Points
public import proofs.«01_k».proof.Proof.Gen.FoxPrep.Frame
public import proofs.«01_k».proof.Proof.Gen.FoxPrepIdeal
public import proofs.«01_k».proof.Proof.Gen.FoxPrepIdeal.Skeleton
public import proofs.«01_k».proof.Proof.Gen.FoxPrepIdeal.Launch
public import proofs.«01_k».proof.Proof.Gen.FoxPrepIdeal.Points
public import proofs.«01_k».proof.Proof.Gen.FoxPrepIdeal.Frame
public import proofs.«01_k».proof.Proof.Gen.FoxPrepIdeal.Value
public import proofs.«01_k».proof.Proof.Gen.FoxPrepRefIdeal
public import proofs.«01_k».proof.Proof.Gen.FoxPrepRefIdeal.Run
public import proofs.«01_k».proof.Proof.Gen.Pre_finite
public import proofs.«01_k».proof.Proof.Gen.OutFfn
public import proofs.«01_k».proof.Proof.Gen.OutFfn.Skeleton
public import proofs.«01_k».proof.Proof.Gen.OutFfn.Launch
public import proofs.«01_k».proof.Proof.Gen.OutFfn.Points
public import proofs.«01_k».proof.Proof.Gen.OutFfn.Frame
public import proofs.«01_k».proof.Proof.Gen.OutFfnIdeal
public import proofs.«01_k».proof.Proof.Gen.OutFfnIdeal.Skeleton
public import proofs.«01_k».proof.Proof.Gen.OutFfnIdeal.Launch
public import proofs.«01_k».proof.Proof.Gen.OutFfnIdeal.Points
public import proofs.«01_k».proof.Proof.Gen.OutFfnIdeal.Frame
public import proofs.«01_k».proof.Proof.Gen.OutFfnRefIdeal
public import proofs.«01_k».proof.Proof.Gen.LogfCum
public import proofs.«01_k».proof.Proof.Gen.LogfCum.Skeleton
public import proofs.«01_k».proof.Proof.Gen.LogfCum.Launch
public import proofs.«01_k».proof.Proof.Gen.LogfCum.Points
public import proofs.«01_k».proof.Proof.Gen.LogfCum.Frame
public import proofs.«01_k».proof.Proof.Gen.LogfCumIdeal
public import proofs.«01_k».proof.Proof.Gen.LogfCumIdeal.Skeleton
public import proofs.«01_k».proof.Proof.Gen.LogfCumIdeal.Launch
public import proofs.«01_k».proof.Proof.Gen.LogfCumIdeal.Points
public import proofs.«01_k».proof.Proof.Gen.LogfCumIdeal.Frame
public import proofs.«01_k».proof.Proof.Gen.LogfCumIdeal.Value
public import proofs.«01_k».proof.Proof.Gen.LogfCumRefIdeal
public import proofs.«01_k».proof.Proof.Gen.LogfCumRefIdeal.Run
public import proofs.«01_k».proof.Proof.Gen.InProjS
public import proofs.«01_k».proof.Proof.Gen.InProjS.Skeleton
public import proofs.«01_k».proof.Proof.Gen.InProjS.Launch
public import proofs.«01_k».proof.Proof.Gen.InProjS.Points
public import proofs.«01_k».proof.Proof.Gen.InProjS.Frame
public import proofs.«01_k».proof.Proof.Gen.InProjSIdeal
public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import proofs.«01_k».proof.Proof.Gen.InProjSRefIdeal
public import proofs.«01_k».proof.Proof.Gen.InProjSRefIdeal.Run
public import proofs.«01_k».proof.Proof.Gen.OutFfnS
public import proofs.«01_k».proof.Proof.Gen.OutFfnS.Skeleton
public import proofs.«01_k».proof.Proof.Gen.OutFfnS.Launch
public import proofs.«01_k».proof.Proof.Gen.OutFfnS.Points
public import proofs.«01_k».proof.Proof.Gen.OutFfnS.Frame
public import proofs.«01_k».proof.Proof.Gen.OutFfnSIdeal
public import proofs.«01_k».proof.Proof.Gen.OutFfnSIdeal.Skeleton
public import proofs.«01_k».proof.Proof.Gen.OutFfnSIdeal.Launch
public import proofs.«01_k».proof.Proof.Gen.OutFfnSIdeal.Points
public import proofs.«01_k».proof.Proof.Gen.OutFfnSIdeal.Frame
public import proofs.«01_k».proof.Proof.Gen.OutFfnSIdeal.Value
public import proofs.«01_k».proof.Proof.Gen.OutFfnSRefIdeal
public import proofs.«01_k».proof.Proof.Gen.OutFfnSRefIdeal.Run
public import proofs.«01_k».proof.Proof.Gen.Pre_tables
public import proofs.«01_k».proof.Proof.Gen.InProjIdeal.Value
public import proofs.«01_k».proof.Proof.Gen.OutFfnIdeal.Value
public import proofs.«01_k».proof.Proof.Gen.InProjRefIdeal.Run
public import proofs.«01_k».proof.Proof.Gen.OutFfnRefIdeal.Run
public import proofs.«01_k».proof.Proof.Gen.AttnRefIdeal.Run
public import proofs.«01_k».proof.Proof.AttnPre
public import proofs.«01_k».proof.Proof.AttnVal
public import proofs.«01_k».proof.Proof.OutFfn
public import proofs.«01_k».proof.Proof.InProj
public import proofs.«01_k».proof.Proof.FoxCum
public import proofs.«01_k».proof.Proof.LogfCum
public import proofs.«01_k».proof.Proof.InProjS
public import proofs.«01_k».proof.Proof.OutFfnS
public import Idealize.ShloMosaic.Adequacy
public import Idealize.ShloMosaic.Init

@[expose] public section

noncomputable section

namespace Cert.Proof

open Idealize.ShloMosaic Idealize.ShloMosaic.Tactic Idealize.SL.Sem

/-- The idealized input projection ends with the reference's array: the normalised rows against the joined weights. -/
theorem inproj : Cert.algebraic_InProjIdeal_InProjRefIdeal (hInProjIdeal := Cert.InProjIdeal.Gen.facts) (hInProjRefIdeal := Cert.InProjRefIdeal.Gen.facts) := by

  intro m g m' g' _ hm
  refine ⟨Cert.InProjRefIdeal.Value.res_main_v20 m', ?_, ?_⟩
  · refine (θ_run _ _ _).mono (fun r h c => ?_) (Cert.InProjIdeal.Value.run_blocks m g)
    refine ⟨(h c).1.trans ?_, (h c).2⟩
    show _ = Cert.InProjRefIdeal.Value.res_main_v20 m' c
    rw [Cert.InProjIdeal.Value.final, Cert.InProjRefIdeal.Value.res_eq]
    obtain ⟨h0, h1, h2⟩ := hm c
    rw [h0, h1, h2]
  · exact (θ_run _ _ _).mono (fun r h c => h c) (Cert.InProjRefIdeal.Value.run m' g')

/-- The idealized output projection and feed-forward block end with the reference's two arrays. -/
theorem outffn : Cert.algebraic_OutFfnIdeal_OutFfnRefIdeal (hOutFfnIdeal := Cert.OutFfnIdeal.Gen.facts) (hOutFfnRefIdeal := Cert.OutFfnRefIdeal.Gen.facts) := by

  intro m g m' g' _ hm
  refine ⟨fun c => Cert.OutFfnRefIdeal.Value.res_main_v20 m' c, fun c => Cert.OutFfnRefIdeal.Value.res_main_v33 m' c, ?_, ?_⟩
  · refine (θ_run _ _ _).mono (fun r h c => ?_) (Cert.OutFfnIdeal.Value.run_blocks m g)
    refine ⟨(h c).1.trans ?_, (h c).2.1.trans ?_, (h c).2.2⟩
    · show _ = Cert.OutFfnRefIdeal.Value.res_main_v20 m' c
      rw [Cert.OutFfnIdeal.Value.final10, Cert.OutFfnRefIdeal.Value.res0_eq]
      obtain ⟨h0, h1, h2, h3, h4, h5, h6, h7, h8, h9⟩ := hm c
      rw [h0, h1, h2, h3, h4, h5, h6, h7, h8]
    · show _ = Cert.OutFfnRefIdeal.Value.res_main_v33 m' c
      rw [Cert.OutFfnIdeal.Value.final11, Cert.OutFfnRefIdeal.Value.res1_eq]
      obtain ⟨h0, h1, h2, h3, h4, h5, h6, h7, h8, h9⟩ := hm c
      rw [h0, h1, h2, h3, h4, h5, h6, h7, h8, h9]
  · exact (θ_run _ _ _).mono (fun r h c => h c) (Cert.OutFfnRefIdeal.Value.run m' g')

/-- The idealized attention ends with the reference's array: every token's heads, normalised. -/
theorem attn : Cert.algebraic_AttnIdeal_AttnRefIdeal (hAttnIdeal := Cert.AttnIdeal.Gen.facts) (hAttnRefIdeal := Cert.AttnRefIdeal.Gen.facts) (hPre_tables := Cert.Pre_tables.Gen.facts) := by

  intro m g m' g' hpre hm
  have hp := Cert.AttnPre.pinnedIdeal m hpre
  refine ⟨fun c => Cert.AttnRefIdeal.Value.res_main_v40 m' c, ?_, ?_⟩
  · refine (θ_run _ _ _).mono (fun r h c => ?_) (θ_run_and (Cert.AttnIdeal.Gen.run_main 0 m g hp) (Cert.AttnIdeal.Gen.unchanged 0 m g hp))
    refine ⟨((h.1 c).1 (4 : Fin 5)).trans ?_, h.2 c⟩
    show _ = Cert.AttnRefIdeal.Value.res_main_v40 m' c
    refine (Cert.AttnVal.final m g c (fun i => Cert.AttnPre.query_real m hpre c i) (fun i => Cert.AttnPre.key_real m hpre c i)).trans ?_
    rw [Cert.AttnRefIdeal.Value.res_eq]
    obtain ⟨h0, h1, h2, h3, h4, h5⟩ := hm c
    rw [h2, h3, h4, h5]
  · exact (θ_run _ _ _).mono (fun r h c => h c) (Cert.AttnRefIdeal.Value.run m' g')

/-- The idealized operand preparation ends with the reference's six arrays, when the gates of the four heads are finite. -/
theorem foxprep : Cert.algebraic_FoxPrepIdeal_FoxPrepRefIdeal_pre_finite (hFoxPrepIdeal := Cert.FoxPrepIdeal.Gen.facts) (hFoxPrepRefIdeal := Cert.FoxPrepRefIdeal.Gen.facts) (hPre_finite := Cert.Pre_finite.Gen.facts) := by

  intro m g m' g' hpre hm
  refine ⟨fun c => Cert.FoxPrepRefIdeal.Value.LF (Cert.FoxPrepIdeal.Value.P m c) (Cert.FoxPrepIdeal.Value.Bi m c),
    fun c => Cert.FoxPrepRefIdeal.Value.QA (Cert.FoxPrepIdeal.Value.P m c) (Cert.FoxPrepIdeal.Value.Bi m c),
    fun c => Cert.FoxPrepRefIdeal.Value.KA (Cert.FoxPrepIdeal.Value.P m c) (Cert.FoxPrepIdeal.Value.Bi m c),
    fun c => Cert.FoxPrepRefIdeal.Value.KT (Cert.FoxPrepIdeal.Value.P m c),
    fun c => Cert.FoxPrepRefIdeal.Value.VT (Cert.FoxPrepIdeal.Value.P m c),
    fun c => truncf (F := Ideal) .bf16 (Cert.FoxPrepRefIdeal.Value.VT (Cert.FoxPrepIdeal.Value.P m c)) Cert.FoxPrepRefIdeal.Gen.bitsLt_bf16_f32, ?_, ?_⟩
  · refine (θ_run _ _ _).mono (fun r h c => ?_) (Cert.FoxPrepIdeal.Value.run_blocks m g)
    obtain ⟨e5, e6, e7, e8, e9, e10, ea⟩ := h c
    exact ⟨e5.trans (Cert.FoxPrepIdeal.Value.arr5 m c), e6.trans (Cert.FoxPrepIdeal.Value.arr6 m hpre c), e7.trans (Cert.FoxPrepIdeal.Value.arr7 m hpre c),
      e8.trans (Cert.FoxPrepIdeal.Value.arr8 m c), e9.trans (Cert.FoxPrepIdeal.Value.arr9 m c), e10.trans (Cert.FoxPrepIdeal.Value.arr10 m c), ea⟩
  · refine (θ_run _ _ _).mono (fun r h c => ?_) (Cert.FoxPrepRefIdeal.Value.run m' g')
    obtain ⟨h0, h1⟩ := hm c
    obtain ⟨e5, e6, e7, e8, e9, e10, ea⟩ := h c
    refine ⟨e5.trans ?_, e6.trans ?_, e7.trans ?_, e8.trans ?_, e9.trans ?_, e10.trans ?_, ea⟩
    · show Cert.FoxPrepRefIdeal.Value.LF _ _ = _
      rw [h0, h1]
    · refine (Cert.FoxPrepRefIdeal.Value.qa_eq m' c).trans ?_
      rw [h0, h1]
    · refine (Cert.FoxPrepRefIdeal.Value.ka_eq m' c).trans ?_
      rw [h0, h1]
    · show Cert.FoxPrepRefIdeal.Value.KT _ = _
      rw [h0]
    · show Cert.FoxPrepRefIdeal.Value.VT _ = _
      rw [h0]
    · show truncf (F := Ideal) .bf16 (Cert.FoxPrepRefIdeal.Value.VT _) _ = _
      rw [h0]

/-- The idealized gates of the samples end with the reference's two arrays: the log-forgets and their running sums. -/
theorem logfcum : Cert.algebraic_LogfCumIdeal_LogfCumRefIdeal (hLogfCumIdeal := Cert.LogfCumIdeal.Gen.facts) (hLogfCumRefIdeal := Cert.LogfCumRefIdeal.Gen.facts) := by

  intro m g m' g' _ hm
  refine ⟨fun c => Cert.LogfCumRefIdeal.Value.LF (Cert.LogfCumIdeal.Value.P m c) (Cert.LogfCumIdeal.Value.Bi m c),
    fun c => Cert.LogfCumRefIdeal.Value.CUM (Cert.LogfCumIdeal.Value.P m c) (Cert.LogfCumIdeal.Value.Bi m c), ?_, ?_⟩
  · refine (θ_run _ _ _).mono (fun r h c => ?_) (Cert.LogfCumIdeal.Value.run_blocks m g)
    exact ⟨(h c).1.trans (Cert.LogfCumIdeal.Value.arr2 m c), (h c).2.1.trans (Cert.LogfCumIdeal.Value.arr3 m c), (h c).2.2⟩
  · refine (θ_run _ _ _).mono (fun r h c => ?_) (Cert.LogfCumRefIdeal.Value.run m' g')
    obtain ⟨h0, h1⟩ := hm c
    refine ⟨(h c).1.trans ?_, (h c).2.1.trans ?_, (h c).2.2⟩
    · show Cert.LogfCumRefIdeal.Value.LF _ _ = _
      rw [h0, h1]
    · show Cert.LogfCumRefIdeal.Value.CUM _ _ = _
      rw [h0, h1]

/-- The idealized input projection of the samples ends with the reference's array and its key and value columns. -/
theorem inprojs : Cert.algebraic_InProjSIdeal_InProjSRefIdeal (hInProjSIdeal := Cert.InProjSIdeal.Gen.facts) (hInProjSRefIdeal := Cert.InProjSRefIdeal.Gen.facts) := by

  intro m g m' g' _ hm
  refine ⟨fun c => Cert.InProjSRefIdeal.Value.res_main_v20 m' c, fun c => Cert.InProjSRefIdeal.Value.res_main_v21 m' c, fun c => Cert.InProjSRefIdeal.Value.res_main_v22 m' c, ?_, ?_⟩
  · refine (θ_run _ _ _).mono (fun r h c => ?_) (Cert.InProjSIdeal.Value.run_ref m g)
    obtain ⟨h0, h1, h2⟩ := hm c
    refine ⟨(h c).1.trans ?_, (h c).2.1.trans ?_, (h c).2.2.1.trans ?_, (h c).2.2.2⟩
    · show _ = Cert.InProjSRefIdeal.Value.res_main_v20 m' c
      rw [Cert.InProjSRefIdeal.Value.res_eq, h0, h1, h2]
    · show _ = Cert.InProjSRefIdeal.Value.res_main_v21 m' c
      rw [Cert.InProjSRefIdeal.Value.resK_eq, h0, h1, h2]
    · show _ = Cert.InProjSRefIdeal.Value.res_main_v22 m' c
      rw [Cert.InProjSRefIdeal.Value.resV_eq, h0, h1, h2]
  · exact (θ_run _ _ _).mono (fun r h c => h c) (Cert.InProjSRefIdeal.Value.run m' g')

/-- The idealized output projection and feed-forward block of the samples end with the reference's two arrays. -/
theorem outffns : Cert.algebraic_OutFfnSIdeal_OutFfnSRefIdeal (hOutFfnSIdeal := Cert.OutFfnSIdeal.Gen.facts) (hOutFfnSRefIdeal := Cert.OutFfnSRefIdeal.Gen.facts) := by

  intro m g m' g' _ hm
  refine ⟨fun c => Cert.OutFfnSRefIdeal.Value.res_main_v20 m' c, fun c => Cert.OutFfnSRefIdeal.Value.res_main_v33 m' c, ?_, ?_⟩
  · refine (θ_run _ _ _).mono (fun r h c => ?_) (Cert.OutFfnSIdeal.Value.run_blocks m g)
    refine ⟨(h c).1.trans ?_, (h c).2.1.trans ?_, (h c).2.2⟩
    · show _ = Cert.OutFfnSRefIdeal.Value.res_main_v20 m' c
      rw [Cert.OutFfnSIdeal.Value.final10, Cert.OutFfnSRefIdeal.Value.res0_eq]
      obtain ⟨h0, h1, h2, h3, h4, h5, h6, h7, h8, h9⟩ := hm c
      rw [h0, h1, h2, h3, h4, h5, h6, h7, h8]
    · show _ = Cert.OutFfnSRefIdeal.Value.res_main_v33 m' c
      rw [Cert.OutFfnSIdeal.Value.final11, Cert.OutFfnSRefIdeal.Value.res1_eq]
      obtain ⟨h0, h1, h2, h3, h4, h5, h6, h7, h8, h9⟩ := hm c
      rw [h0, h1, h2, h3, h4, h5, h6, h7, h8, h9]
  · exact (θ_run _ _ _).mono (fun r h c => h c) (Cert.OutFfnSRefIdeal.Value.run m' g')

/-- The reference of FoxPrep runs and leaves its arguments unchanged; it declares no semaphore. -/
theorem refframe_FoxPrep : Cert.quiescent_FoxPrepRefIdeal (hFoxPrepRefIdeal := Cert.FoxPrepRefIdeal.Gen.facts) (hPre_finite := Cert.Pre_finite.Gen.facts) := fun m ρ _ =>
  (θ_run Cert.FoxPrepRefIdeal.defs _ _).mono (fun r h => ⟨fun c => (h c).2.2.2.2.2.2, sem_eq_zero_of_no_sems (by decide) r.2⟩)
    (Cert.FoxPrepRefIdeal.Value.run (F := Ideal) m ρ)

/-- The reference of Attn runs and leaves its arguments unchanged; it declares no semaphore. -/
theorem refframe_Attn : Cert.quiescent_AttnRefIdeal (hAttnRefIdeal := Cert.AttnRefIdeal.Gen.facts) (hPre_tables := Cert.Pre_tables.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The reference of InProj runs and leaves its arguments unchanged; it declares no semaphore. -/
theorem refframe_InProj : Cert.quiescent_InProjRefIdeal (hInProjRefIdeal := Cert.InProjRefIdeal.Gen.facts) := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference of OutFfn runs and leaves its arguments unchanged; it declares no semaphore. -/
theorem refframe_OutFfn : Cert.quiescent_OutFfnRefIdeal (hOutFfnRefIdeal := Cert.OutFfnRefIdeal.Gen.facts) := fun m ρ _ =>
  (θ_run Cert.OutFfnRefIdeal.defs _ _).mono (fun r h => ⟨fun c => (h c).2.2, sem_eq_zero_of_no_sems (by decide) r.2⟩)
    (Cert.OutFfnRefIdeal.Value.run (F := Ideal) m ρ)

/-- The reference of LogfCum runs and leaves its arguments unchanged; it declares no semaphore. -/
theorem refframe_LogfCum : Cert.quiescent_LogfCumRefIdeal (hLogfCumRefIdeal := Cert.LogfCumRefIdeal.Gen.facts) := fun m ρ _ =>
  (θ_run Cert.LogfCumRefIdeal.defs _ _).mono (fun r h => ⟨fun c => (h c).2.2, sem_eq_zero_of_no_sems (by decide) r.2⟩)
    (Cert.LogfCumRefIdeal.Value.run (F := Ideal) m ρ)

/-- The reference of InProjS runs and leaves its arguments unchanged; it declares no semaphore. -/
theorem refframe_InProjS : Cert.quiescent_InProjSRefIdeal (hInProjSRefIdeal := Cert.InProjSRefIdeal.Gen.facts) := fun m ρ _ =>
  (θ_run Cert.InProjSRefIdeal.defs _ _).mono (fun r h => ⟨fun c => (h c).2.2.2, sem_eq_zero_of_no_sems (by decide) r.2⟩)
    (Cert.InProjSRefIdeal.Value.run (F := Ideal) m ρ)

/-- The reference of OutFfnS runs and leaves its arguments unchanged; it declares no semaphore. -/
theorem refframe_OutFfnS : Cert.quiescent_OutFfnSRefIdeal (hOutFfnSRefIdeal := Cert.OutFfnSRefIdeal.Gen.facts) := fun m ρ _ =>
  (θ_run Cert.OutFfnSRefIdeal.defs _ _).mono (fun r h => ⟨fun c => (h c).2.2, sem_eq_zero_of_no_sems (by decide) r.2⟩)
    (Cert.OutFfnSRefIdeal.Value.run (F := Ideal) m ρ)

theorem claim : Cert.Claim := ⟨Cert.Attn.Gen.facts, Cert.AttnIdeal.Gen.facts, Cert.AttnRefIdeal.Gen.facts, Cert.InProj.Gen.facts, Cert.InProjIdeal.Gen.facts, Cert.InProjRefIdeal.Gen.facts, Cert.FoxPrep.Gen.facts, Cert.FoxPrepIdeal.Gen.facts, Cert.FoxPrepRefIdeal.Gen.facts, Cert.OutFfn.Gen.facts, Cert.OutFfnIdeal.Gen.facts, Cert.OutFfnRefIdeal.Gen.facts, Cert.LogfCum.Gen.facts, Cert.LogfCumIdeal.Gen.facts, Cert.LogfCumRefIdeal.Gen.facts, Cert.InProjS.Gen.facts, Cert.InProjSIdeal.Gen.facts, Cert.InProjSRefIdeal.Gen.facts, Cert.OutFfnS.Gen.facts, Cert.OutFfnSIdeal.Gen.facts, Cert.OutFfnSRefIdeal.Gen.facts, Cert.Pre_tables.Gen.facts, Cert.Pre_finite.Gen.facts,
  fun m ρ h => Cert.Attn.Gen.frame 0 m ρ (Cert.AttnPre.pinned m h),
  fun m ρ h => Cert.AttnIdeal.Gen.frame 0 m ρ (Cert.AttnPre.pinnedIdeal m h),
  refframe_Attn,
  fun m ρ _ => Cert.InProj.Gen.frame m ρ, fun m ρ _ => Cert.InProjIdeal.Gen.frame m ρ, refframe_InProj,
  fun m ρ _ => Cert.FoxPrep.Gen.frame m ρ, fun m ρ _ => Cert.FoxPrepIdeal.Gen.frame m ρ, fun m ρ _ => Cert.FoxPrepIdeal.Gen.frame m ρ, refframe_FoxPrep,
  fun m ρ _ => Cert.OutFfn.Gen.frame m ρ, fun m ρ _ => Cert.OutFfnIdeal.Gen.frame m ρ, refframe_OutFfn,
  fun m ρ _ => Cert.LogfCum.Gen.frame m ρ, fun m ρ _ => Cert.LogfCumIdeal.Gen.frame m ρ, refframe_LogfCum,
  fun m ρ _ => Cert.InProjS.Gen.frame m ρ, fun m ρ _ => Cert.InProjSIdeal.Gen.frame m ρ, refframe_InProjS,
  fun m ρ _ => Cert.OutFfnS.Gen.frame m ρ, fun m ρ _ => Cert.OutFfnSIdeal.Gen.frame m ρ, refframe_OutFfnS,
  IdealRules.named_const.statement Cert.AttnIdeal.κ "neg" .f32 0xF149F2CA#32 ⊥ rfl, attn, trivial, inproj, trivial, foxprep, trivial, outffn, trivial, logfcum, trivial, inprojs, trivial, outffns⟩

end Cert.Proof

end
